-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v49) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v105) = v0 c
          ∧ r.2.mem ((c.tc : Thread Cert.Reference4Ideal.nD Cert.Reference4Ideal.τ).loc Cert.Reference4Ideal.main_v108) = v1 c
          ∧ r.2.mem ((c.tc : Thread Cert.Reference4Ideal.nD Cert.Reference4Ideal.τ).loc Cert.Reference4Ideal.main_v110) = v2 c
          ∧ r.2.mem ((c.tc : Thread Cert.Reference4Ideal.nD Cert.Reference4Ideal.τ).loc Cert.Reference4Ideal.main_v113) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)) (v2 : (c : Dev Cert.Kernel6Ideal.nD) → Buf (Elt Ideal) ((c.tc : Thread Cert.Kernel6Ideal.nD Cert.Kernel6Ideal.τ).loc Cert.Kernel6Ideal.main_v17_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_v17_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
-- ==== Pre_finite.lean ====
abbrev S16x8x2048x256 : Shape := ⟨4, ![16, 8, 2048, 256]⟩
abbrev S16x8x2048x128 : Shape := ⟨4, ![16, 8, 2048, 128]⟩
abbrev S16x2048x128 : Shape := ⟨3, ![16, 2048, 128]⟩
abbrev S_ : Shape := ⟨0, ![]⟩

class Facts : Prop where
  bcast_S_S16x8x2048x256 : S_.BroadcastsInDim S16x8x2048x256 (![] : Fin 0 → Fin S16x8x2048x256.rank)
  bcast_S_S16x8x2048x128 : S_.BroadcastsInDim S16x8x2048x128 (![] : Fin 0 → Fin S16x8x2048x128.rank)
  bcast_S_S16x2048x128 : S_.BroadcastsInDim S16x2048x128 (![] : Fin 0 → Fin S16x2048x128.rank)

variable [Facts]

def fn {F : FTy → Type} [FloatOps F] (main_arg0 : FVec F S16x8x2048x256 .bf16) (main_arg1 : FVec F S16x8x2048x128 .bf16) (main_arg2 : FVec F S16x2048x128 .bf16) (main_arg3 : FVec F S16x8x2048x128 .bf16) : IVec S16x8x2048x256 1 × IVec S16x8x2048x128 1 × IVec S16x2048x128 1 :=
  let main_v0 : FVec F S16x8x2048x256 .bf16 := Host.absf main_arg0
  let main_cst : FVec F S_ .bf16 := constant S_ .bf16 0x7F80#16
  let main_v1 : FVec F S16x8x2048x256 .bf16 := broadcastInDim S16x8x2048x256 ![] bcast_S_S16x8x2048x256 main_cst
  let main_v2 : IVec S16x8x2048x256 1 := cmpf .olt main_v0 main_v1
  let main_v3 : FVec F S16x8x2048x128 .bf16 := Host.absf main_arg1
  let main_cst_0 : FVec F S_ .bf16 := constant S_ .bf16 0x7F80#16
  let main_v4 : FVec F S16x8x2048x128 .bf16 := broadcastInDim S16x8x2048x128 ![] bcast_S_S16x8x2048x128 main_cst_0
  let main_v5 : IVec S16x8x2048x128 1 := cmpf .olt main_v3 main_v4
  let main_v6 : FVec F S16x2048x128 .bf16 := Host.absf main_arg2
  let main_cst_1 : FVec F S_ .bf16 := constant S_ .bf16 0x7F80#16
  let main_v7 : FVec F S16x2048x128 .bf16 := broadcastInDim S16x2048x128 ![] bcast_S_S16x2048x128 main_cst_1
  let main_v8 : IVec S16x2048x128 1 := cmpf .olt main_v6 main_v7
  (main_v2, main_v5, main_v8)
-- ==== Kernel.lean ====
abbrev S16x8x2048x256 : Shape := ⟨4, ![16, 8, 2048, 256]⟩
abbrev S16x8x2048x128 : Shape := ⟨4, ![16, 8, 2048, 128]⟩
abbrev S16x2048x128 : Shape := ⟨3, ![16, 2048, 128]⟩
abbrev S16x2048x1024 : Shape := ⟨3, ![16, 2048, 1024]⟩
abbrev S1x4x2048x256 : Shape := ⟨4, ![1, 4, 2048, 256]⟩
abbrev S1x4x2048x128 : Shape := ⟨4, ![1, 4, 2048, 128]⟩
abbrev S1x2048x128 : Shape := ⟨3, ![1, 2048, 128]⟩
abbrev S1x2048x512 : Shape := ⟨3, ![1, 2048, 512]⟩
abbrev S1x1x256x256 : Shape := ⟨4, ![1, 1, 256, 256]⟩
abbrev S256x256 : Shape := ⟨2, ![256, 256]⟩
abbrev S256x1 : Shape := ⟨2, ![256, 1]⟩
abbrev S256x128 : Shape := ⟨2, ![256, 128]⟩
abbrev S1x1x256x128 : Shape := ⟨4, ![1, 1, 256, 128]⟩
abbrev S1x256x128 : Shape := ⟨3, ![1, 256, 128]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S16x8x2048x256, .bf16⟩
  | .hbm, ⟨1, _⟩ => ⟨S16x8x2048x128, .bf16⟩
  | .hbm, ⟨2, _⟩ => ⟨S16x2048x128, .bf16⟩
  | .hbm, ⟨3, _⟩ => ⟨S16x8x2048x128, .bf16⟩
  | .hbm, ⟨4, _⟩ => ⟨S16x2048x1024, .bf16⟩
  | .local _ .vmem, ⟨0, _⟩ => ⟨S1x4x2048x256, .bf16⟩
  | .local _ .vmem, ⟨1, _⟩ => ⟨S1x4x2048x256, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x4x2048x128, .bf16⟩
  | .local _ .vmem, ⟨7, _⟩ => ⟨S1x4x2048x128, .bf16⟩
  | .local _ .vmem, ⟨8, _⟩ => ⟨S1x2048x512, .bf16⟩
  | .local _ .vmem, ⟨9, _⟩ => ⟨S1x2048x512, .bf16⟩
  | _, _ => ⟨S16x8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x8x2048x256 : Shape := ⟨4, ![16, 8, 2048, 256]⟩
abbrev S16x8x2048x128 : Shape := ⟨4, ![16, 8, 2048, 128]⟩
abbrev S16x2048x128 : Shape := ⟨3, ![16, 2048, 128]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S16x2048x8x128 : Shape := ⟨4, ![16, 2048, 8, 128]⟩
abbrev S16x2048x1024 : Shape := ⟨3, ![16, 2048, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16x8x2048x256, .bf16⟩
  | .hbm, ⟨1, _⟩ => ⟨S16x8x2048x128, .bf16⟩
  | .hbm, ⟨2, _⟩ => ⟨S16x2048x128, .bf16⟩
  | .hbm, ⟨3, _⟩ => ⟨S16x8x2048x128, .bf16⟩
  | .hbm, ⟨4, _⟩ => ⟨S16x8x2048x256, .f32⟩
  | .hbm, ⟨5, _⟩ => ⟨S16x8x2048x128, .f32⟩
  | .hbm, ⟨6, _⟩ => ⟨S16x2048x128, .f32⟩
  | .hbm, ⟨7, _⟩ => ⟨S16x8x2048x128, .f32⟩
  | .hbm, ⟨8, _⟩ => ⟨S16x8x2048x128, .f32⟩
  | .hbm, ⟨9, _⟩ => ⟨S16x8x2048x2048, .f32⟩
  | .hbm, ⟨10, _⟩ => ⟨S16x8x2048x128, .f32⟩
  | .hbm, ⟨11, _⟩ => ⟨S16x8x2048x2048, .f32⟩
  | .hbm, ⟨12, _⟩ => ⟨S16x8x2048x2048, .f32⟩
  | .hbm, ⟨13, _⟩ => ⟨S_, .f32⟩
  | .hbm, ⟨14, _⟩ => ⟨S_, .f32⟩
  | .hbm, ⟨15, _⟩ => ⟨S16x8x2048x2048, .f32⟩
  | .hbm, ⟨16, _⟩ => ⟨S16x8x2048x2048, .f32⟩
  | .hbm, ⟨17, _⟩ => ⟨S2048, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S1x2048, .i32⟩
  | .hbm, ⟨37, _⟩ => ⟨S2048x1, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S_, .f32⟩
  | .hbm, ⟨43, _⟩ => ⟨S16x8x2048x2048, .i1⟩
  | .hbm, ⟨44, _⟩ => ⟨S16x8x2048x2048, .f32⟩
  | .hbm, ⟨45, _⟩ => ⟨S16x8x2048x2048, .f32⟩
  | .hbm, ⟨46, _⟩ => ⟨S_, .f32⟩
  | .hbm, ⟨47, _⟩ => ⟨S16x8x2048, .f32⟩
  | .hbm, ⟨48, _⟩ => ⟨S_, .f32⟩
  | .hbm, ⟨49, _⟩ => ⟨S16x8x2048, .f32⟩
  | .hbm, ⟨50, _⟩ => ⟨S16x8x2048, .f32⟩
  | .hbm, ⟨51, _⟩ => ⟨S16x8x2048x1, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S_, .f32⟩
  | .hbm, ⟨56, _⟩ => ⟨S16x8x2048, .f32⟩
  | .hbm, ⟨57, _⟩ => ⟨S16x8x2048x1, .f32⟩
  | .hbm, ⟨58, _⟩ => ⟨S16x8x2048x2048, .f32⟩
  | .hbm, ⟨59, _⟩ => ⟨S16x8x2048x2048, .f32⟩
  | .hbm, ⟨60, _⟩ => ⟨S16x8x128x2048, .f32⟩
  | .hbm, ⟨61, _⟩ => ⟨S16x2048x8x128, .f32⟩
  | .hbm, ⟨62, _⟩ => ⟨S16x2048x1024, .f32⟩
  | .hbm, ⟨63, _⟩ => ⟨S16x2048x1024, .bf16⟩
  | _, _ => ⟨S16x8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩

abbrev nD : Nat := 1
abbrev τ : Topo := Topo.v7x

variable {F : FTy → Type} [FloatOps F]
-- ==== Kernel2.lean ====
abbrev S16x2048x1024 : Shape := ⟨3, ![16, 2048, 1024]⟩
abbrev S4x16x6144 : Shape := ⟨3, ![4, 16, 6144]⟩
abbrev S2x1024x1024 : Shape := ⟨3, ![2, 1024, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S4x16x6x1x1024 : Shape := ⟨5, ![4, 16, 6, 1, 1024]⟩
abbrev S4x1x2816 : Shape := ⟨3, ![4, 1, 2816]⟩
abbrev S1x1024 : Shape := ⟨2, ![1, 1024]⟩
abbrev S1x512x1024 : Shape := ⟨3, ![1, 512, 1024]⟩
abbrev S1x1024x1024 : Shape := ⟨3, ![1, 1024, 1024]⟩
abbrev S1x1x1x1x1024 : Shape := ⟨5, ![1, 1, 1, 1, 1024]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S512x2816 : Shape := ⟨2, ![512, 2816]⟩
abbrev S8x2816 : Shape := ⟨2, ![8, 2816]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩
abbrev S8x256 : Shape := ⟨2, ![8, 256]⟩
abbrev S1x2816x256 : Shape := ⟨3, ![1, 2816, 256]⟩
abbrev S2816x256 : Shape := ⟨2, ![2816, 256]⟩

abbrev nBuf : Space → Nat
  | .hbm => 16
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S4x16x6144, .f32⟩
  | .hbm, ⟨3, _⟩ => ⟨S2x1024x1024, .f32⟩
  | .hbm, ⟨4, _⟩ => ⟨S4x1024x5632, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1024, .f32⟩
  | .hbm, ⟨9, _⟩ => ⟨S4x16x6x1x1024, .f32⟩
  | .hbm, ⟨10, _⟩ => ⟨S4x1024x5632, .bf16⟩
  | .hbm, ⟨11, _⟩ => ⟨S4x1x2816, .f32⟩
  | .hbm, ⟨12, _⟩ => ⟨S4x2816x1024, .bf16⟩
  | .hbm, ⟨13, _⟩ => ⟨S2x1024x1024, .bf16⟩
  | .hbm, ⟨14, _⟩ => ⟨S1x1024, .f32⟩
  | .hbm, ⟨15, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .bf16⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1024x5632, .bf16⟩
  | .local _ .vmem, ⟨14, _⟩ => ⟨S1x3x2816, .f32⟩
  | .local _ .vmem, ⟨15, _⟩ => ⟨S1x1x2816, .f32⟩
  | .local _ .vmem, ⟨16, _⟩ => ⟨S1x2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S520x2816, .f32⟩
  | .local _ .vmem, ⟨21, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, arg0.toNat, c2_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, arg0.toNat, c4_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, arg0.toNat, c3_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, arg0.toNat, c5_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x1024 : Shape := ⟨3, ![16, 2048, 1024]⟩
abbrev S4x16x6144 : Shape := ⟨3, ![4, 16, 6144]⟩
abbrev S2x1024x1024 : Shape := ⟨3, ![2, 1024, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S1x16x6144 : Shape := ⟨3, ![1, 16, 6144]⟩
abbrev S16x6144 : Shape := ⟨2, ![16, 6144]⟩
abbrev S16x1024 : Shape := ⟨2, ![16, 1024]⟩
abbrev S16x1x1024 : Shape := ⟨3, ![16, 1, 1024]⟩
abbrev S1x1024x1024 : Shape := ⟨3, ![1, 1024, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x1x2816 : Shape := ⟨3, ![1, 1, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S4x16x6144, .f32⟩
  | .hbm, ⟨3, _⟩ => ⟨S2x1024x1024, .f32⟩
  | .hbm, ⟨4, _⟩ => ⟨S4x1024x5632, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1024, .f32⟩
  | .hbm, ⟨9, _⟩ => ⟨S1x16x6144, .f32⟩
  | .hbm, ⟨10, _⟩ => ⟨S16x6144, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x1x1024, .f32⟩
  | .hbm, ⟨23, _⟩ => ⟨S16x2048x1024, .f32⟩
  | .hbm, ⟨24, _⟩ => ⟨S1x1024x1024, .f32⟩
  | .hbm, ⟨25, _⟩ => ⟨S1024x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S_, .f32⟩
  | .hbm, ⟨44, _⟩ => ⟨S16x1x1024, .f32⟩
  | .hbm, ⟨45, _⟩ => ⟨S16x1x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S1x1024x5632, .f32⟩
  | .hbm, ⟨51, _⟩ => ⟨S1024x5632, .f32⟩
  | .hbm, ⟨52, _⟩ => ⟨S1x3x2816, .f32⟩
  | .hbm, ⟨53, _⟩ => ⟨S3x2816, .f32⟩
  | .hbm, ⟨54, _⟩ => ⟨S1x2816, .f32⟩
  | .hbm, ⟨55, _⟩ => ⟨S2816, .f32⟩
  | .hbm, ⟨56, _⟩ => ⟨S1x2816x1024, .f32⟩
  | .hbm, ⟨57, _⟩ => ⟨S2816x1024, .f32⟩
  | .hbm, ⟨58, _⟩ => ⟨S16x2048x5632, .f32⟩
  | .hbm, ⟨59, _⟩ => ⟨S16x2048x2816, .f32⟩
  | .hbm, ⟨60, _⟩ => ⟨S16x2048x2816, .f32⟩
  | .hbm, ⟨61, _⟩ => ⟨S_, .i32⟩
  | .hbm, ⟨62, _⟩ => ⟨S_, .f32⟩
  | .hbm, ⟨63, _⟩ => ⟨S16x2050x2816, .f32⟩
  | .hbm, ⟨64, _⟩ => ⟨S16x2048x2816, .f32⟩
  | .hbm, ⟨65, _⟩ => ⟨S1x2816, .f32⟩
  | .hbm, ⟨66, _⟩ => ⟨S2816, .f32⟩
  | .hbm, ⟨67, _⟩ => ⟨S1x1x2816, .f32⟩
  | .hbm, ⟨68, _⟩ => ⟨S16x2048x2816, .f32⟩
  | .hbm, ⟨69, _⟩ => ⟨S16x2048x2816, .f32⟩
  | .hbm, ⟨70, _⟩ => ⟨S_, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S1x2816, .f32⟩
  | .hbm, ⟨75, _⟩ => ⟨S2816, .f32⟩
  | .hbm, ⟨76, _⟩ => ⟨S1x1x2816, .f32⟩
  | .hbm, ⟨77, _⟩ => ⟨S16x2048x2816, .f32⟩
  | .hbm, ⟨78, _⟩ => ⟨S16x2048x2816, .f32⟩
  | .hbm, ⟨79, _⟩ => ⟨S16x2048x2816, .f32⟩
  | .hbm, ⟨80, _⟩ => ⟨S16x2048x2816, .f32⟩
  | .hbm, ⟨81, _⟩ => ⟨S1x2816, .f32⟩
  | .hbm, ⟨82, _⟩ => ⟨S2816, .f32⟩
  | .hbm, ⟨83, _⟩ => ⟨S1x1x2816, .f32⟩
  | .hbm, ⟨84, _⟩ => ⟨S16x2048x2816, .f32⟩
  | .hbm, ⟨85, _⟩ => ⟨S16x2048x2816, .f32⟩
  | .hbm, ⟨86, _⟩ => ⟨S16x2048x2816, .f32⟩
  | .hbm, ⟨87, _⟩ => ⟨S1x1x2816, .f32⟩
  | .hbm, ⟨88, _⟩ => ⟨S16x2048x2816, .f32⟩
  | .hbm, ⟨89, _⟩ => ⟨S16x2048x2816, .f32⟩
  | .hbm, ⟨90, _⟩ => ⟨S_, .f32⟩
  | .hbm, ⟨91, _⟩ => ⟨S16x2048x2816, .f32⟩
  | .hbm, ⟨92, _⟩ => ⟨S16x2048x2816, .f32⟩
  | .hbm, ⟨93, _⟩ => ⟨S16x2048x2816, .f32⟩
  | .hbm, ⟨94, _⟩ => ⟨S_, .f32⟩
  | .hbm, ⟨95, _⟩ => ⟨S16x2048x2816, .f32⟩
  | .hbm, ⟨96, _⟩ => ⟨S16x2048x2816, .f32⟩
  | .hbm, ⟨97, _⟩ => ⟨S16x2048x2816, .f32⟩
  | .hbm, ⟨98, _⟩ => ⟨S16x2048x2816, .f32⟩
  | .hbm, ⟨99, _⟩ => ⟨S16x2048x2816, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | .hbm, ⟨103, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_call0_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_3 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_4 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_5 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩

abbrev nD : Nat := 1
abbrev τ : Topo := Topo.v7x

variable {F : FTy → Type} [FloatOps F]
-- ==== Kernel3.lean ====
abbrev S16x2048x1024 : Shape := ⟨3, ![16, 2048, 1024]⟩
abbrev S4x16x6144 : Shape := ⟨3, ![4, 16, 6144]⟩
abbrev S2x1024x3080 : Shape := ⟨3, ![2, 1024, 3080]⟩
abbrev S2x8 : Shape := ⟨2, ![2, 8]⟩
abbrev S4x16x6x1x1024 : Shape := ⟨5, ![4, 16, 6, 1, 1024]⟩
abbrev S2x1024x8 : Shape := ⟨3, ![2, 1024, 8]⟩
abbrev S2x8x1024 : Shape := ⟨3, ![2, 8, 1024]⟩
abbrev S2x8x1 : Shape := ⟨3, ![2, 8, 1]⟩
abbrev S16x2048x512 : Shape := ⟨3, ![16, 2048, 512]⟩
abbrev S16x8x2048 : Shape := ⟨3, ![16, 8, 2048]⟩
abbrev S1x1024x1024 : Shape := ⟨3, ![1, 1024, 1024]⟩
abbrev S1x1x1x1x1024 : Shape := ⟨5, ![1, 1, 1, 1, 1024]⟩
abbrev S1x1024x3080 : Shape := ⟨3, ![1, 1024, 3080]⟩
abbrev S1x8x1024 : Shape := ⟨3, ![1, 8, 1024]⟩
abbrev S1x8x1 : Shape := ⟨3, ![1, 8, 1]⟩
abbrev S1x1024x512 : Shape := ⟨3, ![1, 1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x1024x3072 : Shape := ⟨3, ![1, 1024, 3072]⟩
abbrev S1024x3072 : Shape := ⟨2, ![1024, 3072]⟩
abbrev S1024x512 : Shape := ⟨2, ![1024, 512]⟩
abbrev S8x1024 : Shape := ⟨2, ![8, 1024]⟩
abbrev S8x1 : Shape := ⟨2, ![8, 1]⟩

abbrev nBuf : Space → Nat
  | .hbm => 15
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S4x16x6144, .f32⟩
  | .hbm, ⟨2, _⟩ => ⟨S2x1024x3080, .f32⟩
  | .hbm, ⟨3, _⟩ => ⟨S2x8, .f32⟩
  | .hbm, ⟨4, _⟩ => ⟨S4x16x6x1x1024, .f32⟩
  | .hbm, ⟨5, _⟩ => ⟨S2x1024x8, .f32⟩
  | .hbm, ⟨6, _⟩ => ⟨S2x8x1024, .f32⟩
  | .hbm, ⟨7, _⟩ => ⟨S2x8x1024, .bf16⟩
  | .hbm, ⟨8, _⟩ => ⟨S2x1024x3080, .bf16⟩
  | .hbm, ⟨9, _⟩ => ⟨S2x8x1, .f32⟩
  | .hbm, ⟨10, _⟩ => ⟨S16x2048x512, .bf16⟩
  | .hbm, ⟨11, _⟩ => ⟨S16x2048x512, .bf16⟩
  | .hbm, ⟨12, _⟩ => ⟨S16x2048x1024, .bf16⟩
  | .hbm, ⟨13, _⟩ => ⟨S16x2048x1024, .bf16⟩
  | .hbm, ⟨14, _⟩ => ⟨S16x8x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x3080, .bf16⟩
  | .local _ .vmem, ⟨7, _⟩ => ⟨S1x8x1024, .bf16⟩
  | .local _ .vmem, ⟨8, _⟩ => ⟨S1x8x1, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x8x1024, .f32⟩
  | .local _ .vmem, ⟨18, _⟩ => ⟨S1x8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, arg0.toNat, c1_i32_0.toNat, c0_i32.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x3080 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x1024 : Shape := ⟨3, ![16, 2048, 1024]⟩
abbrev S4x16x6144 : Shape := ⟨3, ![4, 16, 6144]⟩
abbrev S2x1024x3080 : Shape := ⟨3, ![2, 1024, 3080]⟩
abbrev S2x8 : Shape := ⟨2, ![2, 8]⟩
abbrev S1x16x6144 : Shape := ⟨3, ![1, 16, 6144]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1024x3080 : Shape := ⟨3, ![1, 1024, 3080]⟩
abbrev S1024x3080 : Shape := ⟨2, ![1024, 3080]⟩
abbrev S16x2048x3080 : Shape := ⟨3, ![16, 2048, 3080]⟩
abbrev S16x2048x512 : Shape := ⟨3, ![16, 2048, 512]⟩
abbrev S16x2048x8 : Shape := ⟨3, ![16, 2048, 8]⟩
abbrev S1x8 : Shape := ⟨2, ![1, 8]⟩
abbrev S8 : Shape := ⟨1, ![8]⟩
abbrev S1x1x8 : Shape := ⟨3, ![1, 1, 8]⟩
abbrev S16x2048x4 : Shape := ⟨3, ![16, 2048, 4]⟩
abbrev S16x8x2048 : Shape := ⟨3, ![16, 8, 2048]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x16x6144, .f32⟩
  | .hbm, ⟨2, _⟩ => ⟨S2x1024x3080, .f32⟩
  | .hbm, ⟨3, _⟩ => ⟨S2x8, .f32⟩
  | .hbm, ⟨4, _⟩ => ⟨S1x16x6144, .f32⟩
  | .hbm, ⟨5, _⟩ => ⟨S16x6144, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S1x1024x3080, .f32⟩
  | .hbm, ⟨39, _⟩ => ⟨S1024x3080, .f32⟩
  | .hbm, ⟨40, _⟩ => ⟨S16x2048x3080, .f32⟩
  | .hbm, ⟨41, _⟩ => ⟨S16x2048x512, .f32⟩
  | .hbm, ⟨42, _⟩ => ⟨S16x2048x512, .f32⟩
  | .hbm, ⟨43, _⟩ => ⟨S16x2048x1024, .f32⟩
  | .hbm, ⟨44, _⟩ => ⟨S16x2048x1024, .f32⟩
  | .hbm, ⟨45, _⟩ => ⟨S16x2048x8, .f32⟩
  | .hbm, ⟨46, _⟩ => ⟨S1x8, .f32⟩
  | .hbm, ⟨47, _⟩ => ⟨S8, .f32⟩
  | .hbm, ⟨48, _⟩ => ⟨S1x1x8, .f32⟩
  | .hbm, ⟨49, _⟩ => ⟨S16x2048x8, .f32⟩
  | .hbm, ⟨50, _⟩ => ⟨S16x2048x8, .f32⟩
  | .hbm, ⟨51, _⟩ => ⟨S16x2048x4, .f32⟩
  | .hbm, ⟨52, _⟩ => ⟨S16x2048x4, .f32⟩
  | .hbm, ⟨53, _⟩ => ⟨S16x2048x4, .f32⟩
  | .hbm, ⟨54, _⟩ => ⟨S_, .f32⟩
  | .hbm, ⟨55, _⟩ => ⟨S16x2048x4, .f32⟩
  | .hbm, ⟨56, _⟩ => ⟨S16x2048x4, .f32⟩
  | .hbm, ⟨57, _⟩ => ⟨S16x2048x4, .f32⟩
  | .hbm, ⟨58, _⟩ => ⟨S16x2048x4, .f32⟩
  | .hbm, ⟨59, _⟩ => ⟨S16x2048x4, .i1⟩
  | .hbm, ⟨60, _⟩ => ⟨S16x2048x4, .f32⟩
  | .hbm, ⟨61, _⟩ => ⟨S16x2048x4, .f32⟩
  | .hbm, ⟨62, _⟩ => ⟨S16x2048x4, .f32⟩
  | .hbm, ⟨63, _⟩ => ⟨S16x2048x4, .f32⟩
  | .hbm, ⟨64, _⟩ => ⟨S16x2048x4, .f32⟩
  | .hbm, ⟨65, _⟩ => ⟨S16x2048x4, .f32⟩
  | .hbm, ⟨66, _⟩ => ⟨S16x2048x4, .f32⟩
  | .hbm, ⟨67, _⟩ => ⟨S16x2048x4, .f32⟩
  | .hbm, ⟨68, _⟩ => ⟨S16x2048x4, .f32⟩
  | .hbm, ⟨69, _⟩ => ⟨S_, .f32⟩
  | .hbm, ⟨70, _⟩ => ⟨S16x2048x512, .f32⟩
  | .hbm, ⟨71, _⟩ => ⟨S16x2048x512, .f32⟩
  | .hbm, ⟨72, _⟩ => ⟨S16x2048x8, .f32⟩
  | .hbm, ⟨73, _⟩ => ⟨S16x8x2048, .f32⟩
  | .hbm, ⟨74, _⟩ => ⟨S16x2048x512, .bf16⟩
  | .hbm, ⟨75, _⟩ => ⟨S16x2048x512, .bf16⟩
  | .hbm, ⟨76, _⟩ => ⟨S16x2048x1024, .bf16⟩
  | .hbm, ⟨77, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Kernel4.lean ====
abbrev S16x2048x1024 : Shape := ⟨3, ![16, 2048, 1024]⟩
abbrev S4x16x6144 : Shape := ⟨3, ![4, 16, 6144]⟩
abbrev S2x1024x832 : Shape := ⟨3, ![2, 1024, 832]⟩
abbrev S2x512 : Shape := ⟨2, ![2, 512]⟩
abbrev S2x512x1536 : Shape := ⟨3, ![2, 512, 1536]⟩
abbrev S2x256 : Shape := ⟨2, ![2, 256]⟩
abbrev S2x256x2048 : Shape := ⟨3, ![2, 256, 2048]⟩
abbrev S16x2048x32 : Shape := ⟨3, ![16, 2048, 32]⟩
abbrev S16x2048x128 : Shape := ⟨3, ![16, 2048, 128]⟩
abbrev S4x16x6x1x1024 : Shape := ⟨5, ![4, 16, 6, 1, 1024]⟩
abbrev S_ : Shape := ⟨0, ![]⟩
abbrev S2x1024x896 : Shape := ⟨3, ![2, 1024, 896]⟩
abbrev S2x512x8x192 : Shape := ⟨4, ![2, 512, 8, 192]⟩
abbrev S2x512x8x128 : Shape := ⟨4, ![2, 512, 8, 128]⟩
abbrev S2x512x1024 : Shape := ⟨3, ![2, 512, 1024]⟩
abbrev S2x512x8x64 : Shape := ⟨4, ![2, 512, 8, 64]⟩
abbrev S2x512x512 : Shape := ⟨3, ![2, 512, 512]⟩
abbrev S2x1x512 : Shape := ⟨3, ![2, 1, 512]⟩
abbrev S2x1x256 : Shape := ⟨3, ![2, 1, 256]⟩
abbrev S1x1024x896 : Shape := ⟨3, ![1, 1024, 896]⟩
abbrev S1024x896 : Shape := ⟨2, ![1024, 896]⟩
abbrev S1x512x1536 : Shape := ⟨3, ![1, 512, 1536]⟩
abbrev S512x1536 : Shape := ⟨2, ![512, 1536]⟩
abbrev S16x8x2048x256 : Shape := ⟨4, ![16, 8, 2048, 256]⟩
abbrev S16x8x2048x128 : Shape := ⟨4, ![16, 8, 2048, 128]⟩
abbrev S1x1024x1024 : Shape := ⟨3, ![1, 1024, 1024]⟩
abbrev S1x1x1x1x1024 : Shape := ⟨5, ![1, 1, 1, 1, 1024]⟩
abbrev S1x1x512 : Shape := ⟨3, ![1, 1, 512]⟩
abbrev S1x1x256 : Shape := ⟨3, ![1, 1, 256]⟩
abbrev S1x256x2048 : Shape := ⟨3, ![1, 256, 2048]⟩
abbrev S1x1024x128 : Shape := ⟨3, ![1, 1024, 128]⟩
abbrev S1x8x1024x256 : Shape := ⟨4, ![1, 8, 1024, 256]⟩
abbrev S1x8x1024x128 : Shape := ⟨4, ![1, 8, 1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1024x512 : Shape := ⟨2, ![1024, 512]⟩
abbrev S1024x256 : Shape := ⟨2, ![1024, 256]⟩
abbrev S1024x128 : Shape := ⟨2, ![1024, 128]⟩
abbrev S1x512 : Shape := ⟨2, ![1, 512]⟩
abbrev S1024x1536 : Shape := ⟨2, ![1024, 1536]⟩
abbrev S1x256 : Shape := ⟨2, ![1, 256]⟩
abbrev S256x2048 : Shape := ⟨2, ![256, 2048]⟩
abbrev S1024x2048 : Shape := ⟨2, ![1024, 2048]⟩
abbrev S1x1x1024x128 : Shape := ⟨4, ![1, 1, 1024, 128]⟩

abbrev nBuf : Space → Nat
  | .hbm => 34
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S4x16x6144, .f32⟩
  | .hbm, ⟨2, _⟩ => ⟨S2x1024x832, .f32⟩
  | .hbm, ⟨3, _⟩ => ⟨S2x512, .f32⟩
  | .hbm, ⟨4, _⟩ => ⟨S2x512x1536, .f32⟩
  | .hbm, ⟨5, _⟩ => ⟨S2x256, .f32⟩
  | .hbm, ⟨6, _⟩ => ⟨S2x256x2048, .f32⟩
  | .hbm, ⟨7, _⟩ => ⟨S16x2048x32, .f32⟩
  | .hbm, ⟨8, _⟩ => ⟨S16x2048x32, .f32⟩
  | .hbm, ⟨9, _⟩ => ⟨S16x2048x128, .f32⟩
  | .hbm, ⟨10, _⟩ => ⟨S16x2048x128, .f32⟩
  | .hbm, ⟨11, _⟩ => ⟨S4x16x6x1x1024, .f32⟩
  | .hbm, ⟨12, _⟩ => ⟨S_, .i32⟩
  | .hbm, ⟨13, _⟩ => ⟨S_, .f32⟩
  | .hbm, ⟨14, _⟩ => ⟨S2x1024x896, .f32⟩
  | .hbm, ⟨15, _⟩ => ⟨S2x1024x896, .bf16⟩
  | .hbm, ⟨16, _⟩ => ⟨S2x512x8x192, .f32⟩
  | .hbm, ⟨17, _⟩ => ⟨S2x512x8x128, .f32⟩
  | .hbm, ⟨18, _⟩ => ⟨S2x512x1024, .f32⟩
  | .hbm, ⟨19, _⟩ => ⟨S2x512x8x64, .f32⟩
  | .hbm, ⟨20, _⟩ => ⟨S2x512x512, .f32⟩
  | .hbm, ⟨21, _⟩ => ⟨S2x512x1536, .f32⟩
  | .hbm, ⟨22, _⟩ => ⟨S2x512x1536, .bf16⟩
  | .hbm, ⟨23, _⟩ => ⟨S2x1x512, .f32⟩
  | .hbm, ⟨24, _⟩ => ⟨S2x1x256, .f32⟩
  | .hbm, ⟨25, _⟩ => ⟨S1x1024x896, .bf16⟩
  | .hbm, ⟨26, _⟩ => ⟨S1024x896, .bf16⟩
  | .hbm, ⟨27, _⟩ => ⟨S1x512x1536, .bf16⟩
  | .hbm, ⟨28, _⟩ => ⟨S512x1536, .bf16⟩
  | .hbm, ⟨29, _⟩ => ⟨S2x256x2048, .bf16⟩
  | .hbm, ⟨30, _⟩ => ⟨S16x8x2048x256, .bf16⟩
  | .hbm, ⟨31, _⟩ => ⟨S16x8x2048x128, .bf16⟩
  | .hbm, ⟨32, _⟩ => ⟨S16x2048x128, .bf16⟩
  | .hbm, ⟨33, _⟩ => ⟨S16x8x2048x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1024x896, .bf16⟩
  | .local _ .vmem, ⟨7, _⟩ => ⟨S1x1x512, .f32⟩
  | .local _ .vmem, ⟨8, _⟩ => ⟨S512x1536, .bf16⟩
  | .local _ .vmem, ⟨9, _⟩ => ⟨S1x1x256, .f32⟩
  | .local _ .vmem, ⟨10, _⟩ => ⟨S1x256x2048, .bf16⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x8x1024x256, .bf16⟩
  | .local _ .vmem, ⟨16, _⟩ => ⟨S1x8x1024x256, .bf16⟩
  | .local _ .vmem, ⟨17, _⟩ => ⟨S1x8x1024x128, .bf16⟩
  | .local _ .vmem, ⟨18, _⟩ => ⟨S1x8x1024x128, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x8x1024x128, .bf16⟩
  | .local _ .vmem, ⟨22, _⟩ => ⟨S1x8x1024x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S16x2048x1024 : Shape := ⟨3, ![16, 2048, 1024]⟩
abbrev S4x16x6144 : Shape := ⟨3, ![4, 16, 6144]⟩
abbrev S2x1024x832 : Shape := ⟨3, ![2, 1024, 832]⟩
abbrev S2x512 : Shape := ⟨2, ![2, 512]⟩
abbrev S2x512x1536 : Shape := ⟨3, ![2, 512, 1536]⟩
abbrev S2x256 : Shape := ⟨2, ![2, 256]⟩
abbrev S2x256x2048 : Shape := ⟨3, ![2, 256, 2048]⟩
abbrev S16x2048x32 : Shape := ⟨3, ![16, 2048, 32]⟩
abbrev S1x16x6144 : Shape := ⟨3, ![1, 16, 6144]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1024x832 : Shape := ⟨3, ![1, 1024, 832]⟩
abbrev S1024x832 : Shape := ⟨2, ![1024, 832]⟩
abbrev S16x2048x832 : Shape := ⟨3, ![16, 2048, 832]⟩
abbrev S16x2048x512 : Shape := ⟨3, ![16, 2048, 512]⟩
abbrev S16x2048x256 : Shape := ⟨3, ![16, 2048, 256]⟩
abbrev S16x2048x64 : Shape := ⟨3, ![16, 2048, 64]⟩
abbrev S1x512 : Shape := ⟨2, ![1, 512]⟩
abbrev S512 : Shape := ⟨1, ![512]⟩
abbrev S1x1x512 : Shape := ⟨3, ![1, 1, 512]⟩
abbrev S1x512x1536 : Shape := ⟨3, ![1, 512, 1536]⟩
abbrev S512x1536 : Shape := ⟨2, ![512, 1536]⟩
abbrev S16x2048x1536 : Shape := ⟨3, ![16, 2048, 1536]⟩
abbrev S16x2048x8x192 : Shape := ⟨4, ![16, 2048, 8, 192]⟩
abbrev S16x2048x8x64 : Shape := ⟨4, ![16, 2048, 8, 64]⟩
abbrev S16x2048x1x32 : Shape := ⟨4, ![16, 2048, 1, 32]⟩
abbrev S16x2048x8x32 : Shape := ⟨4, ![16, 2048, 8, 32]⟩
abbrev S1x256 : Shape := ⟨2, ![1, 256]⟩
abbrev S256 : Shape := ⟨1, ![256]⟩
abbrev S1x1x256 : Shape := ⟨3, ![1, 1, 256]⟩
abbrev S1x256x2048 : Shape := ⟨3, ![1, 256, 2048]⟩
abbrev S256x2048 : Shape := ⟨2, ![256, 2048]⟩
abbrev S16x2048x2048 : Shape := ⟨3, ![16, 2048, 2048]⟩
abbrev S16x2048x8x256 : Shape := ⟨4, ![16, 2048, 8, 256]⟩
abbrev S16x2048x8x128 : Shape := ⟨4, ![16, 2048, 8, 128]⟩
abbrev S16x8x2048x256 : Shape := ⟨4, ![16, 8, 2048, 256]⟩
abbrev S16x8x2048x128 : Shape := ⟨4, ![16, 8, 2048, 128]⟩
abbrev S16x2048x128 : Shape := ⟨3, ![16, 2048, 128]⟩

abbrev nBuf : Space → Nat
  | .hbm => 138
  | .vmem => 0
  | .smem => 0
  | _ => 0

abbrev hbmTy0_0 (i : Nat) : BufTy := match i % 128 with
  | 0 => ⟨S16x2048x1024, .f32⟩
  | 1 => ⟨S4x16x6144, .f32⟩
  | 2 => ⟨S2x1024x832, .f32⟩
  | 3 => ⟨S2x512, .f32⟩
  | 4 => ⟨S2x512x1536, .f32⟩
  | 5 => ⟨S2x256, .f32⟩
  | 6 => ⟨S2x256x2048, .f32⟩
  | 7 => ⟨S16x2048x32, .f32⟩
  | 8 => ⟨S16x2048x32, .f32⟩
  | 9 => ⟨S1x16x6144, .f32⟩
  | 10 => ⟨S16x6144, .f32⟩
  | 11 => ⟨S16x1024, .f32⟩
  | 12 => ⟨S16x1024, .f32⟩
  | 13 => ⟨S16x1024, .f32⟩
  | 14 => ⟨S16x1024, .f32⟩
  | 15 => ⟨S16x1024, .f32⟩
  | 16 => ⟨S16x1024, .f32⟩
  | 17 => ⟨S16x1x1024, .f32⟩
  | 18 => ⟨S16x1x1024, .f32⟩
  | 19 => ⟨S16x1x1024, .f32⟩
  | 20 => ⟨S16x1x1024, .f32⟩
  | 21 => ⟨S16x1x1024, .f32⟩
  | 22 => ⟨S16x1x1024, .f32⟩
  | 23 => ⟨S16x2048x1024, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S_, .f32⟩
  | 31 => ⟨S16x2048x1, .f32⟩
  | 32 => ⟨S16x2048x1, .f32⟩
  | 33 => ⟨S16x2048x1, .f32⟩
  | 34 => ⟨S16x2048x1024, .f32⟩
  | 35 => ⟨S16x2048x1024, .f32⟩
  | 36 => ⟨S_, .f32⟩
  | 37 => ⟨S16x1x1024, .f32⟩
  | 38 => ⟨S16x1x1024, .f32⟩
  | 39 => ⟨S16x2048x1024, .f32⟩
  | 40 => ⟨S16x2048x1024, .f32⟩
  | 41 => ⟨S16x2048x1024, .f32⟩
  | 42 => ⟨S16x2048x1024, .f32⟩
  | 43 => ⟨S1x1024x832, .f32⟩
  | 44 => ⟨S1024x832, .f32⟩
  | 45 => ⟨S16x2048x832, .f32⟩
  | 46 => ⟨S16x2048x512, .f32⟩
  | 47 => ⟨S16x2048x256, .f32⟩
  | 48 => ⟨S16x2048x64, .f32⟩
  | 49 => ⟨S16x2048x512, .f32⟩
  | 50 => ⟨S_, .f32⟩
  | 51 => ⟨S16x2048, .f32⟩
  | 52 => ⟨S16x2048x1, .f32⟩
  | 53 => ⟨S_, .f32⟩
  | 54 => ⟨S16x2048x1, .f32⟩
  | 55 => ⟨S16x2048x1, .f32⟩
  | 56 => ⟨S_, .f32⟩
  | 57 => ⟨S16x2048x1, .f32⟩
  | 58 => ⟨S16x2048x1, .f32⟩
  | 59 => ⟨S16x2048x1, .f32⟩
  | 60 => ⟨S16x2048x512, .f32⟩
  | 61 => ⟨S16x2048x512, .f32⟩
  | 62 => ⟨S1x512, .f32⟩
  | 63 => ⟨S512, .f32⟩
  | 64 => ⟨S1x1x512, .f32⟩
  | 65 => ⟨S16x2048x512, .f32⟩
  | 66 => ⟨S16x2048x512, .f32⟩
  | 67 => ⟨S1x512x1536, .f32⟩
  | 68 => ⟨S512x1536, .f32⟩
  | 69 => ⟨S16x2048x1536, .f32⟩
  | 70 => ⟨S16x2048x8x192, .f32⟩
  | 71 => ⟨S16x2048x8x64, .f32⟩
  | 72 => ⟨S16x2048x1x32, .f32⟩
  | 73 => ⟨S16x2048x1x32, .f32⟩
  | 74 => ⟨S16x2048x8x32, .f32⟩
  | 75 => ⟨S16x2048x8x32, .f32⟩
  | 76 => ⟨S16x2048x8x32, .f32⟩
  | 77 => ⟨S16x2048x8x32, .f32⟩
  | 78 => ⟨S16x2048x8x32, .f32⟩
  | 79 => ⟨S16x2048x8x32, .f32⟩
  | 80 => ⟨S16x2048x8x32, .f32⟩
  | 81 => ⟨S16x2048x8x32, .f32⟩
  | 82 => ⟨S16x2048x8x32, .f32⟩
  | 83 => ⟨S16x2048x8x32, .f32⟩
  | 84 => ⟨S16x2048x8x32, .f32⟩
  | 85 => ⟨S16x2048x8x32, .f32⟩
  | 86 => ⟨S16x2048x8x64, .f32⟩
  | 87 => ⟨S16x2048x32, .f32⟩
  | 88 => ⟨S16x2048x32, .f32⟩
  | 89 => ⟨S16x2048x32, .f32⟩
  | 90 => ⟨S16x2048x32, .f32⟩
  | 91 => ⟨S16x2048x32, .f32⟩
  | 92 => ⟨S16x2048x32, .f32⟩
  | 93 => ⟨S16x2048x32, .f32⟩
  | 94 => ⟨S16x2048x32, .f32⟩
  | 95 => ⟨S16x2048x64, .f32⟩
  | 96 => ⟨S16x2048x256, .f32⟩
  | 97 => ⟨S_, .f32⟩
  | 98 => ⟨S16x2048, .f32⟩
  | 99 => ⟨S16x2048x1, .f32⟩
  | 100 => ⟨S_, .f32⟩
  | 101 => ⟨S16x2048x1, .f32⟩
  | 102 => ⟨S16x2048x1, .f32⟩
  | 103 => ⟨S_, .f32⟩
  | 104 => ⟨S16x2048x1, .f32⟩
  | 105 => ⟨S16x2048x1, .f32⟩
  | 106 => ⟨S16x2048x1, .f32⟩
  | 107 => ⟨S16x2048x256, .f32⟩
  | 108 => ⟨S16x2048x256, .f32⟩
  | 109 => ⟨S1x256, .f32⟩
  | 110 => ⟨S256, .f32⟩
  | 111 => ⟨S1x1x256, .f32⟩
  | 112 => ⟨S16x2048x256, .f32⟩
  | 113 => ⟨S16x2048x256, .f32⟩
  | 114 => ⟨S1x256x2048, .f32⟩
  | 115 => ⟨S256x2048, .f32⟩
  | 116 => ⟨S16x2048x2048, .f32⟩
  | 117 => ⟨S16x2048x8x256, .f32⟩
  | 118 => ⟨S16x2048x8x128, .f32⟩
  | 119 => ⟨S16x2048x8x192, .f32⟩
  | 120 => ⟨S_, .f32⟩
  | 121 => ⟨S16x2048x8x192, .f32⟩
  | 122 => ⟨S16x2048x8x192, .f32⟩
  | 123 => ⟨S_, .i32⟩
  | 124 => ⟨S_, .f32⟩
  | 125 => ⟨S16x2048x8x256, .f32⟩
  | 126 => ⟨S16x8x2048x256, .f32⟩
  | 127 => ⟨S16x8x2048x256, .bf16⟩
  | _ => ⟨S16x2048x1024, .f32⟩

abbrev hbmTy0_1 (i : Nat) : BufTy := match i % 128 with
  | 0 => ⟨S16x2048x8x128, .f32⟩
  | 1 => ⟨S16x8x2048x128, .f32⟩
  | 2 => ⟨S16x8x2048x128, .bf16⟩
  | 3 => ⟨S_, .i32⟩
  | 4 => ⟨S_, .f32⟩
  | 5 => ⟨S16x2048x128, .f32⟩
  | 6 => ⟨S16x2048x128, .bf16⟩
  | 7 => ⟨S16x2048x8x128, .f32⟩
  | 8 => ⟨S16x8x2048x128, .f32⟩
  | 9 => ⟨S16x8x2048x128, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_6 : Ref sig .tc := ⟨.hbm, 97, rfl⟩
abbrev main_v81 : Ref sig .tc := ⟨.hbm, 98, rfl⟩
abbrev main_v82 : Ref sig .tc := ⟨.hbm, 99, rfl⟩
abbrev main_cst_7 : Ref sig .tc := ⟨.hbm, 100, rfl⟩
abbrev main_v83 : Ref sig .tc := ⟨.hbm, 101, rfl⟩
abbrev main_v84 : Ref sig .tc := ⟨.hbm, 102, rfl⟩
abbrev main_cst_8 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_9 : Ref sig .tc := ⟨.hbm, 120, rfl⟩
abbrev main_v101 : Ref sig .tc := ⟨.hbm, 121, rfl⟩
abbrev main_v102 : Ref sig .tc := ⟨.hbm, 122, rfl⟩
abbrev main_c : Ref sig .tc := ⟨.hbm, 123, rfl⟩
abbrev main_call0_v0 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_c_10 : Ref sig .tc := ⟨.hbm, 131, rfl⟩
abbrev main_call1_v0 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x2048x512 : Shape := ⟨3, ![16, 2048, 512]⟩
abbrev S16x8x2048 : Shape := ⟨3, ![16, 8, 2048]⟩
abbrev S2x1024 : Shape := ⟨2, ![2, 1024]⟩
abbrev S4x16x6144 : Shape := ⟨3, ![4, 16, 6144]⟩
abbrev S2x1024x1024 : Shape := ⟨3, ![2, 1024, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S4x16x6x1x1024 : Shape := ⟨5, ![4, 16, 6, 1, 1024]⟩
abbrev S4x1x2816 : Shape := ⟨3, ![4, 1, 2816]⟩
abbrev S2x1x1024 : Shape := ⟨3, ![2, 1, 1024]⟩
abbrev S1x1024 : Shape := ⟨2, ![1, 1024]⟩
abbrev S1x512x1024 : Shape := ⟨3, ![1, 512, 1024]⟩
abbrev S1x512x512 : Shape := ⟨3, ![1, 512, 512]⟩
abbrev S1x8x512 : Shape := ⟨3, ![1, 8, 512]⟩
abbrev S1x1x1024 : Shape := ⟨3, ![1, 1, 1024]⟩
abbrev S1x1024x1024 : Shape := ⟨3, ![1, 1024, 1024]⟩
abbrev S1x1x1x1x1024 : Shape := ⟨5, ![1, 1, 1, 1, 1024]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S520x2816 : Shape := ⟨2, ![520, 2816]⟩
abbrev S512x2816 : Shape := ⟨2, ![512, 2816]⟩
abbrev S512x1024 : Shape := ⟨2, ![512, 1024]⟩
abbrev S4x128x256 : Shape := ⟨3, ![4, 128, 256]⟩
abbrev S8x128 : Shape := ⟨2, ![8, 128]⟩
abbrev S8x2816 : Shape := ⟨2, ![8, 2816]⟩
abbrev S1x8x256 : Shape := ⟨3, ![1, 8, 256]⟩
abbrev S8x256 : Shape := ⟨2, ![8, 256]⟩
abbrev S256x256 : Shape := ⟨2, ![256, 256]⟩
abbrev S1024x1024 : Shape := ⟨2, ![1024, 1024]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S1x256x256 : Shape := ⟨3, ![1, 256, 256]⟩
abbrev S1x1x256 : Shape := ⟨3, ![1, 1, 256]⟩
abbrev S1x256 : Shape := ⟨2, ![1, 256]⟩
abbrev S1x1 : Shape := ⟨2, ![1, 1]⟩
abbrev S1x128 : Shape := ⟨2, ![1, 128]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1 : Shape := ⟨1, ![1]⟩
abbrev S1x1024x256 : Shape := ⟨3, ![1, 1024, 256]⟩
abbrev S1024x256 : Shape := ⟨2, ![1024, 256]⟩
abbrev S512x256 : Shape := ⟨2, ![512, 256]⟩
abbrev S1x2816x256 : Shape := ⟨3, ![1, 2816, 256]⟩
abbrev S2816x256 : Shape := ⟨2, ![2816, 256]⟩

abbrev nBuf : Space → Nat
  | .hbm => 22
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x1024, .bf16⟩
  | .hbm, ⟨4, _⟩ => ⟨S16x2048x1024, .bf16⟩
  | .hbm, ⟨5, _⟩ => ⟨S16x8x2048, .f32⟩
  | .hbm, ⟨6, _⟩ => ⟨S2x1024, .f32⟩
  | .hbm, ⟨7, _⟩ => ⟨S4x16x6144, .f32⟩
  | .hbm, ⟨8, _⟩ => ⟨S2x1024x1024, .f32⟩
  | .hbm, ⟨9, _⟩ => ⟨S4x1024x5632, .f32⟩
  | .hbm, ⟨10, _⟩ => ⟨S4x3x2816, .f32⟩
  | .hbm, ⟨11, _⟩ => ⟨S4x2816, .f32⟩
  | .hbm, ⟨12, _⟩ => ⟨S4x2816x1024, .f32⟩
  | .hbm, ⟨13, _⟩ => ⟨S1024, .f32⟩
  | .hbm, ⟨14, _⟩ => ⟨S4x16x6x1x1024, .f32⟩
  | .hbm, ⟨15, _⟩ => ⟨S4x1024x5632, .bf16⟩
  | .hbm, ⟨16, _⟩ => ⟨S4x1x2816, .f32⟩
  | .hbm, ⟨17, _⟩ => ⟨S4x2816x1024, .bf16⟩
  | .hbm, ⟨18, _⟩ => ⟨S2x1x1024, .f32⟩
  | .hbm, ⟨19, _⟩ => ⟨S2x1024x1024, .bf16⟩
  | .hbm, ⟨20, _⟩ => ⟨S1x1024, .f32⟩
  | .hbm, ⟨21, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x8x512, .f32⟩
  | .local _ .vmem, ⟨11, _⟩ => ⟨S1x8x512, .f32⟩
  | .local _ .vmem, ⟨12, _⟩ => ⟨S1x1x1024, .f32⟩
  | .local _ .vmem, ⟨13, _⟩ => ⟨S1x1024x1024, .bf16⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1x1x1x1024, .f32⟩
  | .local _ .vmem, ⟨17, _⟩ => ⟨S1x1x1x1x1024, .f32⟩
  | .local _ .vmem, ⟨18, _⟩ => ⟨S1x1x1x1x1024, .f32⟩
  | .local _ .vmem, ⟨19, _⟩ => ⟨S1x1x1x1x1024, .f32⟩
  | .local _ .vmem, ⟨20, _⟩ => ⟨S1x1x1x1x1024, .f32⟩
  | .local _ .vmem, ⟨21, _⟩ => ⟨S1x1x1x1x1024, .f32⟩
  | .local _ .vmem, ⟨22, _⟩ => ⟨S1x1024x5632, .bf16⟩
  | .local _ .vmem, ⟨23, _⟩ => ⟨S1x3x2816, .f32⟩
  | .local _ .vmem, ⟨24, _⟩ => ⟨S1x1x2816, .f32⟩
  | .local _ .vmem, ⟨25, _⟩ => ⟨S1x2816x1024, .bf16⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | .local _ .vmem, ⟨29, _⟩ => ⟨S520x2816, .f32⟩
  | .local _ .vmem, ⟨30, _⟩ => ⟨S512x2816, .bf16⟩
  | .local _ .vmem, ⟨31, _⟩ => ⟨S512x1024, .bf16⟩
  | .local _ .vmem, ⟨32, _⟩ => ⟨S4x128x256, .f32⟩
  | .local _ .vmem, ⟨33, _⟩ => ⟨S8x128, .f32⟩
  | .local _ .vmem, ⟨34, _⟩ => ⟨S8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c2_i32 : BitVec 32 := 2#32
  let c0_i32_7 : BitVec 32 := 0#32
  let c0_i32_8 : BitVec 32 := 0#32
  let c0_i32_9 : BitVec 32 := 0#32
  ![c1_i32_6.toNat, v18.toNat, c2_i32.toNat, c0_i32_7.toNat, c0_i32_8.toNat]

def cc0_transform_9 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c4_i32_7 : BitVec 32 := 4#32
  let c0_i32_8 : BitVec 32 := 0#32
  let c0_i32_9 : BitVec 32 := 0#32
  let c0_i32_10 : BitVec 32 := 0#32
  ![c1_i32_6.toNat, v18.toNat, c4_i32_7.toNat, c0_i32_8.toNat, c0_i32_9.toNat]

def cc0_transform_10 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c3_i32 : BitVec 32 := 3#32
  let c0_i32_7 : BitVec 32 := 0#32
  let c0_i32_8 : BitVec 32 := 0#32
  let c0_i32_9 : BitVec 32 := 0#32
  ![c1_i32_6.toNat, v18.toNat, c3_i32.toNat, c0_i32_7.toNat, c0_i32_8.toNat]

def cc0_transform_11 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c5_i32 : BitVec 32 := 5#32
  let c0_i32_7 : BitVec 32 := 0#32
  let c0_i32_8 : BitVec 32 := 0#32
  let c0_i32_9 : BitVec 32 := 0#32
  ![c1_i32_6.toNat, v18.toNat, c5_i32.toNat, c0_i32_7.toNat, c0_i32_8.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel6.lean ====
abbrev S16x1024 : Shape := ⟨2, ![16, 1024]⟩
abbrev S4x1024x6144 : Shape := ⟨3, ![4, 1024, 6144]⟩
abbrev S4x6144 : Shape := ⟨2, ![4, 6144]⟩
abbrev S16x2048 : Shape := ⟨2, ![16, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16x512x4 : Shape := ⟨3, ![16, 512, 4]⟩
abbrev S4x1x6144 : Shape := ⟨3, ![4, 1, 6144]⟩
abbrev S4x16x6144 : Shape := ⟨3, ![4, 16, 6144]⟩
abbrev S16x2048x128 : Shape := ⟨3, ![16, 2048, 128]⟩
abbrev S1x1024x1536 : Shape := ⟨3, ![1, 1024, 1536]⟩
abbrev S1x1x1536 : Shape := ⟨3, ![1, 1, 1536]⟩
abbrev S1x512x4 : Shape := ⟨3, ![1, 512, 4]⟩
abbrev S1x16x1536 : Shape := ⟨3, ![1, 16, 1536]⟩
abbrev S1x2048x128 : Shape := ⟨3, ![1, 2048, 128]⟩
abbrev S1024x1536 : Shape := ⟨2, ![1024, 1536]⟩
abbrev S16x1536 : Shape := ⟨2, ![16, 1536]⟩
abbrev S1x1536 : Shape := ⟨2, ![1, 1536]⟩
abbrev S512x4 : Shape := ⟨2, ![512, 4]⟩
abbrev S512x128 : Shape := ⟨2, ![512, 128]⟩
abbrev S512x1 : Shape := ⟨2, ![512, 1]⟩
abbrev S1x512x128 : Shape := ⟨3, ![1, 512, 128]⟩

abbrev nBuf : Space → Nat
  | .hbm => 29
  | .vmem => 14
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S16x512x4, .i32⟩
  | .hbm, ⟨25, _⟩ => ⟨S4x1x6144, .f32⟩
  | .hbm, ⟨26, _⟩ => ⟨S4x16x6144, .f32⟩
  | .hbm, ⟨27, _⟩ => ⟨S16x2048x128, .f32⟩
  | .hbm, ⟨28, _⟩ => ⟨S16x2048x128, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x512x4, .i32⟩
  | .local _ .vmem, ⟨6, _⟩ => ⟨S1x512x4, .i32⟩
  | .local _ .vmem, ⟨7, _⟩ => ⟨S1x128, .f32⟩
  | .local _ .vmem, ⟨8, _⟩ => ⟨S1x16x1536, .f32⟩
  | .local _ .vmem, ⟨9, _⟩ => ⟨S1x16x1536, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16x1024 : Shape := ⟨2, ![16, 1024]⟩
abbrev S4x1024x6144 : Shape := ⟨3, ![4, 1024, 6144]⟩
abbrev S4x6144 : Shape := ⟨2, ![4, 6144]⟩
abbrev S16x2048 : Shape := ⟨2, ![16, 2048]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S4x16x6144 : Shape := ⟨3, ![4, 16, 6144]⟩
abbrev S16x2048x128 : Shape := ⟨3, ![16, 2048, 128]⟩

abbrev nBuf : Space → Nat
  | .hbm => 76
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S16x2048, .f32⟩
  | .hbm, ⟨21, _⟩ => ⟨S16x2048x1, .f32⟩
  | .hbm, ⟨22, _⟩ => ⟨S1x1x32, .f32⟩
  | .hbm, ⟨23, _⟩ => ⟨S16x2048x32, .f32⟩
  | .hbm, ⟨24, _⟩ => ⟨S16x2048x32, .f32⟩
  | .hbm, ⟨25, _⟩ => ⟨S16x2048x32, .f32⟩
  | .hbm, ⟨26, _⟩ => ⟨S16x2048x32, .f32⟩
  | .hbm, ⟨27, _⟩ => ⟨S16x2048x32, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S_, .f32⟩
  | .hbm, ⟨34, _⟩ => ⟨S16x1024, .f32⟩
  | .hbm, ⟨35, _⟩ => ⟨S16x1024, .f32⟩
  | .hbm, ⟨36, _⟩ => ⟨S16x1024, .f32⟩
  | .hbm, ⟨37, _⟩ => ⟨S1x1024x6144, .f32⟩
  | .hbm, ⟨38, _⟩ => ⟨S1024x6144, .f32⟩
  | .hbm, ⟨39, _⟩ => ⟨S16x6144, .f32⟩
  | .hbm, ⟨40, _⟩ => ⟨S1x6144, .f32⟩
  | .hbm, ⟨41, _⟩ => ⟨S6144, .f32⟩
  | .hbm, ⟨42, _⟩ => ⟨S1x6144, .f32⟩
  | .hbm, ⟨43, _⟩ => ⟨S16x6144, .f32⟩
  | .hbm, ⟨44, _⟩ => ⟨S16x6144, .f32⟩
  | .hbm, ⟨45, _⟩ => ⟨S1x1024x6144, .f32⟩
  | .hbm, ⟨46, _⟩ => ⟨S1024x6144, .f32⟩
  | .hbm, ⟨47, _⟩ => ⟨S16x6144, .f32⟩
  | .hbm, ⟨48, _⟩ => ⟨S1x6144, .f32⟩
  | .hbm, ⟨49, _⟩ => ⟨S6144, .f32⟩
  | .hbm, ⟨50, _⟩ => ⟨S1x6144, .f32⟩
  | .hbm, ⟨51, _⟩ => ⟨S16x6144, .f32⟩
  | .hbm, ⟨52, _⟩ => ⟨S16x6144, .f32⟩
  | .hbm, ⟨53, _⟩ => ⟨S1x1024x6144, .f32⟩
  | .hbm, ⟨54, _⟩ => ⟨S1024x6144, .f32⟩
  | .hbm, ⟨55, _⟩ => ⟨S16x6144, .f32⟩
  | .hbm, ⟨56, _⟩ => ⟨S1x6144, .f32⟩
  | .hbm, ⟨57, _⟩ => ⟨S6144, .f32⟩
  | .hbm, ⟨58, _⟩ => ⟨S1x6144, .f32⟩
  | .hbm, ⟨59, _⟩ => ⟨S16x6144, .f32⟩
  | .hbm, ⟨60, _⟩ => ⟨S16x6144, .f32⟩
  | .hbm, ⟨61, _⟩ => ⟨S1x1024x6144, .f32⟩
  | .hbm, ⟨62, _⟩ => ⟨S1024x6144, .f32⟩
  | .hbm, ⟨63, _⟩ => ⟨S16x6144, .f32⟩
  | .hbm, ⟨64, _⟩ => ⟨S1x6144, .f32⟩
  | .hbm, ⟨65, _⟩ => ⟨S6144, .f32⟩
  | .hbm, ⟨66, _⟩ => ⟨S1x6144, .f32⟩
  | .hbm, ⟨67, _⟩ => ⟨S16x6144, .f32⟩
  | .hbm, ⟨68, _⟩ => ⟨S16x6144, .f32⟩
  | .hbm, ⟨69, _⟩ => ⟨S1x16x6144, .f32⟩
  | .hbm, ⟨70, _⟩ => ⟨S1x16x6144, .f32⟩
  | .hbm, ⟨71, _⟩ => ⟨S1x16x6144, .f32⟩
  | .hbm, ⟨72, _⟩ => ⟨S1x16x6144, .f32⟩
  | .hbm, ⟨73, _⟩ => ⟨S4x16x6144, .f32⟩
  | .hbm, ⟨74, _⟩ => ⟨S16x2048x128, .f32⟩
  | .hbm, ⟨75, _⟩ => ⟨S16x2048x128, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Proof.Attn.Online.lean ====
/- The running softmax over one query's scores, as statements about real scores and extended real
   values: what is carried from key block to key block, why one block more keeps it, and what the
   quotient at the end is. -/
module

public import Idealize.ShloMosaic.PureOps.Ideal

@[expose] public section

noncomputable section

namespace Cert.Online

open Idealize.ShloMosaic Finset

/-- A nonnegative real factor goes into a sum of extended reals. -/
theorem coe_mul_sum {ι : Type*} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [sum_insert hi, sum_insert hi, ← ih]
    exact EReal.left_distrib_of_nonneg_of_ne_top (by exact_mod_cast ha) (EReal.coe_ne_top a) _ _

/-- A sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- The maximum of a real and of finitely many extended reals below `⊤` is a real. -/
theorem exists_real_max {ι : Type*} [Fintype ι] (M : ℝ) (t : ι → EReal) (ht : ∀ i, t i ≠ ⊤) :
    ∃ M' : ℝ, max (M : EReal) (univ.fold max ⊥ t) = M' := by
  have h1 : univ.fold max ⊥ t ≠ ⊤ := by
    classical
    suffices h : ∀ s : Finset ι, s.fold max ⊥ t ≠ ⊤ from h univ
    intro s
    induction s using Finset.induction_on with
    | empty => simp
    | insert i s hi ih =>
      rw [fold_insert hi]
      rcases max_choice (t i) (s.fold max ⊥ t) with h | h <;> rw [h]
      · exact ht i
      · exact ih
  have h2 : max (M : EReal) (univ.fold max ⊥ t) ≠ ⊤ := by
    rcases max_choice (M : EReal) (univ.fold max ⊥ t) with h | h <;> rw [h]
    · exact EReal.coe_ne_top M
    · exact h1
  have h3 : max (M : EReal) (univ.fold max ⊥ t) ≠ ⊥ :=
    ne_of_gt (lt_of_lt_of_le (EReal.bot_lt_coe M) (le_max_left _ _))
  exact ⟨_, (EReal.coe_toReal h2 h3).symm⟩

section Row

variable {ι : Type*} (vis : ℕ → Prop) [DecidablePred vis] (σ : ℕ → ℝ) (v : ℕ → ι → EReal)

/-- The weight of key `k` before the common factor: `2` to its score, nothing for an unseen key. -/
def weight (k : ℕ) : ℝ := if vis k then (2 : ℝ) ^ σ k else 0

theorem weight_nonneg (k : ℕ) : 0 ≤ weight vis σ k := by
  unfold weight
  split
  · positivity
  · exact le_refl _

/-- What is carried after `N` keys: some real `M`, the sum of the keys' weights and their weighted sum of the
    values, both scaled by `2` to the minus `M`. -/
def Carried (N : ℕ) (m l : EReal) (acc : ι → EReal) : Prop :=
  ∃ M : ℝ, m = M ∧ l = (((∑ k ∈ range N, weight vis σ k) * (2 : ℝ) ^ (-M) : ℝ) : EReal)
    ∧ ∀ d, acc d = ∑ k ∈ range N, ((weight vis σ k * (2 : ℝ) ^ (-M) : ℝ) : EReal) * v k d

/-- Nothing yet. -/
theorem carried_zero (M : ℝ) : Carried vis σ v 0 M 0 fun _ => 0 :=
  ⟨M, rfl, by simp, fun d => by simp⟩

/-- The exponential of a score less the maximum. -/
theorem exp2_score (M : ℝ) (k : ℕ) (t : EReal) (h : t = if vis k then (σ k : EReal) else ⊥) :
    Ideal.exp2 (t - M) = ((weight vis σ k * (2 : ℝ) ^ (-M) : ℝ) : EReal) := by
  subst h
  unfold weight
  split
  · rw [← EReal.coe_sub, Ideal.exp2_coe]
    show (((2 : ℝ) ^ (σ k - M) : ℝ) : EReal) = _
    rw [sub_eq_add_neg, Real.rpow_add (by norm_num)]
  · simp [sub_eq_add_neg, ← EReal.coe_neg]

/-- One block of `B` keys more. -/
theorem carried_step {N B : ℕ} {m l : EReal} {acc : ι → EReal} (h : Carried vis σ v N m l acc) (t : Fin B → EReal)
    (ht : ∀ c : Fin B, t c = if vis (N + c) then (σ (N + c) : EReal) else ⊥) (m' : EReal) (hm : m' = max m (univ.fold max ⊥ t)) :
    Carried vis σ v (N + B) m' (Ideal.exp2 (m - m') * l + ∑ c, Ideal.exp2 (t c - m'))
      fun d => Ideal.exp2 (m - m') * acc d + ∑ c, Ideal.exp2 (t c - m') * v (N + c) d := by
  obtain ⟨M, rfl, rfl, hacc⟩ := h
  obtain ⟨M', hM⟩ := exists_real_max M t fun c => by
    rw [ht c]
    split
    · exact EReal.coe_ne_top _
    · exact bot_ne_top
  obtain rfl : m' = M' := hm.trans hM
  have hα : Ideal.exp2 ((M : EReal) - M') = (((2 : ℝ) ^ (M - M') : ℝ) : EReal) := by
    rw [← EReal.coe_sub, Ideal.exp2_coe]
    rfl
  have hM2 : (2 : ℝ) ^ (M - M') * (2 : ℝ) ^ (-M) = (2 : ℝ) ^ (-M') := by
    rw [← Real.rpow_add (by norm_num)]
    congr 1
    ring
  have hw : ∀ c : Fin B, Ideal.exp2 (t c - M') = ((weight vis σ (N + c) * (2 : ℝ) ^ (-M') : ℝ) : EReal) := fun c =>
    exp2_score vis σ M' (N + c) (t c) (ht c)
  refine ⟨M', rfl, ?_, fun d => ?_⟩
  · rw [hα, Finset.sum_congr rfl fun c _ => hw c, ← coe_sum, ← EReal.coe_mul, ← EReal.coe_add,
      Fin.sum_univ_eq_sum_range (fun c => weight vis σ (N + c) * (2 : ℝ) ^ (-M')) B, sum_range_add, add_mul, sum_mul (range B)]
    congr 2
    rw [mul_comm (∑ k ∈ range N, weight vis σ k), ← mul_assoc, hM2, mul_comm]
  · show Ideal.exp2 _ * acc d + _ = _
    rw [hα, hacc d, coe_mul_sum _ (by positivity), sum_range_add]
    congr 1
    · refine sum_congr rfl fun k _ => ?_
      rw [← mul_assoc, ← EReal.coe_mul]
      congr 2
      rw [← hM2]
      ring
    · rw [← Fin.sum_univ_eq_sum_range (fun c => ((weight vis σ (N + c) * (2 : ℝ) ^ (-M') : ℝ) : EReal) * v (N + c) d) B]
      exact sum_congr rfl fun c _ => by rw [hw c]

/-- The quotient at the end: the values averaged with the weights, whatever real `M` was carried. -/
theorem carried_quotient {N : ℕ} {m l : EReal} {acc : ι → EReal} (h : Carried vis σ v N m l acc)
    (hpos : 0 < ∑ k ∈ range N, weight vis σ k) (d : ι) :
    Ideal.div (acc d) l = ∑ k ∈ range N, ((weight vis σ k / ∑ j ∈ range N, weight vis σ j : ℝ) : EReal) * v k d := by
  obtain ⟨M, rfl, rfl, hacc⟩ := h
  have h2 : (0 : ℝ) < (2 : ℝ) ^ (-M) := by positivity
  have hne : (∑ k ∈ range N, weight vis σ k) * (2 : ℝ) ^ (-M) ≠ 0 := by positivity
  rw [Ideal.div_coe hne, hacc d, mul_comm, coe_mul_sum _ (by positivity)]
  refine sum_congr rfl fun k _ => ?_
  rw [← mul_assoc, ← EReal.coe_mul]
  congr 2
  field_simp

/-- The softmax to base `e` of the scores times `log 2`, unseen keys at `⊥`: the same weights, whatever
    (real) maximum is subtracted. -/
theorem softmax_eq (B : ℕ) (t : Fin B → EReal) (ht : ∀ k : Fin B, t k = if vis k then (σ k : EReal) * (Real.log 2 : ℝ) else ⊥)
    (hvis : ∃ k : Fin B, vis k) (k : Fin B) :
    Ideal.div (Ideal.exp (t k - univ.fold max ⊥ t)) (∑ j, Ideal.exp (t j - univ.fold max ⊥ t))
      = ((weight vis σ k / ∑ j ∈ range B, weight vis σ j : ℝ) : EReal) := by
  obtain ⟨k₀, hk₀⟩ := hvis
  obtain ⟨M, hM⟩ : ∃ M : ℝ, univ.fold max ⊥ t = M := by
    obtain ⟨M, hM⟩ := exists_real_max (σ k₀ * Real.log 2) t fun c => by
      rw [ht c]
      split
      · rw [← EReal.coe_mul]
        exact EReal.coe_ne_top _
      · exact bot_ne_top
    refine ⟨M, ?_⟩
    rw [← hM, max_eq_right]
    rw [Finset.le_fold_max]
    exact .inr ⟨k₀, mem_univ _, by rw [ht k₀, if_pos hk₀, EReal.coe_mul]⟩
  rw [hM]
  have he : ∀ j : Fin B, Ideal.exp (t j - M) = ((weight vis σ j * Real.exp (-M) : ℝ) : EReal) := fun j => by
    rw [ht j]
    unfold weight
    split
    · rw [← EReal.coe_mul, ← EReal.coe_sub, Ideal.exp_coe, sub_eq_add_neg, Real.exp_add,
        Real.rpow_def_of_pos (by norm_num : (0 : ℝ) < 2), mul_comm (σ _)]
    · simp [sub_eq_add_neg, ← EReal.coe_neg]
  have hpos : 0 < ∑ j ∈ range B, weight vis σ j :=
    sum_pos' (fun j _ => weight_nonneg vis σ j)
      ⟨k₀, mem_range.mpr k₀.isLt, by unfold weight; rw [if_pos hk₀]; positivity⟩
  have hexp := Real.exp_pos (-M)
  rw [he k, Finset.sum_congr rfl fun j _ => he j, ← coe_sum, Fin.sum_univ_eq_sum_range (fun j => weight vis σ j * Real.exp (-M)) B,
    ← sum_mul, Ideal.div_coe (by positivity), ← EReal.coe_mul]
  congr 1
  field_simp

end Row

end Cert.Online

end
-- ==== Proof.Attn.Spec.lean ====
/- The attention, said once at extended reals for both programs: the score of a query against a key,
   and a query's result, the average of the values of the keys of its own and earlier chunks of 64. -/
module

public import proofs.«01_k».proof.Proof.Attn.Online
public import Idealize.ShloMosaic.Lib.Pointwise

@[expose] public section

set_option maxRecDepth 16384

noncomputable section

namespace Cert.Attn

open Cert.Online Idealize.ShloMosaic

/-- The queries: 16 sequences, 8 heads, 2048 positions, 128 features against the head's own keys and 128 against the shared part. -/
abbrev Queries : Type := Vec Ideal ⟨4, ![16, 8, 2048, 256]⟩ .bf16
/-- The heads' own keys, and the values. -/
abbrev Keys : Type := Vec Ideal ⟨4, ![16, 8, 2048, 128]⟩ .bf16
/-- The part of the keys all heads share. -/
abbrev Shared : Type := Vec Ideal ⟨3, ![16, 2048, 128]⟩ .bf16

/-- The position a number names. -/
def key (k : ℕ) : Fin 2048 := ⟨k % 2048, Nat.mod_lt _ (by norm_num)⟩

theorem key_val {k : ℕ} (h : k < 2048) : key k = ⟨k, h⟩ := Fin.ext (Nat.mod_eq_of_lt h)

theorem key_fin (k : Fin 2048) : key k = k := key_val k.isLt

variable (q : Queries) (kn : Keys) (kr : Shared) (v : Keys) (b : Fin 16) (h : Fin 8)

/-- The score of the query at position `R` against the key at position `k`. -/
def score (R k : Fin 2048) : EReal :=
  ∑ x : Fin 128, q (ix4 b h R ⟨x, by omega⟩) * kn (ix4 b h k x) + ∑ x : Fin 128, q (ix4 b h R ⟨128 + x, by omega⟩) * kr (ix3 b k x)

/-- The scores of one query as real numbers. -/
def realScore (R : Fin 2048) (k : ℕ) : ℝ := (score q kn kr b h R (key k)).toReal

/-- The result at one query and one feature. -/
def attend (R : Fin 2048) (d : Fin 128) : EReal :=
  ∑ k : Fin 2048, ((weight (fun k => k / 64 ≤ R.val / 64) (realScore q kn kr b h R) k
    / ∑ j ∈ Finset.range 2048, weight (fun k => k / 64 ≤ R.val / 64) (realScore q kn kr b h R) j : ℝ) : EReal) * v (ix4 b h k d)

/-- Unseen keys weigh nothing, so summing up to the end of a query's own block of 256 is summing over all keys. -/
theorem attend_eq_range (n : Fin 8) (r : Fin 256) (d : Fin 128) :
    ∑ k ∈ Finset.range (256 * n + 256), ((weight (fun k => k / 64 ≤ (256 * n.val + r.val) / 64) (realScore q kn kr b h ⟨256 * n + r, by omega⟩) k
      / ∑ j ∈ Finset.range (256 * n + 256), weight (fun k => k / 64 ≤ (256 * n.val + r.val) / 64) (realScore q kn kr b h ⟨256 * n + r, by omega⟩) j : ℝ) : EReal)
      * v (ix4 b h (key k) d) = attend q kn kr v b h ⟨256 * n + r, by omega⟩ d := by
  have hsub : Finset.range (256 * n.val + 256) ⊆ Finset.range 2048 := Finset.range_subset_range.mpr (by omega)
  have hz : ∀ k, k ∉ Finset.range (256 * n.val + 256) →
      weight (fun k => k / 64 ≤ (256 * n.val + r.val) / 64) (realScore q kn kr b h ⟨256 * n + r, by omega⟩) k = 0 := fun k hk => by
    rw [Finset.mem_range] at hk
    exact if_neg (by omega)
  unfold attend
  rw [Finset.sum_subset hsub fun k _ hk => hz k hk]
  refine (Finset.sum_subset hsub fun k _ hk => ?_).trans ((Finset.sum_range _).trans (Finset.sum_congr rfl fun k _ => ?_))
  · rw [hz k hk, zero_div, EReal.coe_zero, zero_mul]
  · rw [key_fin]

/-- The queries and the keys are real numbers. -/
structure RealArgs : Prop where
  q : ∀ i, ∃ x : ℝ, q i = x
  kn : ∀ i, ∃ x : ℝ, kn i = x
  kr : ∀ i, ∃ x : ℝ, kr i = x

variable {q kn kr}

/-- A sum of products of real numbers is real. -/
theorem sum_mul_real {n : ℕ} {f g : Fin n → EReal} (hf : ∀ i, ∃ x : ℝ, f i = x) (hg : ∀ i, ∃ x : ℝ, g i = x) : ∃ x : ℝ, ∑ i, f i * g i = x := by
  choose f' hf using hf
  choose g' hg using hg
  refine ⟨∑ i, f' i * g' i, ?_⟩
  rw [coe_sum]
  exact Finset.sum_congr rfl fun i _ => by rw [hf, hg, EReal.coe_mul]

/-- Then the scores are real numbers. -/
theorem score_eq (H : RealArgs q kn kr) (R k : Fin 2048) : score q kn kr b h R k = (realScore q kn kr b h R k : EReal) := by
  obtain ⟨x, hx⟩ := sum_mul_real (fun x => H.q (ix4 b h R ⟨x.val, by omega⟩)) (fun x : Fin 128 => H.kn (ix4 b h k x))
  obtain ⟨y, hy⟩ := sum_mul_real (fun x => H.q (ix4 b h R ⟨128 + x.val, by omega⟩)) (fun x : Fin 128 => H.kr (ix3 b k x))
  have : score q kn kr b h R k = ((x + y : ℝ) : EReal) := by
    unfold score
    rw [hx, hy, EReal.coe_add]
  unfold realScore
  rw [key_fin, this, EReal.toReal_coe]

end Cert.Attn

end
-- ==== Proof.Attn.Step.lean ====
/- The attention kernel's arithmetic over one block of 256 queries, named: the scores against one
   block of 256 keys, the chunk mask of the diagonal block, the running maximum, sum and product
   (one `step` per key block), and the block's result. -/
module

public import proofs.«01_k».proof.Proof.Gen.KernelIdeal.Value

@[expose] public section

set_option maxRecDepth 16384

noncomputable section

namespace Cert.KernelIdeal.Attn

open Cert.KernelIdeal Cert.KernelIdeal.Gen Idealize.ShloMosaic

variable {F : FTy → Type} [FloatOps F]

/-- The scores of 256 queries against 256 keys: the key's two parts are laid side by side. -/
def scores (q : Vec F S1x1x256x256 .bf16) (kn : Vec F S1x1x256x128 .bf16) (kr : Vec F S1x256x128 .bf16) : FVec F S256x256 .f32 :=
  matmul dot_S256x256_S256x256_S256x256_1_1_0_0_n_n none (shapeCast S256x256 q shapeCasts_S1x1x256x256_S256x256)
    (concatenate S256x256 1 [⟨S256x128, shapeCast S256x128 kn shapeCasts_S1x1x256x128_S256x128⟩,
      ⟨S256x128, shapeCast S256x128 kr shapeCasts_S1x256x128_S256x128⟩] concatenates_S256x128_S256x128_S256x256_d1)
    (constant S256x256 .f32 0x00000000#32)

/-- The sign of a word array, as the floor division spells it. -/
def signOf (x : IVec S256x256 32) : IVec S256x256 32 :=
  subi (extui 32 (cmpi .sgt x (broadcast S256x256 0#32)) natLt_1_32) (extui 32 (cmpi .slt x (broadcast S256x256 0#32)) natLt_1_32)

/-- The sign of the divisor 64. -/
def sign64 : BitVec 32 :=
  Scalar.subi (Scalar.extui (Scalar.cmpi .sgt 64#32 0#32)) (Scalar.extui (Scalar.cmpi .slt 64#32 0#32))

/-- The floor division of a word array by the chunk length 64. -/
def chunkOf (x : IVec S256x256 32) : IVec S256x256 32 :=
  select (andi (cmpi .ne (signOf x) (broadcast S256x256 sign64)) (cmpi .ne (remsi x (broadcast S256x256 64#32)) (broadcast S256x256 0#32)))
    (subi (divsi x (broadcast S256x256 64#32)) (broadcast S256x256 1#32)) (divsi x (broadcast S256x256 64#32))

/-- Which keys of the diagonal block a query sees: those of its own chunk and of earlier ones. -/
def visible : IVec S256x256 1 :=
  cmpi .sle (chunkOf (iota .tc S256x256 32 [1] iota_S256x256_d1_w32)) (chunkOf (iota .tc S256x256 32 [0] iota_S256x256_d0_w32))

/-- The scores of the diagonal block, those of unseen keys at `-∞`. -/
def masked (s : FVec F S256x256 .f32) : FVec F S256x256 .f32 :=
  select visible s (broadcast S256x256 (Scalar.ofBits .f32 0xFF800000#32))

/-- What a block of queries carries from one key block to the next: per query the maximum of the
    scores so far, the sum of the weights, and the weighted sum of the values. -/
structure State (F : FTy → Type) [FloatOps F] where
  max : FVec F S256x1 .f32
  sum : FVec F S256x1 .f32
  acc : FVec F S256x128 .f32

/-- Before the first key block. -/
def start : State F where
  max := broadcast S256x1 (Scalar.ofBits .f32 0xF149F2CA#32)
  sum := broadcast S256x1 (Scalar.ofBits .f32 0x00000000#32)
  acc := broadcast S256x128 (Scalar.ofBits .f32 0x00000000#32)

/-- The new maximum. -/
def newMax (m : FVec F S256x1 .f32) (s : FVec F S256x256 .f32) : FVec F S256x1 .f32 :=
  maximumf m (shapeCast S256x1 (multiReduction .maximumf [1] S256 s 0xFF800000#32 reduces_S256x256_S256 (.inl rfl) rfl) shapeCasts_S256_S256x1)

/-- What the old sum and product are scaled by. -/
def rescale (m : FVec F S256x1 .f32) (s : FVec F S256x256 .f32) : FVec F S256x1 .f32 :=
  exp2 (subf m (newMax m s))

/-- The block's weights. -/
def weights (m : FVec F S256x1 .f32) (s : FVec F S256x256 .f32) : FVec F S256x256 .f32 :=
  exp2 (subf s (broadcastTo S256x256 (newMax m s) broadcasts_S256x1_S256x256))

/-- One key block. -/
def step (st : State F) (s : FVec F S256x256 .f32) (v : Vec F S1x1x256x128 .bf16) : State F where
  max := newMax st.max s
  sum := addf (mulf (rescale st.max s) st.sum)
    (shapeCast S256x1 (multiReduction .add [1] S256 (weights st.max s) 0x00000000#32 reduces_S256x256_S256 (.inl rfl) rfl) shapeCasts_S256_S256x1)
  acc := addf (mulf (broadcastTo S256x128 (rescale st.max s) broadcasts_S256x1_S256x128) st.acc)
    (matmul dot_S256x256_S256x128_S256x128_1_0_0_1_n_n none (truncf .bf16 (weights st.max s) bitsLt_bf16_f32)
      (shapeCast S256x128 v shapeCasts_S1x1x256x128_S256x128) (constant S256x128 .f32 0x00000000#32))

/-- After the first `n` key blocks, none of them masked. -/
def before (q : Vec F S1x1x256x256 .bf16) (kn : ℕ → Vec F S1x1x256x128 .bf16) (kr : ℕ → Vec F S1x256x128 .bf16)
    (v : ℕ → Vec F S1x1x256x128 .bf16) : ℕ → State F
  | 0 => start
  | n + 1 => step (before q kn kr v n) (scores q (kn n) (kr n)) (v n)

/-- After the diagonal block `n`. -/
def after (q : Vec F S1x1x256x256 .bf16) (kn : ℕ → Vec F S1x1x256x128 .bf16) (kr : ℕ → Vec F S1x256x128 .bf16)
    (v : ℕ → Vec F S1x1x256x128 .bf16) (n : ℕ) : State F :=
  step (before q kn kr v n) (masked (scores q (kn n) (kr n))) (v n)

/-- What the block of queries `n` stores. -/
def result (q : Vec F S1x1x256x256 .bf16) (kn : ℕ → Vec F S1x1x256x128 .bf16) (kr : ℕ → Vec F S1x256x128 .bf16)
    (v : ℕ → Vec F S1x1x256x128 .bf16) (n : ℕ) : FVec F S1x256x128 .bf16 :=
  shapeCast S1x256x128 (truncf .bf16 (divf (after q kn kr v n).acc
    (broadcastTo S256x128 (after q kn kr v n).sum broadcasts_S256x1_S256x128)) bitsLt_bf16_f32) shapeCasts_S256x128_S1x256x128

/-- The rectangle of query block `n` of head `h` of the four a grid point holds. -/
abbrev rQ (h n : ℕ) : Rect S1x4x2048x256 :=
  Rect.unit (s := S1x4x2048x256) ![0, h % 4, 256 * (n % 8), 0] S1x1x256x256.size
    (by intro a; fin_cases a <;> simp [S1x1x256x256, S1x4x2048x256] <;> omega)

/-- The rectangle of key (or value) block `n` of head `h`. -/
abbrev rK (h n : ℕ) : Rect S1x4x2048x128 :=
  Rect.unit (s := S1x4x2048x128) ![0, h % 4, 256 * (n % 8), 0] S1x1x256x128.size
    (by intro a; fin_cases a <;> simp [S1x1x256x128, S1x4x2048x128] <;> omega)

/-- The rectangle of block `n` of the keys' shared part. -/
abbrev rR (n : ℕ) : Rect S1x2048x128 :=
  Rect.unit (s := S1x2048x128) ![0, 256 * (n % 8), 0] S1x256x128.size
    (by intro a; fin_cases a <;> simp [S1x256x128, S1x2048x128] <;> omega)

/-- The rectangle of the result's block `n` for head `h`. -/
abbrev rO (h n : ℕ) : Rect S1x2048x512 :=
  Rect.unit (s := S1x2048x512) ![0, 256 * (n % 8), 128 * (h % 4)] S1x256x128.size
    (by intro a; fin_cases a <;> simp [S1x256x128, S1x2048x512] <;> omega)

/-- The queries of block `n` of head `h`. -/
def ldQ (x : Vec F S1x4x2048x256 .bf16) (h n : ℕ) : Vec F S1x1x256x256 .bf16 := View.ld x (rQ h n)

/-- The keys (or values) of block `n` of head `h`. -/
def ldK (x : Vec F S1x4x2048x128 .bf16) (h n : ℕ) : Vec F S1x1x256x128 .bf16 := View.ld x (rK h n)

/-- Block `n` of the keys' shared part. -/
def ldR (x : Vec F S1x2048x128 .bf16) (n : ℕ) : Vec F S1x256x128 .bf16 := View.ld x (rR n)

/-- What head `h`'s query block `n` stores, from a grid point's blocks. -/
def piece (x0 : Vec F S1x4x2048x256 .bf16) (x1 : Vec F S1x4x2048x128 .bf16) (x2 : Vec F S1x2048x128 .bf16)
    (x3 : Vec F S1x4x2048x128 .bf16) (h n : ℕ) : FVec F S1x256x128 .bf16 :=
  result (ldQ x0 h n) (ldK x1 h) (ldR x2) (ldK x3 h) n

end Cert.KernelIdeal.Attn

end
-- ==== Proof.Attn.Rows.lean ====
/- The attention kernel's block of queries, read one query at a time at extended reals: each key block
   is one step of the running softmax (Online.lean), so what is stored is the average of the values. -/
module

public import proofs.«01_k».proof.Proof.Attn.Step
public import proofs.«01_k».proof.Proof.Attn.Online
public import Idealize.ShloMosaic.Lib.Pointwise

@[expose] public section

set_option maxRecDepth 16384

noncomputable section

namespace Cert.KernelIdeal.Attn

open Cert.KernelIdeal Cert.KernelIdeal.Gen Cert.Online Idealize.ShloMosaic

/-- The score of a query against a key in two parts. -/
theorem scores_apply (q : Vec Ideal S1x1x256x256 .bf16) (kn : Vec Ideal S1x1x256x128 .bf16) (kr : Vec Ideal S1x256x128 .bf16) (r c : Fin 256) :
    scores q kn kr (ix2 r c) = ∑ x : Fin 128, q (ix4 0 0 r ⟨x, by omega⟩) * kn (ix4 0 0 c x)
      + ∑ x : Fin 128, q (ix4 0 0 r ⟨128 + x, by omega⟩) * kr (ix3 0 c x) := by
  pointwise [scores]

/-- The floor division by 64 on one word. -/
def chunkWord (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32))) sign64)
      (IntOp.cmpi .ne (IntOp.remsi .vector x 64#32) 0#32))
    (IntOp.subi (IntOp.divsi .vector x 64#32) 1#32) (IntOp.divsi .vector x 64#32)

/-- The word mask is the comparison of the chunks. -/
theorem mask_word : ∀ r c : Fin 256,
    IntOp.cmpi .sle (chunkWord (BitVec.ofNat 32 c)) (chunkWord (BitVec.ofNat 32 r)) = if c.val / 64 ≤ r.val / 64 then 1#1 else 0#1 := by
  have h1 : ∀ c : Fin 256, chunkWord (BitVec.ofNat 32 c) = BitVec.ofNat 32 (c.val / 64) := by decide +kernel
  have h2 : ∀ a b : Fin 4, IntOp.cmpi .sle (BitVec.ofNat 32 a) (BitVec.ofNat 32 b) = if a.val ≤ b.val then 1#1 else 0#1 := by decide +kernel
  intro r c
  rw [h1, h1]
  exact h2 ⟨c.val / 64, by omega⟩ ⟨r.val / 64, by omega⟩

/-- The masked score. -/
theorem masked_apply (s : FVec Ideal S256x256 .f32) (r c : Fin 256) :
    masked s (ix2 r c) = if c.val / 64 ≤ r.val / 64 then s (ix2 r c) else ⊥ := by
  have h : masked s (ix2 r c) = Scalar.select (IntOp.cmpi .sle (chunkWord (BitVec.ofNat 32 c)) (chunkWord (BitVec.ofNat 32 r)))
      (s (ix2 r c)) (Ideal.ofBits .f32 0xFF800000#32) := by
    pointwise [masked, visible, chunkOf, signOf]
    rfl
  rw [h, mask_word]
  split
  · rfl
  · show Ideal.ofBits .f32 0xFF800000#32 = ⊥
    simp [Ideal.ofBits, Ideal.ieee]

section Row

variable {vis : ℕ → Prop} [DecidablePred vis] {σ : ℕ → ℝ} {V : ℕ → Fin 128 → EReal}

/-- One key block is one step of the running softmax. -/
theorem step_carried {N : ℕ} (st : State Ideal) (s : FVec Ideal S256x256 .f32) (v : Vec Ideal S1x1x256x128 .bf16) (r : Fin 256)
    (h : Carried vis σ V N (st.max (ix2 r 0)) (st.sum (ix2 r 0)) fun d => st.acc (ix2 r d))
    (hs : ∀ c : Fin 256, s (ix2 r c) = if vis (N + c) then (σ (N + c) : EReal) else ⊥)
    (hv : ∀ (c : Fin 256) (d : Fin 128), v (ix4 0 0 c d) = V (N + c) d) :
    Carried vis σ V (N + 256) ((step st s v).max (ix2 r 0)) ((step st s v).sum (ix2 r 0)) fun d => (step st s v).acc (ix2 r d) := by
  have hbot : Ideal.ofBits .f32 0xFF800000#32 = ⊥ := by simp [Ideal.ofBits, Ideal.ieee]
  have hm : (step st s v).max (ix2 r 0) = max (st.max (ix2 r 0)) (Finset.univ.fold max ⊥ fun c => s (ix2 r c)) := by
    pointwise [step, newMax]
    rw [hbot]
  have hα : rescale st.max s (ix2 r 0) = Ideal.exp2 (st.max (ix2 r 0) - (step st s v).max (ix2 r 0)) := by
    pointwise [rescale]
    rfl
  have hw : ∀ c, weights st.max s (ix2 r c) = Ideal.exp2 (s (ix2 r c) - (step st s v).max (ix2 r 0)) := fun c => by
    pointwise [weights]
    rfl
  have hl : (step st s v).sum (ix2 r 0) = Ideal.exp2 (st.max (ix2 r 0) - (step st s v).max (ix2 r 0)) * st.sum (ix2 r 0)
      + ∑ c, Ideal.exp2 (s (ix2 r c) - (step st s v).max (ix2 r 0)) := by
    rw [← hα, ← Finset.sum_congr rfl fun c _ => hw c]
    pointwise [step]
  have ha : ∀ d, (step st s v).acc (ix2 r d) = Ideal.exp2 (st.max (ix2 r 0) - (step st s v).max (ix2 r 0)) * st.acc (ix2 r d)
      + ∑ c : Fin 256, Ideal.exp2 (s (ix2 r c) - (step st s v).max (ix2 r 0)) * V (N + c) d := fun d => by
    rw [← hα, ← Finset.sum_congr rfl fun c _ => by rw [← hw c, ← hv c d]]
    pointwise [step]
  rw [hl, funext ha]
  exact carried_step vis σ V h (fun c => s (ix2 r c)) hs _ hm

variable (q : Vec Ideal S1x1x256x256 .bf16) (kn : ℕ → Vec Ideal S1x1x256x128 .bf16) (kr : ℕ → Vec Ideal S1x256x128 .bf16)
    (v : ℕ → Vec Ideal S1x1x256x128 .bf16) (n : ℕ) (r : Fin 256)

/-- The blocks before the diagonal one, all of whose keys are seen. -/
theorem before_carried (hs : ∀ j ≤ n, ∀ c : Fin 256, scores q (kn j) (kr j) (ix2 r c) = (σ (256 * j + c) : EReal))
    (hv : ∀ j ≤ n, ∀ (c : Fin 256) (d : Fin 128), v j (ix4 0 0 c d) = V (256 * j + c) d)
    (hvis : ∀ k < 256 * n, vis k) : ∀ j ≤ n,
    Carried vis σ V (256 * j) ((before q kn kr v j).max (ix2 r 0)) ((before q kn kr v j).sum (ix2 r 0)) fun d => (before q kn kr v j).acc (ix2 r d)
  | 0, _ => by
    have h0 : Ideal.ofBits .f32 0x00000000#32 = 0 := by simp [Ideal.ofBits, Ideal.ieee]
    obtain ⟨M, hM⟩ : ∃ M : ℝ, Ideal.ofBits .f32 0xF149F2CA#32 = M := by
      simp only [Ideal.ofBits, Ideal.ieee]
      norm_num
      exact ⟨_, rfl⟩
    have := carried_zero vis σ V M
    rw [← hM, ← h0] at this
    exact this
  | j + 1, hj => by
    refine step_carried (N := 256 * j) _ _ _ r (before_carried hs hv hvis j (by omega)) (fun c => ?_) (hv j (by omega))
    rw [hs j (by omega) c, if_pos (hvis _ (by omega))]

/-- What is stored for query `r` of block `n`: the values of the keys it sees, averaged with the weights. -/
theorem result_apply (hs : ∀ j ≤ n, ∀ c : Fin 256, scores q (kn j) (kr j) (ix2 r c) = (σ (256 * j + c) : EReal))
    (hv : ∀ j ≤ n, ∀ (c : Fin 256) (d : Fin 128), v j (ix4 0 0 c d) = V (256 * j + c) d) (d : Fin 128) :
    result q kn kr v n (ix3 0 r d) = ∑ k ∈ Finset.range (256 * n + 256),
      ((weight (fun k => k / 64 ≤ (256 * n + r) / 64) σ k
        / ∑ j ∈ Finset.range (256 * n + 256), weight (fun k => k / 64 ≤ (256 * n + r) / 64) σ j : ℝ) : EReal) * V k d := by
  have hafter : Carried (fun k => k / 64 ≤ (256 * n + r) / 64) σ V (256 * n + 256) ((after q kn kr v n).max (ix2 r 0))
      ((after q kn kr v n).sum (ix2 r 0)) fun d => (after q kn kr v n).acc (ix2 r d) := by
    refine step_carried (N := 256 * n) _ _ _ r (before_carried q kn kr v n r hs hv (fun k hk => by omega) n le_rfl) (fun c => ?_) (hv n le_rfl)
    rw [masked_apply, hs n le_rfl c]
    congr 1
    exact propext (by omega)
  have hpos : 0 < ∑ k ∈ Finset.range (256 * n + 256), weight (fun k => k / 64 ≤ (256 * n + r) / 64) σ k :=
    Finset.sum_pos' (fun k _ => weight_nonneg _ σ k) ⟨256 * n + r, Finset.mem_range.mpr (by omega), by
      unfold weight
      rw [if_pos le_rfl]
      positivity⟩
  rw [← carried_quotient _ σ V hafter hpos d]
  pointwise [result]

end Row

end Cert.KernelIdeal.Attn

end
-- ==== Proof.Attn.Pieces.lean ====
/- A grid point's stores, one per head and block of queries. -/
module

public import proofs.«01_k».proof.Proof.Attn.Step

@[expose] public section

set_option maxRecDepth 16384

noncomputable section

namespace Cert.KernelIdeal.Attn

open Cert.KernelIdeal Cert.KernelIdeal.Gen Idealize.ShloMosaic

variable {F : FTy → Type} [FloatOps F]

/-- The stores of a grid point, last first. -/
def stores : List (ℕ × ℕ) :=
  [(3, 7), (3, 6), (3, 5), (3, 4), (3, 3), (3, 2), (3, 1), (3, 0), (2, 7), (2, 6), (2, 5), (2, 4), (2, 3), (2, 2), (2, 1), (2, 0),
    (1, 7), (1, 6), (1, 5), (1, 4), (1, 3), (1, 2), (1, 1), (1, 0), (0, 7), (0, 6), (0, 5), (0, 4), (0, 3), (0, 2), (0, 1), (0, 0)]

/-- What the generated reading calls the point's result is these stores, laid over one another. -/
theorem out_eq (x0 : Vec F S1x4x2048x256 .bf16) (x1 : Vec F S1x4x2048x128 .bf16) (x2 : Vec F S1x2048x128 .bf16)
    (x3 : Vec F S1x4x2048x128 .bf16) :
    out0_4 x0 x1 x2 x3 = View.canon (stores.map fun p => ⟨rO p.1 p.2, piece x0 x1 x2 x3 p.1 p.2⟩) := rfl

end Cert.KernelIdeal.Attn
end
-- ==== Proof.Attn.Blocks.lean ====
/- The attention kernel's result array: each grid point stores four heads of one sequence, each store
   is a block of 256 queries, and every element is the attention's value there. -/
module

public import proofs.«01_k».proof.Proof.Attn.Spec
public import proofs.«01_k».proof.Proof.Attn.Rows
public import proofs.«01_k».proof.Proof.Attn.Pieces
public import Idealize.ShloMosaic.Lib.Pipeline.ValueKit.Geometry

@[expose] public section

set_option maxRecDepth 16384

noncomputable section

namespace Cert.KernelIdeal.Attn

open Cert.KernelIdeal Cert.KernelIdeal.Gen Cert.Attn Cert.Online Idealize.ShloMosaic Idealize.ShloMosaic.TcCoe Idealize.SL.Sem

section Loads

variable (h : Fin 4) (n : ℕ) (r : Fin 256)

theorem ldQ_apply (x : Vec Ideal S1x4x2048x256 .bf16) (d : Fin 256) :
    ldQ x h n (ix4 0 0 r d) = x (ix4 0 h (key (256 * (n % 8) + r)) d) :=
  congrArg x (funext fun a => Fin.ext (by
    fin_cases a <;> simp [Rect.emb_apply, key] <;> omega))

theorem ldK_apply (x : Vec Ideal S1x4x2048x128 .bf16) (d : Fin 128) :
    ldK x h n (ix4 0 0 r d) = x (ix4 0 h (key (256 * (n % 8) + r)) d) :=
  congrArg x (funext fun a => Fin.ext (by
    fin_cases a <;> simp [Rect.emb_apply, key] <;> omega))

theorem ldR_apply (x : Vec Ideal S1x2048x128 .bf16) (d : Fin 128) :
    ldR x n (ix3 0 r d) = x (ix3 0 (key (256 * (n % 8) + r)) d) :=
  congrArg x (funext fun a => Fin.ext (by
    fin_cases a <;> simp [Rect.emb_apply, key] <;> omega))

end Loads

/-- A store at a query and a feature is the attention there, where the point's blocks are sequence `b`'s and the head is head `H`. -/
theorem piece_apply {x0 : Vec Ideal S1x4x2048x256 .bf16} {x1 : Vec Ideal S1x4x2048x128 .bf16} {x2 : Vec Ideal S1x2048x128 .bf16}
    {x3 : Vec Ideal S1x4x2048x128 .bf16} {q : Queries} {kn : Keys} {kr : Shared} {v : Keys} (hr : RealArgs q kn kr) (b : Fin 16) (H : Fin 8) (h : Fin 4)
    (h0 : ∀ k x, x0 (ix4 0 h k x) = q (ix4 b H k x)) (h1 : ∀ k x, x1 (ix4 0 h k x) = kn (ix4 b H k x))
    (h2 : ∀ k x, x2 (ix3 0 k x) = kr (ix3 b k x)) (h3 : ∀ k x, x3 (ix4 0 h k x) = v (ix4 b H k x))
    (n : Fin 8) (r : Fin 256) (d : Fin 128) :
    piece x0 x1 x2 x3 h n (ix3 0 r d) = attend q kn kr v b H ⟨256 * n + r, by omega⟩ d := by
  rw [← attend_eq_range]
  refine result_apply (σ := realScore q kn kr b H ⟨256 * n + r, by omega⟩) (V := fun k d => v (ix4 b H (key k) d)) _ _ _ _ n r
    (fun j hj c => ?_) (fun j hj c d => ?_) d
  · have hk : key (256 * (j % 8) + c) = ⟨256 * j + c, by omega⟩ := by
      rw [Nat.mod_eq_of_lt (by omega : j < 8)]
      exact key_val _
    have hR : key (256 * (n.val % 8) + r) = ⟨256 * n + r, by omega⟩ := by
      rw [Nat.mod_eq_of_lt n.isLt]
      exact key_val _
    rw [scores_apply, ← score_eq b H hr ⟨256 * n + r, by omega⟩ ⟨256 * j + c, by omega⟩]
    simp only [ldQ_apply, ldK_apply, ldR_apply, hk, hR, h0, h1, h2]
    rfl
  · rw [ldK_apply, h3, Nat.mod_eq_of_lt (by omega : j < 8)]

/-- The result array. -/
def whole (q : Queries) (kn : Keys) (kr : Shared) (v : Keys) : S16x2048x1024.Idx → EReal := fun i =>
  attend q kn kr v (i 0) ⟨(i 2).val / 128, by have := (i 2).isLt; show _ < 8; change _ < 1024 at this; omega⟩ (i 1) ⟨(i 2).val % 128, Nat.mod_lt _ (by norm_num)⟩

theorem idx0 : ∀ t : Fin cfg0.N, win0_0.index t = ![t.val / 2, t.val % 2, 0, 0] := (by decide +kernel : ∀ t : Fin grid0.N, _)
theorem idx1 : ∀ t : Fin cfg0.N, win0_1.index t = ![t.val / 2, t.val % 2, 0, 0] := (by decide +kernel : ∀ t : Fin grid0.N, _)
theorem idx2 : ∀ t : Fin cfg0.N, win0_2.index t = ![t.val / 2, 0, 0] := (by decide +kernel : ∀ t : Fin grid0.N, _)
theorem idx3 : ∀ t : Fin cfg0.N, win0_3.index t = ![t.val / 2, t.val % 2, 0, 0] := (by decide +kernel : ∀ t : Fin grid0.N, _)
theorem idx4 : ∀ t : Fin cfg0.N, win0_4.index t = ![t.val / 2, 0, t.val % 2] := (by decide +kernel : ∀ t : Fin grid0.N, _)

/-- The attention at positions equal as numbers. -/
theorem attend_congr (q : Queries) (kn : Keys) (kr : Shared) (v : Keys) {b b' : Fin 16} {H H' : Fin 8} {R R' : Fin 2048} {d d' : Fin 128}
    (hb : b.val = b'.val) (hH : H.val = H'.val) (hR : R.val = R'.val) (hd : d.val = d'.val) : attend q kn kr v b H R d = attend q kn kr v b' H' R' d' := by
  rw [Fin.ext hb, Fin.ext hH, Fin.ext hR, Fin.ext hd]

/-- What a grid point's stores leave in its block. -/
theorem out_apply {x0 : Vec Ideal S1x4x2048x256 .bf16} {x1 : Vec Ideal S1x4x2048x128 .bf16} {x2 : Vec Ideal S1x2048x128 .bf16}
    {x3 : Vec Ideal S1x4x2048x128 .bf16} {q : Queries} {kn : Keys} {kr : Shared} {v : Keys} (hr : RealArgs q kn kr) (b : Fin 16) (g : Fin 2)
    (h0 : ∀ (h : Fin 4) k x, x0 (ix4 0 h k x) = q (ix4 b ⟨4 * g + h, by omega⟩ k x))
    (h1 : ∀ (h : Fin 4) k x, x1 (ix4 0 h k x) = kn (ix4 b ⟨4 * g + h, by omega⟩ k x))
    (h2 : ∀ k x, x2 (ix3 0 k x) = kr (ix3 b k x))
    (h3 : ∀ (h : Fin 4) k x, x3 (ix4 0 h k x) = v (ix4 b ⟨4 * g + h, by omega⟩ k x))
    (y : S1x2048x512.Idx) (R : Fin 2048) (hR : R.val = (y 1).val) (H : Fin 8) (d : Fin 128) (hd : 128 * H.val + d.val = 512 * g.val + (y 2).val) :
    out0_4 x0 x1 x2 x3 y = attend q kn kr v b H R d := by
  have hy0 := (y 0).isLt
  have hy1 := (y 1).isLt
  have hy2 := (y 2).isLt
  change _ < 1 at hy0
  change _ < 2048 at hy1
  change _ < 512 at hy2
  rw [out_eq]
  refine (View.canon_apply_of_pieces (fun y : S1x2048x512.Idx => attend q kn kr v b
    ⟨4 * g + (y 2).val / 128, by have := (y 2).isLt; change _ < 512 at this; omega⟩ (y 1) ⟨(y 2).val % 128, Nat.mod_lt _ (by norm_num)⟩)
    _ (fun p hp i => ?_) y ?_).trans ?_
  · obtain ⟨⟨h, n⟩, hs, rfl⟩ := List.mem_map.mp hp
    obtain ⟨hh, hn⟩ : h < 4 ∧ n < 8 := (by decide : ∀ p ∈ stores, p.1 < 4 ∧ p.2 < 8) _ hs
    idx_vars i
    have e0 : i0 = 0 := Subsingleton.elim _ _
    subst e0
    refine (piece_apply hr b ⟨4 * g + h, by omega⟩ ⟨h, hh⟩ (h0 ⟨h, hh⟩) (h1 ⟨h, hh⟩) h2 (h3 ⟨h, hh⟩) ⟨n, hn⟩ i1 i2).trans ?_
    have e1 : ((rO h n).emb (ix3 0 i1 i2) 1).val = 256 * n + i1.val := by
      simp [Rect.emb_apply]
      omega
    have e2 : ((rO h n).emb (ix3 0 i1 i2) 2).val = 128 * h + i2.val := by
      simp [Rect.emb_apply]
      omega
    refine attend_congr _ _ _ _ rfl ?_ e1.symm ?_
    · show 4 * g.val + h = 4 * g.val + ((rO h n).emb (ix3 0 i1 i2) 2).val / 128
      omega
    · show i2.val = ((rO h n).emb (ix3 0 i1 i2) 2).val % 128
      omega
  · have hmem : ∀ (h : Fin 4) (n : Fin 8), (h.val, n.val) ∈ stores := by decide
    refine ⟨_, List.mem_map.mpr ⟨_, hmem ⟨(y 2).val / 128, by omega⟩ ⟨(y 1).val / 256, by omega⟩, rfl⟩, ?_⟩
    show y ∈ (rO _ _).set
    unfold rO
    rw [Rect.mem_set_unit]
    intro a
    fin_cases a <;> simp [S1x256x128] <;> omega
  · exact attend_congr _ _ _ _ rfl (show 4 * g.val + (y 2).val / 128 = H.val by omega) hR.symm (show (y 2).val % 128 = d.val by omega)

/-- The result array after the run. -/
theorem arr_eq (m : (ℓ : Loc nD τ sig) → Buf (Elt Ideal) ℓ) (c : Dev nD)
    (hr : RealArgs (m ((c : Thread nD τ).loc main_arg0)) (m ((c : Thread nD τ).loc main_arg1)) (m ((c : Thread nD τ).loc main_arg2))) :
    (dats m 0 c).arrAt 4 cfg0.N = whole (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  have ht : t.val < 32 := t.isLt
  have hy2 := (y 2).isLt
  change _ < 512 at hy2
  refine (out_apply (v := m ((c : Thread nD τ).loc main_arg3)) hr ⟨t.val / 2, by omega⟩ ⟨t.val % 2, by omega⟩ (fun h k x => ?_) (fun h k x => ?_) (fun k x => ?_) (fun h k x => ?_) y
    (y 1) rfl ⟨4 * (t.val % 2) + (y 2).val / 128, by omega⟩ ⟨(y 2).val % 128, by omega⟩ (by simp; omega)).trans ?_
  · blk_simp [iblk]
    refine congrArg (m ((c : Thread nD τ).loc main_arg0)) ?_
    blk_ext [idx0]
  · blk_simp [iblk]
    refine congrArg (m ((c : Thread nD τ).loc main_arg1)) ?_
    blk_ext [idx1]
  · blk_simp [iblk]
    refine congrArg (m ((c : Thread nD τ).loc main_arg2)) ?_
    blk_ext [idx2]
  · blk_simp [iblk]
    refine congrArg (m ((c : Thread nD τ).loc main_arg3)) ?_
    blk_ext [idx3]
  · have e0 : ((win0_4.blk t).view.emb y 0).val = t.val / 2 + (y 0).val := by blk_simp [idx4]
    have e1 : ((win0_4.blk t).view.emb y 1).val = (y 1).val := by blk_simp [idx4]
    have e2 : ((win0_4.blk t).view.emb y 2).val = t.val % 2 * 512 + (y 2).val := by blk_simp [idx4]
    have hy0 := (y 0).isLt
    change _ < 1 at hy0
    refine attend_congr _ _ _ _ ?_ ?_ e1.symm ?_
    · show t.val / 2 = ((win0_4.blk t).view.emb y 0).val
      omega
    · show 4 * (t.val % 2) + (y 2).val / 128 = ((win0_4.blk t).view.emb y 2).val / 128
      omega
    · show (y 2).val % 128 = ((win0_4.blk t).view.emb y 2).val % 128
      omega

end Cert.KernelIdeal.Attn

end
-- ==== Proof.Attn.Reference.lean ====
/- The reference's attention, read at one query and one feature. -/
module

public import proofs.«01_k».proof.Proof.Attn.Spec
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Cert.Attn Cert.Online Idealize.ShloMosaic

variable (q : Queries) (kn : Keys) (kr : Shared) (v : Keys) (b : Fin 16) (h : Fin 8) (R k : Fin 2048)

/-- The product of the queries with the keys is the score. -/
theorem v8_apply : val_main_v8 (F := Ideal) q kn kr (ix4 b h R k) = score q kn kr b h R k := by
  pointwise [val_main_v8, val_main_v5, val_main_v7, val_main_v4, val_main_v6, val_main_v0, val_main_v1, val_main_v2]
  rfl

/-- The floor division of a position by 64, as the host's words spell it. -/
theorem floorWord : ∀ k : Fin 2048, Scalar.select
      (IntOp.andi
        (IntOp.cmpi .ne (if BitVec.ofNat 32 k = 0 then (0 : BitVec 32) else if (BitVec.ofNat 32 k).msb = true then -1 else 1)
          (if (64#32 : BitVec 32) = 0 then (0 : BitVec 32) else if (64#32 : BitVec 32).msb = true then -1 else 1))
        (IntOp.cmpi .ne (IntOp.remsi .host (BitVec.ofNat 32 k) 64#32) 0#32))
      (IntOp.subi (IntOp.divsi .host (BitVec.ofNat 32 k) 64#32) 1#32) (IntOp.divsi .host (BitVec.ofNat 32 k) 64#32)
    = BitVec.ofNat 32 (k.val / 64) := by decide +kernel

/-- The chunk of a position. -/
theorem v13_apply : val_main_v13 (F := Ideal) (ix1 k) = BitVec.ofNat 32 (k.val / 64) := by
  pointwise [val_main_v13, val_main_call0_v0, val_main_call0_v1, val_main_call0_v2, val_main_call0_v3, val_main_call0_v4, val_main_call0_v5,
    val_main_call0_v6, val_main_call0_v7, val_main_call0_v8, val_main_call0_v9, val_main_call0_v10, val_main_call0_v11, val_main_call0_v12,
    val_main_call0_v13, val_main_call0_c, val_main_call0_c_0, val_main_c, val_main_v12]
  exact floorWord k

/-- Which keys a query sees. -/
theorem v18_apply : val_main_v18 (F := Ideal) (ix2 R k) = if k.val / 64 ≤ R.val / 64 then 1#1 else 0#1 := by
  have e : val_main_v18 (F := Ideal) (ix2 R k) = IntOp.cmpi .sle (val_main_v13 (F := Ideal) (ix1 k)) (val_main_v13 (F := Ideal) (ix1 R)) := by
    pointwise [val_main_v18, val_main_v17, val_main_v16, val_main_v15, val_main_v14]
  have w : ∀ a b : Fin 32, IntOp.cmpi .sle (BitVec.ofNat 32 a) (BitVec.ofNat 32 b) = if a.val ≤ b.val then 1#1 else 0#1 := by decide +kernel
  rw [e, v13_apply, v13_apply]
  exact w ⟨k.val / 64, by omega⟩ ⟨R.val / 64, by omega⟩

/-- The masked scores, in the natural exponential's units. -/
theorem v19_apply : val_main_v19 (F := Ideal) q kn kr (ix4 b h R k)
    = if k.val / 64 ≤ R.val / 64 then score q kn kr b h R k * (Real.log 2 : ℝ) else ⊥ := by
  have e : val_main_v19 (F := Ideal) q kn kr (ix4 b h R k) = Scalar.select (val_main_v18 (F := Ideal) (ix2 R k))
      (val_main_v8 (F := Ideal) q kn kr (ix4 b h R k) * Ideal.log (Ideal.ofBits .f32 0x40000000#32)) (Ideal.ofBits .f32 0xFF800000#32) := by
    pointwise [val_main_v19, val_main_call1_v0, val_main_call1_v1, val_main_call1_v2, val_main_v11, val_main_v10, val_main_v9, val_main_cst, val_main_cst_0]
    rfl
  have h2 : Ideal.ofBits .f32 0x40000000#32 = ((2 : ℝ) : EReal) := by
    simp [Ideal.ofBits, Ideal.ieee, ← EReal.coe_mul]
    norm_num
  have hb : Ideal.ofBits .f32 0xFF800000#32 = ⊥ := by simp [Ideal.ofBits, Ideal.ieee]
  rw [e, v18_apply, v8_apply, h2, hb, Ideal.log_coe, if_neg (by norm_num : ¬ (2 : ℝ) ≤ 0)]
  by_cases hk : k.val / 64 ≤ R.val / 64
  · rw [if_pos hk, if_pos hk]
    rfl
  · rw [if_neg hk, if_neg hk]
    rfl

/-- The greatest of a row. -/
theorem rowMax_apply (y : FVec Ideal S16x8x2048x2048 .f32) : Host.reduce FloatOps.maximumf y (constant S_ .f32 0xFF800000#32)
      reducesTo_S16x8x2048x2048_S16x8x2048_d3 h_S_ (ix3 b h R) = Finset.univ.fold max ⊥ fun k => y (ix4 b h R k) := by
  have hb : Ideal.ofBits .f32 0xFF800000#32 = ⊥ := by simp [Ideal.ofBits, Ideal.ieee]
  pointwise
  rw [hb]

/-- The greatest score of a query. -/
theorem v22_apply : val_main_v22 (F := Ideal) q kn kr (ix3 b h R) = Finset.univ.fold max ⊥ fun k => val_main_v19 (F := Ideal) q kn kr (ix4 b h R k) := by
  have hb : Ideal.ofBits .f32 0xFF800000#32 = ⊥ := by simp [Ideal.ofBits, Ideal.ieee]
  rw [val_main_v22_apply, val_main_v21_apply, val_main_cst_2_apply]
  have e : val_main_v20 (F := Ideal) q kn kr (ix3 b h R) = Finset.univ.fold max ⊥ fun k => val_main_v19 (F := Ideal) q kn kr (ix4 b h R k) :=
    rowMax_apply b h R _
  rw [e]
  generalize (Finset.univ.fold max ⊥ fun k => val_main_v19 (F := Ideal) q kn kr (ix4 b h R k)) = w
  show max (Ideal.ofBits .f32 0xFF800000#32) w = w
  rw [hb, bot_sup_eq]

/-- The exponential of a score. -/
theorem v26_apply : val_main_v26 (F := Ideal) q kn kr (ix4 b h R k)
    = Ideal.exp (val_main_v19 (F := Ideal) q kn kr (ix4 b h R k) - Finset.univ.fold max ⊥ fun k => val_main_v19 (F := Ideal) q kn kr (ix4 b h R k)) := by
  rw [← v22_apply]
  pointwise [val_main_v26, val_main_v25, val_main_v24, val_main_v23]

/-- The softmax of a query's scores. -/
theorem v30_apply (H : RealArgs q kn kr) : val_main_v30 (F := Ideal) q kn kr (ix4 b h R k)
    = ((weight (fun k => k / 64 ≤ R.val / 64) (realScore q kn kr b h R) k
      / ∑ j ∈ Finset.range 2048, weight (fun k => k / 64 ≤ R.val / 64) (realScore q kn kr b h R) j : ℝ) : EReal) := by
  have e : val_main_v30 (F := Ideal) q kn kr (ix4 b h R k) = Ideal.div (val_main_v26 (F := Ideal) q kn kr (ix4 b h R k))
      (∑ k, val_main_v26 (F := Ideal) q kn kr (ix4 b h R k)) := by
    pointwise [val_main_v30, val_main_v29, val_main_v28, val_main_v27, val_main_cst_3]
  rw [e, ← softmax_eq (fun k => k / 64 ≤ R.val / 64) (realScore q kn kr b h R) 2048 (fun k => val_main_v19 (F := Ideal) q kn kr (ix4 b h R k))
    (fun k => by rw [v19_apply, score_eq b h H]) ⟨R, le_rfl⟩ k]
  simp only [v26_apply]

/-- The reference's result is the attention. -/
theorem v34_apply (H : RealArgs q kn kr) (i : S16x2048x1024.Idx) (d : Fin 128) (hi : (i 2).val = 128 * h.val + d.val) :
    val_main_v34 (F := Ideal) q kn kr v i = attend q kn kr v (i 0) h (i 1) d := by
  have e : val_main_v34 (F := Ideal) q kn kr v i = val_main_v31 (F := Ideal) q kn kr v (ix4 (i 0) h d (i 1)) := by
    rw [val_main_v34_apply, val_main_v33_apply, val_main_v32_apply]
    refine congrArg (val_main_v31 (F := Ideal) q kn kr v) (funext fun a => Fin.ext ?_)
    have h0 : (i 0).val < 16 := (i 0).isLt
    have h1 : (i 1).val < 2048 := (i 1).isLt
    fin_cases a
    · show (((i 0).val * 2048 + (i 1).val) * 1024 + (i 2).val) / 2097152 = (i 0).val
      omega
    · show (((i 0).val * 2048 + (i 1).val) * 1024 + (i 2).val) / 128 % 8 = h.val
      omega
    · show (((i 0).val * 2048 + (i 1).val) * 1024 + (i 2).val) % 128 = d.val
      omega
    · show (((i 0).val * 2048 + (i 1).val) * 1024 + (i 2).val) / 1024 % 2048 = (i 1).val
      omega
  rw [e]
  have e' : val_main_v31 (F := Ideal) q kn kr v (ix4 (i 0) h d (i 1))
      = ∑ k : Fin 2048, v (ix4 (i 0) h k d) * val_main_v30 (F := Ideal) q kn kr (ix4 (i 0) h (i 1) k) := by
    pointwise [val_main_v31, val_main_v3]
  rw [e']
  exact Finset.sum_congr rfl fun k _ => (mul_comm _ _).trans (congrArg (· * v (ix4 (i 0) h k d)) (v30_apply q kn kr (i 0) h (i 1) k H))

end Cert.ReferenceIdeal.Attn

end
-- ==== Proof.Attn.Finite.lean ====
/- What the precondition says: the queries and the keys are real numbers. -/
module

public import proofs.«01_k».proof.Defs
public import proofs.«01_k».proof.Proof.Attn.Spec
public import proofs.«01_k».proof.Proof.Gen.Pre_finite
public import proofs.«01_k».proof.Proof.Gen.KernelIdeal

@[expose] public section

set_option maxRecDepth 16384

noncomputable section

namespace Cert.Attn

open Idealize.ShloMosaic Idealize.ShloMosaic.TcCoe Idealize.SL.Sem

/-- A value whose absolute value is below infinity is a real number. -/
theorem real_of_lt (x : EReal) (h : FloatOps.cmpf (F := Ideal) (φ := .bf16) .olt (max x (-x)) (Ideal.ofBits .bf16 0x7F80#16) = 1#1) : ∃ r : ℝ, x = r := by
  have ht : Ideal.ofBits .bf16 0x7F80#16 = ⊤ := by simp [Ideal.ofBits, Ideal.ieee]
  rw [ht] at h
  induction x with
  | bot => simp [FloatOps.cmpf, Ideal.cmp] at h
  | top => simp [FloatOps.cmpf, Ideal.cmp] at h
  | coe r => exact ⟨r, rfl⟩

/-- So under the precondition the arguments are. -/
theorem real_args (m : (ℓ : Loc Cert.KernelIdeal.nD Cert.KernelIdeal.τ Cert.KernelIdeal.sig) → Buf (Elt Ideal) ℓ) (hm : Pre_KernelIdeal_finite m)
    (c : Dev Cert.KernelIdeal.nD) : RealArgs (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)) where
  q i := real_of_lt _ (congrFun (hm c).1 i)
  kn i := real_of_lt _ (congrFun (hm c).2.1 i)
  kr i := real_of_lt _ (congrFun (hm c).2.2 i)

end Cert.Attn

end
-- ==== Proof.Attn.Claims.lean ====
/- The claims about the attention: the frames, and the equality of the kernel's result with the reference's. -/
module

public import proofs.«01_k».proof.Defs
public import proofs.«01_k».proof.Proof.Attn.Blocks
public import proofs.«01_k».proof.Proof.Attn.Reference
public import proofs.«01_k».proof.Proof.Attn.Finite
public import proofs.«01_k».proof.Proof.Gen.Kernel.Frame
public import Idealize.ShloMosaic.Adequacy
public import Idealize.ShloMosaic.Init

@[expose] public section

set_option maxRecDepth 16384

noncomputable section

namespace Cert.Attn

open Idealize.ShloMosaic Idealize.ShloMosaic.TcCoe Idealize.SL.Sem

/-- The kernel runs and keeps its arguments. -/
theorem frame_kernel : quiescent_Kernel := fun m ρ _ => Cert.Kernel.Gen.frame m ρ

/-- So does the kernel at extended reals. -/
theorem frame_ideal : quiescent_KernelIdeal := fun m ρ _ => Cert.KernelIdeal.Gen.frame m ρ

/-- So does the reference, which has no semaphores. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's result array is the attention too. -/
theorem reference_eq (q : Queries) (kn : Keys) (kr : Shared) (v : Keys) (H : RealArgs q kn kr) :
    Cert.ReferenceIdeal.Read.val_main_v34 (F := Ideal) q kn kr v = Cert.KernelIdeal.Attn.whole q kn kr v :=
  funext fun i => Cert.ReferenceIdeal.Attn.v34_apply q kn kr v _ H i _ (Nat.div_add_mod _ _).symm

/-- Kernel and reference compute the same array wherever queries and keys are finite. -/
theorem equal : algebraic_KernelIdeal_ReferenceIdeal_pre_finite := by
  intro m ρ m' ρ' hm hagree
  refine ⟨fun c => Cert.KernelIdeal.Attn.whole (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Attn.arr_eq m c (real_args m hm c)), (h c).2⟩) (Cert.KernelIdeal.Value.run_blocks m ρ)
  · refine (θ_run Cert.ReferenceIdeal.defs _ _).mono (fun r h c => ⟨(h c).1.trans ?_, (h c).2⟩) (Cert.ReferenceIdeal.Value.run m' ρ')
    obtain ⟨e0, e1, e2, e3⟩ := hagree c
    rw [Cert.ReferenceIdeal.Read.val_main_v34_eq, e0, e1, e2, e3]
    exact reference_eq _ _ _ _ (real_args m hm c)

end Cert.Attn

end
-- ==== Proof.Ffn.Carry.lean ====
/- The buffer that carries features between the blocks of a sequence: its first 8 rows hold the last 8
   of the block before, the other 512 the block's own. It is filled 256 columns at a time, and as
   soon as columns have been read back, their last 8 rows move to the front. -/
module

public import proofs.«01_k».proof.Proof.Gen.Kernel2Ideal.Value
public import Idealize.ShloMosaic.Lib.Pointwise
public import Idealize.ShloMosaic.Lib.WritesUnit

@[expose] public section

set_option maxRecDepth 16384

noncomputable section

namespace Cert.Kernel2Ideal.Ffn

open Cert.Kernel2Ideal Cert.Kernel2Ideal.Gen Idealize.ShloMosaic

variable {sig : RefSig} {κ : Kind} {sp : Space} (v : View sig κ sp S520x2816 .f32) (f : v.ty.Contents (Elt Ideal))
  (a : ℕ → ℕ → EReal) (j : ℕ) (L : List (View.Piece (Elt Ideal) S520x2816 .f32))

/-- From column `256 j` on, the first 8 rows hold what the block began with. -/
def Front : Prop :=
  ∀ y : S520x2816.Idx, (y 0).val < 8 → 256 * j ≤ (y 1).val → v.read (Elt Ideal) (v.writes (Elt Ideal) f L) y = a (y 0) (y 1)

/-- Before column `256 j`, the first 8 rows hold the last 8 of the block. -/
def Moved : Prop :=
  ∀ y : S520x2816.Idx, (y 0).val < 8 → (y 1).val < 256 * j → v.read (Elt Ideal) (v.writes (Elt Ideal) f L) y = a (512 + y 0) (y 1)

variable {v f a j L}

theorem Front.step (h : Front v f a j L) {off off' : Fin 2 → ℕ} {inb inb'}
    {w : (Rect.unit (s := S520x2816) off ![8, 256] inb).shape.Idx → EReal} {w' : (Rect.unit (s := S520x2816) off' ![512, 256] inb').shape.Idx → EReal}
    (ho : off = ![0, 256 * j]) (ho' : off' = ![8, 256 * j]) :
    Front v f a (j + 1) ((⟨Rect.unit off ![8, 256] inb, w⟩ : View.Piece (Elt Ideal) S520x2816 .f32) :: ⟨Rect.unit off' ![512, 256] inb', w'⟩ :: L) := by
  intro y h0 h1
  rw [View.read_writes_cons_unit_of_not_mem v f inb w _ y ho (1 : Fin 2) (Or.inr (by show 256 * j + 256 ≤ (y 1).val; omega)),
    View.read_writes_cons_unit_of_not_mem v f inb' w' _ y ho' (1 : Fin 2) (Or.inr (by show 256 * j + 256 ≤ (y 1).val; omega))]
  exact h y h0 (by omega)

theorem Moved.step (h : Moved v f a j L) {off off' : Fin 2 → ℕ} {inb inb'}
    {w : (Rect.unit (s := S520x2816) off ![8, 256] inb).shape.Idx → EReal} {w' : (Rect.unit (s := S520x2816) off' ![512, 256] inb').shape.Idx → EReal}
    (ho : off = ![0, 256 * j]) (ho' : off' = ![8, 256 * j]) (hw : ∀ (r : Fin 8) (c : Fin 256), w (ix2 r c) = a (512 + r) (256 * j + c)) :
    Moved v f a (j + 1) ((⟨Rect.unit off ![8, 256] inb, w⟩ : View.Piece (Elt Ideal) S520x2816 .f32) :: ⟨Rect.unit off' ![512, 256] inb', w'⟩ :: L) := by
  intro y h0 h1
  by_cases hc : 256 * j ≤ (y 1).val
  · refine (View.read_writes_cons_unit_of_mem v f inb w _ y (ix2 (⟨(y 0).val, h0⟩ : Fin 8) (⟨(y 1).val - 256 * j, by omega⟩ : Fin 256)) ho fun i => ?_).trans
      ((hw _ _).trans ?_)
    · fin_cases i
      · show (y 0).val = 0 + (y 0).val
        omega
      · show (y 1).val = 256 * j + ((y 1).val - 256 * j)
        omega
    · show a (512 + (y 0).val) (256 * j + ((y 1).val - 256 * j)) = _
      rw [Nat.add_sub_cancel' hc]
  · rw [View.read_writes_cons_unit_of_not_mem v f inb w _ y ho (1 : Fin 2) (Or.inl (by show (y 1).val < 256 * j; omega)),
      View.read_writes_cons_unit_of_not_mem v f inb' w' _ y ho' (1 : Fin 2) (Or.inl (by show (y 1).val < 256 * j; omega))]
    exact h y h0 (by omega)

/-- Reading `i` rows back. -/
theorem Front.load (h : Front v f a j L) {off off' : Fin 2 → ℕ} {inb inb'} {w' : (Rect.unit (s := S520x2816) off' ![512, 256] inb').shape.Idx → EReal}
    (i : ℕ) (hi : i < 8) (ho : off = ![i, 256 * j]) (ho' : off' = ![8, 256 * j])
    (hw : ∀ (r : Fin 512) (c : Fin 256), w' (ix2 r c) = a (8 + r) (256 * j + c)) (r : Fin 512) (c : Fin 256) :
    v.readAt (Elt Ideal) (Rect.unit (s := S520x2816) off ![512, 256] inb).toLoadRect
      (v.writes (Elt Ideal) f ((⟨Rect.unit off' ![512, 256] inb', w'⟩ : View.Piece (Elt Ideal) S520x2816 .f32) :: L)) (ix2 r c) = a (i + r) (256 * j + c) := by
  subst ho
  have hb := inb 1
  change 256 * j + 256 ≤ 2816 at hb
  have e : (Rect.unit (s := S520x2816) ![i, 256 * j] ![512, 256] inb).toLoadRect.idx (ix2 r c)
      = ix2 (⟨i + r, by omega⟩ : Fin 520) (⟨256 * j + c, by omega⟩ : Fin 2816) := funext fun k => Fin.ext (by
    fin_cases k
    · show i + 1 * r.val = i + r.val
      omega
    · show 256 * j + 1 * c.val = 256 * j + c.val
      omega)
  show v.read (Elt Ideal) (v.writes (Elt Ideal) f _) ((Rect.unit (s := S520x2816) ![i, 256 * j] ![512, 256] inb).toLoadRect.idx (ix2 r c)) = _
  rw [e]
  by_cases hc : 8 ≤ i + r.val
  · refine (View.read_writes_cons_unit_of_mem v f inb' w' _ _ (ix2 (⟨i + r - 8, by omega⟩ : Fin 512) c) ho' fun k => ?_).trans ((hw _ _).trans ?_)
    · fin_cases k
      · show i + r.val = 8 + (i + r.val - 8)
        omega
      · show 256 * j + c.val = 256 * j + c.val
        rfl
    · show a (8 + (i + r.val - 8)) _ = _
      rw [Nat.add_sub_cancel' hc]
  · rw [View.read_writes_cons_unit_of_not_mem v f inb' w' _ _ ho' (0 : Fin 2) (Or.inl (by show i + r.val < 8; omega))]
    exact h _ (by show i + r.val < 8; omega) (by show 256 * j ≤ 256 * j + c.val; omega)

/-- Reading the last 8 rows. -/
theorem tail_load {off off' : Fin 2 → ℕ} {inb inb'} {w' : (Rect.unit (s := S520x2816) off' ![512, 256] inb').shape.Idx → EReal}
    (ho : off = ![512, 256 * j]) (ho' : off' = ![8, 256 * j])
    (hw : ∀ (r : Fin 512) (c : Fin 256), w' (ix2 r c) = a (8 + r) (256 * j + c)) (r : Fin 8) (c : Fin 256) :
    v.readAt (Elt Ideal) (Rect.unit (s := S520x2816) off ![8, 256] inb).toLoadRect
      (v.writes (Elt Ideal) f ((⟨Rect.unit off' ![512, 256] inb', w'⟩ : View.Piece (Elt Ideal) S520x2816 .f32) :: L)) (ix2 r c) = a (512 + r) (256 * j + c) := by
  subst ho
  have hb := inb 1
  change 256 * j + 256 ≤ 2816 at hb
  have e : (Rect.unit (s := S520x2816) ![512, 256 * j] ![8, 256] inb).toLoadRect.idx (ix2 r c)
      = ix2 (⟨512 + r, by omega⟩ : Fin 520) (⟨256 * j + c, by omega⟩ : Fin 2816) := funext fun k => Fin.ext (by
    fin_cases k
    · show 512 + 1 * r.val = 512 + r.val
      omega
    · show 256 * j + 1 * c.val = 256 * j + c.val
      omega)
  show v.read (Elt Ideal) (v.writes (Elt Ideal) f _) ((Rect.unit (s := S520x2816) ![512, 256 * j] ![8, 256] inb).toLoadRect.idx (ix2 r c)) = _
  rw [e]
  refine (View.read_writes_cons_unit_of_mem v f inb' w' _ _ (ix2 (⟨504 + r, by omega⟩ : Fin 512) c) ho' fun k => ?_).trans ((hw _ _).trans ?_)
  · fin_cases k
    · show 512 + r.val = 8 + (504 + r.val)
      omega
    · show 256 * j + c.val = 256 * j + c.val
      rfl
  · show a (8 + (504 + r.val)) _ = a (512 + r.val) _
    rw [show 8 + (504 + r.val) = 512 + r.val by omega]

end Cert.Kernel2Ideal.Ffn

end
-- ==== Proof.Ffn.Spec.lean ====
/- The output projection and the feed-forward part, said once at extended reals for both programs: the
   residual, the normalized and modulated hidden features, their projection, the causal convolution
   over three positions, the gated activation and the result. -/
module

public import Idealize.ShloMosaic.Lib.Pointwise

@[expose] public section

set_option maxRecDepth 16384

noncomputable section

namespace Cert.Ffn

open Idealize.ShloMosaic

/-- The arguments: 16 sequences of 2048 positions and 1024 features, the modulation's six parts side by side, and the weights per layer. -/
structure Args where
  x : Vec Ideal ⟨3, ![16, 2048, 1024]⟩ .f32
  u : Vec Ideal ⟨3, ![16, 2048, 1024]⟩ .bf16
  mod : Vec Ideal ⟨3, ![4, 16, 6144]⟩ .f32
  wOut : Vec Ideal ⟨3, ![2, 1024, 1024]⟩ .f32
  wUp : Vec Ideal ⟨3, ![4, 1024, 5632]⟩ .f32
  convW : Vec Ideal ⟨3, ![4, 3, 2816]⟩ .f32
  convB : Vec Ideal ⟨2, ![4, 2816]⟩ .f32
  wDown : Vec Ideal ⟨3, ![4, 2816, 1024]⟩ .f32

variable (A : Args) (b : Fin 16) (s : Fin 2048)

/-- A feature of one of the modulation's six parts. -/
def part (p : Fin 6) (d : Fin 1024) : EReal := A.mod (ix3 0 b ⟨1024 * p + d, by omega⟩)

/-- The residual after the output projection. -/
def resid (d : Fin 1024) : EReal :=
  A.x (ix3 b s d) + part A b 2 d * ∑ k : Fin 1024, A.u (ix3 b s k) * A.wOut (ix3 0 k d)

/-- The reciprocal root of the mean square. -/
def scale : EReal :=
  Ideal.rsqrt (Ideal.div (∑ k : Fin 1024, resid A b s k * resid A b s k) (Ideal.ofBits .f32 0x44800000#32) + Ideal.ofBits .f32 0x358637BD#32)

/-- The hidden features. -/
def hidden (d : Fin 1024) : EReal :=
  resid A b s d * scale A b s * (1 + part A b 4 d) + part A b 3 d

/-- Their projection: 2816 features to convolve, then 2816 gates. -/
def up (n : Fin 5632) : EReal := ∑ k : Fin 1024, hidden A b s k * A.wUp (ix3 0 k n)

/-- A feature to convolve, `i` positions back: nothing precedes a sequence. -/
def back (i : ℕ) (n : Fin 2816) : EReal := if i ≤ s.val then up A b ⟨s - i, by omega⟩ ⟨n, by omega⟩ else 0

/-- The convolution. -/
def conv (n : Fin 2816) : EReal :=
  A.convW (ix3 0 0 n) * back A b s 2 n + A.convW (ix3 0 1 n) * back A b s 1 n + A.convW (ix3 0 2 n) * up A b s ⟨n, by omega⟩ + A.convB (ix2 0 n)

/-- The activation, gated. -/
def act (n : Fin 2816) : EReal :=
  Ideal.ofBits .f32 0x3F000000#32 * conv A b s n
    * (1 + Ideal.erf (conv A b s n * Ideal.ofBits .f32 0x3F3504F3#32)) * up A b s ⟨2816 + n, by omega⟩

/-- The result. -/
def result (d : Fin 1024) : EReal :=
  resid A b s d + part A b 5 d * ∑ n : Fin 2816, act A b s n * A.wDown (ix3 0 n d)

/-- The result array. -/
def whole : (⟨3, ![16, 2048, 1024]⟩ : Shape).Idx → EReal := fun i => result A (i 0) (i 1) (i 2)

end Cert.Ffn

end
-- ==== Proof.Ffn.Chunk.lean ====
/- The feed-forward kernel's arithmetic over one block of 512 positions, named and read at one element. -/
module

public import proofs.«01_k».proof.Proof.Ffn.Spec
public import proofs.«01_k».proof.Proof.Gen.Kernel2Ideal.Value

@[expose] public section

set_option maxRecDepth 16384

noncomputable section

namespace Cert.Kernel2Ideal.Ffn

open Cert.Kernel2Ideal Cert.Kernel2Ideal.Gen Cert.Ffn Idealize.ShloMosaic

/-- 256 columns of the projection. -/
def projOf (h : FVec Ideal S512x1024 .bf16) (w : Vec Ideal S1x1024x256 .bf16) : FVec Ideal S512x256 .f32 :=
  matmul dot_S512x1024_S1024x256_S512x256_1_0_0_1_n_n none h (shapeCast S1024x256 w shapeCasts_S1x1024x256_S1024x256 : FVec Ideal S1024x256 .bf16) (constant S512x256 .f32 0x00000000#32)

/-- A row over all positions. -/
def rowOf (w : Vec Ideal S1x1x256 .f32) : FVec Ideal S512x256 .f32 :=
  broadcastTo S512x256 (shapeCast S1x256 w shapeCasts_S1x1x256_S1x256) broadcasts_S1x256_S512x256

/-- 256 columns of the convolution, from the features here, one and two positions back. -/
def convOf (cur one two : Vec Ideal S512x256 .f32) (w0 w1 w2 wb : Vec Ideal S1x1x256 .f32) : FVec Ideal S512x256 .f32 :=
  addf (addf (addf (mulf (rowOf w0) two) (mulf (rowOf w1) one)) (mulf (rowOf w2) cur)) (rowOf wb)

/-- 256 columns of the gated activation. -/
def actOf (cur gate one two : Vec Ideal S512x256 .f32) (w0 w1 w2 wb : Vec Ideal S1x1x256 .f32) : FVec Ideal S512x256 .bf16 :=
  shapeCast S512x256 (truncf .bf16 (mulf (mulf (mulf (broadcast S512x256 (Scalar.ofBits .f32 0x3F000000#32)) (convOf cur one two w0 w1 w2 wb))
    (addf (broadcast S512x256 (Scalar.ofBits .f32 0x3F800000#32))
      (erf (mulf (convOf cur one two w0 w1 w2 wb) (broadcast S512x256 (Scalar.ofBits .f32 0x3F3504F3#32)))))) gate) bitsLt_bf16_f32) shapeCasts_S512x256_S512x256

/-- The hidden features. -/
def hiddenOf (x0 : Vec Ideal S1x512x1024 .f32) (x1 : Vec Ideal S1x512x1024 .bf16) (x2 : Vec Ideal S1x1024x1024 .bf16) (x3 x4 x5 : Vec Ideal S1x1x1x1x1024 .f32) :
    FVec Ideal S512x1024 .bf16 :=
  k0_pay8 (k0_pay3 x4) (k0_pay4 x5) (k0_pay6 x0 x1 x3 x2) (k0_pay7 x0 x1 x3 x2)

/-- The result, in four pieces of 256 columns. -/
def outOf (gf : FVec Ideal S1x1024 .f32) (res : FVec Ideal S512x1024 .f32) (p : Vec Ideal S512x2816 .bf16) (w0 w1 w2 w3 : Vec Ideal S1x2816x256 .bf16) :
    FVec Ideal S512x1024 .f32 :=
  k0_pay76 gf res (k0_pay75 gf res p w0) p w1 p w2 p w3

/-- The blocks a grid point reads: block `T` of sequence `b`, and the weights. -/
structure Blocks (A : Args) (b : Fin 16) (T : Fin 4) (x0 : Vec Ideal S1x512x1024 .f32) (x1 : Vec Ideal S1x512x1024 .bf16) (x2 : Vec Ideal S1x1024x1024 .bf16)
    (x3 x4 x5 x6 : Vec Ideal S1x1x1x1x1024 .f32) (x7 : Vec Ideal S1x1024x5632 .bf16) (x8 : Vec Ideal S1x3x2816 .f32) (x9 : Vec Ideal S1x1x2816 .f32)
    (x10 : Vec Ideal S1x2816x1024 .bf16) : Prop where
  h0 : ∀ (r : Fin 512) d, x0 (ix3 0 r d) = A.x (ix3 b ⟨512 * T + r, by omega⟩ d)
  h1 : ∀ (r : Fin 512) d, x1 (ix3 0 r d) = A.u (ix3 b ⟨512 * T + r, by omega⟩ d)
  h2 : ∀ k d, x2 (ix3 0 k d) = A.wOut (ix3 0 k d)
  h3 : ∀ d, x3 (ix5 0 0 0 0 d) = part A b 2 d
  h4 : ∀ d, x4 (ix5 0 0 0 0 d) = part A b 4 d
  h5 : ∀ d, x5 (ix5 0 0 0 0 d) = part A b 3 d
  h6 : ∀ d, x6 (ix5 0 0 0 0 d) = part A b 5 d
  h7 : ∀ k n, x7 (ix3 0 k n) = A.wUp (ix3 0 k n)
  h8 : ∀ i n, x8 (ix3 0 i n) = A.convW (ix3 0 i n)
  h9 : ∀ n, x9 (ix3 0 0 n) = A.convB (ix2 0 n)
  h10 : ∀ n d, x10 (ix3 0 n d) = A.wDown (ix3 0 n d)

section Apply

variable {A : Args} {b : Fin 16} {T : Fin 4} {x0 : Vec Ideal S1x512x1024 .f32} {x1 : Vec Ideal S1x512x1024 .bf16} {x2 : Vec Ideal S1x1024x1024 .bf16}
  {x3 x4 x5 x6 : Vec Ideal S1x1x1x1x1024 .f32} {x7 : Vec Ideal S1x1024x5632 .bf16} {x8 : Vec Ideal S1x3x2816 .f32} {x9 : Vec Ideal S1x1x2816 .f32}
  {x10 : Vec Ideal S1x2816x1024 .bf16} (H : Blocks A b T x0 x1 x2 x3 x4 x5 x6 x7 x8 x9 x10) (r : Fin 512)

/-- A position of the block. -/
abbrev pos (T : Fin 4) (r : Fin 512) : Fin 2048 := ⟨512 * T + r, by omega⟩

include H

theorem resid_apply (d : Fin 1024) : k0_pay6 x0 x1 x3 x2 (ix2 r d) = resid A b (pos T r) d := by
  unfold resid
  rw [← H.h0, ← H.h3]
  simp only [← H.h1, ← H.h2]
  pointwise [k0_pay6]

theorem square_apply : k0_pay7 x0 x1 x3 x2 (ix2 r 0) = ∑ k : Fin 1024, resid A b (pos T r) k * resid A b (pos T r) k := by
  simp only [← resid_apply H r]
  pointwise [k0_pay7]

theorem hidden_apply (d : Fin 1024) : hiddenOf x0 x1 x2 x3 x4 x5 (ix2 r d) = Cert.Ffn.hidden A b (pos T r) d := by
  unfold Cert.Ffn.hidden scale
  rw [← square_apply H r, ← resid_apply H r, ← H.h4, ← H.h5]
  pointwise [hiddenOf, k0_pay8, k0_pay3, k0_pay4]

end Apply

theorem projOf_apply (h : FVec Ideal S512x1024 .bf16) (w : Vec Ideal S1x1024x256 .bf16) (r : Fin 512) (c : Fin 256) :
    projOf h w (ix2 r c) = ∑ k : Fin 1024, h (ix2 r k) * w (ix3 0 k c) := by
  pointwise [projOf]

theorem convOf_apply (cur one two : Vec Ideal S512x256 .f32) (w0 w1 w2 wb : Vec Ideal S1x1x256 .f32) (r : Fin 512) (c : Fin 256) :
    convOf cur one two w0 w1 w2 wb (ix2 r c) = w0 (ix3 0 0 c) * two (ix2 r c) + w1 (ix3 0 0 c) * one (ix2 r c) + w2 (ix3 0 0 c) * cur (ix2 r c) + wb (ix3 0 0 c) := by
  pointwise [convOf, rowOf]

theorem actOf_apply (cur gate one two : Vec Ideal S512x256 .f32) (w0 w1 w2 wb : Vec Ideal S1x1x256 .f32) (r : Fin 512) (c : Fin 256) :
    actOf cur gate one two w0 w1 w2 wb (ix2 r c) = Ideal.ofBits .f32 0x3F000000#32 * convOf cur one two w0 w1 w2 wb (ix2 r c)
      * (1 + Ideal.erf (convOf cur one two w0 w1 w2 wb (ix2 r c) * Ideal.ofBits .f32 0x3F3504F3#32)) * gate (ix2 r c) := by
  generalize hc : convOf cur one two w0 w1 w2 wb = cv
  unfold actOf
  rw [hc]
  pointwise
  rfl

theorem outOf_apply (gf : FVec Ideal S1x1024 .f32) (res : FVec Ideal S512x1024 .f32) (p : Vec Ideal S512x2816 .bf16) (w : Fin 4 → Vec Ideal S1x2816x256 .bf16)
    (r : Fin 512) (q : Fin 4) (c : Fin 256) : outOf gf res p (w 0) (w 1) (w 2) (w 3) (ix2 r ⟨256 * q + c, by omega⟩)
    = res (ix2 r ⟨256 * q + c, by omega⟩) + gf (ix2 0 ⟨256 * q + c, by omega⟩) * ∑ n : Fin 2816, p (ix2 r n) * w q (ix3 0 n c) := by
  fin_cases q
  · pointwise [outOf, k0_pay76, k0_pay75]
  · pointwise [outOf, k0_pay76, k0_pay75]
  · have e : 512 + c.val - 256 - 256 = c.val := by omega
    pointwise [outOf, k0_pay76, k0_pay75]
    rw [dif_neg (by omega), dif_neg (by omega), dif_pos (by omega)]
    simp only [e]
  · have e : 768 + c.val - 256 - 256 - 256 = c.val := by omega
    pointwise [outOf, k0_pay76, k0_pay75]
    rw [dif_neg (by omega), dif_neg (by omega), dif_neg (by omega)]
    simp only [e]

end Cert.Kernel2Ideal.Ffn

end
-- ==== Proof.Ffn.Tile.lean ====
/- One 256-column chunk of a grid point of the feed-forward kernel, from the loads and stores the run makes. -/
module

public import proofs.«01_k».proof.Proof.Ffn.Carry
public import proofs.«01_k».proof.Proof.Ffn.Chunk

@[expose] public section

set_option maxRecDepth 16384

noncomputable section

namespace Cert.Kernel2Ideal.Ffn

open Cert.Kernel2Ideal Cert.Kernel2Ideal.Gen Cert.Ffn Idealize.ShloMosaic

/-- A load of a whole buffer's contents reads the element it points at. -/
theorem take {s : Shape} {e : EltTy} {M : Memref sig .tc .vmem s e} (h : M.IsWhole) (x : Vec Ideal s e) {off sz : Fin s.rank → ℕ} {inb}
    (y : (Rect.unit (s := s) off sz inb).shape.Idx) (z : s.Idx) (hz : ∀ k, (z k).val = off k + (y k).val) :
    M.view.readAt (Elt Ideal) (Rect.unit (s := s) off sz inb).toLoadRect (h.unread x) y = x z := by
  show M.view.read (Elt Ideal) (h.unread x) ((Rect.unit (s := s) off sz inb).toLoadRect.idx y) = _
  rw [h.read_unread]
  refine congrArg x (funext fun k => Fin.ext ?_)
  show off k + 1 * (y k).val = _
  rw [hz, Nat.one_mul]

theorem take_all {s : Shape} {e : EltTy} {M : Memref sig .tc .vmem s e} (h : M.IsWhole) (x : Vec Ideal s e) {off : Fin s.rank → ℕ} {inb}
    (ho : off = fun _ => 0) : M.view.readAt (Elt Ideal) (Rect.unit (s := s) off s.size inb).toLoadRect (h.unread x) = x := by
  subst ho
  exact funext fun y => take h x y y fun k => (Nat.zero_add _).symm

/-- Feature `n` in row `q` of the carrying buffer of block `T`: position `512 T + q - 8`, none before the first. -/
def feat (A : Args) (b : Fin 16) (T : Fin 4) (q n : ℕ) : EReal :=
  if h : (8 ≤ 512 * T.val + q ∧ 512 * T.val + q - 8 < 2048) ∧ n < 5632 then up A b ⟨512 * T + q - 8, h.1.2⟩ ⟨n, h.2⟩ else 0

theorem feat_own (A : Args) (b : Fin 16) (T : Fin 4) (r : Fin 512) (q n : ℕ) (hq : q = 8 + r.val) (hn : n < 5632) : feat A b T q n = up A b (pos T r) ⟨n, hn⟩ := by
  subst hq
  unfold feat
  rw [dif_pos ⟨⟨by omega, by omega⟩, hn⟩]
  exact congrArg (fun s => up A b s ⟨n, hn⟩) (Fin.ext (by show 512 * T.val + (8 + r.val) - 8 = 512 * T.val + r.val; omega))

theorem feat_back (A : Args) (b : Fin 16) (T : Fin 4) (r : Fin 512) (i q n : ℕ) (hq : q + i = 8 + r.val) (hi : i ≤ 8) (hn : n < 2816) :
    feat A b T q n = back A b (pos T r) i ⟨n, hn⟩ := by
  unfold feat back
  by_cases h : i ≤ 512 * T.val + r.val
  · rw [dif_pos ⟨⟨by omega, by omega⟩, by omega⟩, if_pos h]
    exact congrArg (fun s => up A b s ⟨n, _⟩) (Fin.ext (by show 512 * T.val + q - 8 = 512 * T.val + r.val - i; omega))
  · rw [dif_neg (fun hh => h (by omega)), if_neg h]

/-- The last 8 rows of a block are the first 8 of the next. -/
theorem feat_next (A : Args) (b : Fin 16) (T T' : Fin 4) (h : T'.val = T.val + 1) (r n : ℕ) : feat A b T (512 + r) n = feat A b T' r n := by
  unfold feat
  have e : 512 * T.val + (512 + r) = 512 * T'.val + r := by omega
  simp only [e]

/-- No features stand before the first block. -/
theorem feat_first (A : Args) (b : Fin 16) (T : Fin 4) (h : T.val = 0) (r n : ℕ) (hr : r < 8) : feat A b T r n = 0 :=
  dif_neg fun hh => by omega

section Tile

variable {A : Args} {b : Fin 16} {T : Fin 4} {x0 : Vec Ideal S1x512x1024 .f32} {x1 : Vec Ideal S1x512x1024 .bf16} {x2 : Vec Ideal S1x1024x1024 .bf16}
  {x3 x4 x5 x6 : Vec Ideal S1x1x1x1x1024 .f32} {x7 : Vec Ideal S1x1024x5632 .bf16} {x8 : Vec Ideal S1x3x2816 .f32} {x9 : Vec Ideal S1x1x2816 .f32}
  {x10 : Vec Ideal S1x2816x1024 .bf16} (H : Blocks A b T x0 x1 x2 x3 x4 x5 x6 x7 x8 x9 x10)
  {M7 : Memref sig .tc .vmem S1x1024x5632 .bf16} {h7 : M7.IsWhole} {M8 : Memref sig .tc .vmem S1x3x2816 .f32} {h8 : M8.IsWhole}
  {M9 : Memref sig .tc .vmem S1x1x2816 .f32} {h9 : M9.IsWhole} {M10 : Memref sig .tc .vmem S1x2816x1024 .bf16} {h10 : M10.IsWhole}

include H

/-- 256 columns of features. -/
theorem proj_apply (o : ℕ) {off : Fin 3 → ℕ} {inb} (ho : off = ![0, 0, o]) (r : Fin 512) (c : Fin 256) (hn : o + c.val < 5632) :
    projOf (hiddenOf x0 x1 x2 x3 x4 x5) (M7.view.readAt (Elt Ideal) (Rect.unit (s := S1x1024x5632) off S1x1024x256.size inb).toLoadRect (h7.unread x7)) (ix2 r c)
      = up A b (pos T r) ⟨o + c, hn⟩ := by
  subst ho
  rw [projOf_apply]
  unfold up
  refine Finset.sum_congr rfl fun k _ => ?_
  rw [hidden_apply H r k, ← H.h7]
  refine congrArg _ (take h7 x7 _ (ix3 0 k ⟨o + c, hn⟩) fun i => ?_)
  fin_cases i
  · rfl
  · exact (Nat.zero_add _).symm
  · rfl

/-- What is stored of them. -/
theorem store_apply {j : ℕ} (hj : j < 11) {off : Fin 3 → ℕ} {inb} (ho : off = ![0, 0, 256 * j]) (r : Fin 512) (c : Fin 256) :
    (shapeCast S512x256 (projOf (hiddenOf x0 x1 x2 x3 x4 x5)
      (M7.view.readAt (Elt Ideal) (Rect.unit (s := S1x1024x5632) off S1x1024x256.size inb).toLoadRect (h7.unread x7))) shapeCasts_S512x256_S512x256 : Vec Ideal S512x256 .f32) (ix2 r c)
      = feat A b T (8 + r) (256 * j + c) := by
  rw [feat_own A b T r _ _ rfl (by omega), ← proj_apply H (M7 := M7) (h7 := h7) (inb := inb) (256 * j) ho r c (by omega)]
  pointwise

/-- The halo that is moved. -/
theorem halo_apply {j : ℕ} (hj : j < 11) {sp : Space} {v : View sig .tc sp S520x2816 .f32} {f : v.ty.Contents (Elt Ideal)} {L : List (View.Piece (Elt Ideal) S520x2816 .f32)}
    {off : Fin 3 → ℕ} {inb} (ho : off = ![0, 0, 256 * j]) {o1 o2 : Fin 2 → ℕ} {i1 i2} (ho1 : o1 = ![512, 256 * j]) (ho2 : o2 = ![8, 256 * j]) (r : Fin 8) (c : Fin 256) :
    (shapeCast S8x256 (v.readAt (Elt Ideal) (Rect.unit (s := S520x2816) o1 S8x256.size i1).toLoadRect
      (v.writes (Elt Ideal) f ((⟨Rect.unit o2 S512x256.size i2, (shapeCast S512x256 (projOf (hiddenOf x0 x1 x2 x3 x4 x5)
        (M7.view.readAt (Elt Ideal) (Rect.unit (s := S1x1024x5632) off S1x1024x256.size inb).toLoadRect (h7.unread x7))) shapeCasts_S512x256_S512x256 : Vec Ideal S512x256 .f32)⟩ :
          View.Piece (Elt Ideal) S520x2816 .f32) :: L))) shapeCasts_S8x256_S8x256 : Vec Ideal S8x256 .f32) (ix2 r c)
      = feat A b T (512 + r) (256 * j + c) := by
  refine Eq.trans ?_ (tail_load (v := v) (f := f) (L := L) (inb := i1) (inb' := i2) ho1 ho2 (store_apply H (M7 := M7) (h7 := h7) hj (inb := inb) ho) r c)
  pointwise

/-- 256 columns of the activation. -/
theorem act_apply {j : ℕ} (hj : j < 11) {sp : Space} {v : View sig .tc sp S520x2816 .f32} {f : v.ty.Contents (Elt Ideal)} {L : List (View.Piece (Elt Ideal) S520x2816 .f32)}
    (F : Front v f (feat A b T) j L) {off offg of0 of1 of2 ofb : Fin 3 → ℕ} {inb ing in0 in1 in2 inB} (ho : off = ![0, 0, 256 * j]) (hg : offg = ![0, 0, 2816 + 256 * j])
    (h0 : of0 = ![0, 0, 256 * j]) (h1 : of1 = ![0, 1, 256 * j]) (h2 : of2 = ![0, 2, 256 * j]) (hb : ofb = ![0, 0, 256 * j])
    {o1 o2 o8 : Fin 2 → ℕ} {i1 i2 i8 i8'} (ho1 : o1 = ![7, 256 * j]) (ho2 : o2 = ![6, 256 * j]) (ho8 : o8 = ![8, 256 * j]) (r : Fin 512) (c : Fin 256) :
    actOf (projOf (hiddenOf x0 x1 x2 x3 x4 x5) (M7.view.readAt (Elt Ideal) (Rect.unit (s := S1x1024x5632) off S1x1024x256.size inb).toLoadRect (h7.unread x7)))
      (projOf (hiddenOf x0 x1 x2 x3 x4 x5) (M7.view.readAt (Elt Ideal) (Rect.unit (s := S1x1024x5632) offg S1x1024x256.size ing).toLoadRect (h7.unread x7)))
      (v.readAt (Elt Ideal) (Rect.unit (s := S520x2816) o1 S512x256.size i1).toLoadRect
        (v.writes (Elt Ideal) f ((⟨Rect.unit o8 S512x256.size i8, (shapeCast S512x256 (projOf (hiddenOf x0 x1 x2 x3 x4 x5)
          (M7.view.readAt (Elt Ideal) (Rect.unit (s := S1x1024x5632) off S1x1024x256.size inb).toLoadRect (h7.unread x7))) shapeCasts_S512x256_S512x256 : Vec Ideal S512x256 .f32)⟩ :
            View.Piece (Elt Ideal) S520x2816 .f32) :: L)))
      (v.readAt (Elt Ideal) (Rect.unit (s := S520x2816) o2 S512x256.size i2).toLoadRect
        (v.writes (Elt Ideal) f ((⟨Rect.unit o8 S512x256.size i8', (shapeCast S512x256 (projOf (hiddenOf x0 x1 x2 x3 x4 x5)
          (M7.view.readAt (Elt Ideal) (Rect.unit (s := S1x1024x5632) off S1x1024x256.size inb).toLoadRect (h7.unread x7))) shapeCasts_S512x256_S512x256 : Vec Ideal S512x256 .f32)⟩ :
            View.Piece (Elt Ideal) S520x2816 .f32) :: L)))
      (M8.view.readAt (Elt Ideal) (Rect.unit (s := S1x3x2816) of0 S1x1x256.size in0).toLoadRect (h8.unread x8))
      (M8.view.readAt (Elt Ideal) (Rect.unit (s := S1x3x2816) of1 S1x1x256.size in1).toLoadRect (h8.unread x8))
      (M8.view.readAt (Elt Ideal) (Rect.unit (s := S1x3x2816) of2 S1x1x256.size in2).toLoadRect (h8.unread x8))
      (M9.view.readAt (Elt Ideal) (Rect.unit (s := S1x1x2816) ofb S1x1x256.size inB).toLoadRect (h9.unread x9)) (ix2 r c)
      = act A b (pos T r) ⟨256 * j + c, by omega⟩ := by
  have hs := store_apply H (M7 := M7) (h7 := h7) hj (inb := inb) ho
  have row (i : Fin 3) {o : Fin 3 → ℕ} {ii} (hh : o = ![0, i.val, 256 * j]) :
      M8.view.readAt (Elt Ideal) (Rect.unit (s := S1x3x2816) o S1x1x256.size ii).toLoadRect (h8.unread x8) (ix3 0 0 c) = A.convW (ix3 0 i ⟨256 * j + c, by omega⟩) := by
    subst hh
    rw [← H.h8]
    refine take h8 x8 _ _ fun k => ?_
    fin_cases k <;> rfl
  have bias : M9.view.readAt (Elt Ideal) (Rect.unit (s := S1x1x2816) ofb S1x1x256.size inB).toLoadRect (h9.unread x9) (ix3 0 0 c) = A.convB (ix2 0 ⟨256 * j + c, by omega⟩) := by
    subst hb
    rw [← H.h9]
    refine take h9 x9 _ _ fun k => ?_
    fin_cases k <;> rfl
  rw [actOf_apply, convOf_apply, proj_apply H (256 * j) ho r c (by omega), proj_apply H (2816 + 256 * j) hg r c (by omega), row 0 h0, row 1 h1, row 2 h2, bias,
    F.load 7 (by decide) ho1 ho8 hs r c, F.load 6 (by decide) ho2 ho8 hs r c,
    feat_back A b T r 1 (7 + r) _ (by omega) (by omega) (by omega), feat_back A b T r 2 (6 + r) _ (by omega) (by omega) (by omega)]
  unfold act conv
  simp only [Nat.add_assoc]

end Tile

/-- The activation's buffer, filled up to column `256 j`. -/
def Filled {sp : Space} (v : View sig .tc sp S512x2816 .bf16) (f : v.ty.Contents (Elt Ideal)) (g : Fin 512 → Fin 2816 → EReal) (j : ℕ)
    (L : List (View.Piece (Elt Ideal) S512x2816 .bf16)) : Prop :=
  ∀ (r : Fin 512) (n : Fin 2816), n.val < 256 * j → v.read (Elt Ideal) (v.writes (Elt Ideal) f L) (ix2 r n) = g r n

theorem Filled.step {sp : Space} {v : View sig .tc sp S512x2816 .bf16} {f : v.ty.Contents (Elt Ideal)} {g : Fin 512 → Fin 2816 → EReal} {j : ℕ}
    {L : List (View.Piece (Elt Ideal) S512x2816 .bf16)} (h : Filled v f g j L) (hj : j < 11) {off : Fin 2 → ℕ} {inb}
    {w : (Rect.unit (s := S512x2816) off S512x256.size inb).shape.Idx → EReal} (ho : off = ![0, 256 * j])
    (hw : ∀ (r : Fin 512) (c : Fin 256), w (ix2 r c) = g r ⟨256 * j + c, by omega⟩) :
    Filled v f g (j + 1) ((⟨Rect.unit off S512x256.size inb, w⟩ : View.Piece (Elt Ideal) S512x2816 .bf16) :: L) := by
  intro r n hn
  by_cases hc : 256 * j ≤ n.val
  · refine (View.read_writes_cons_unit_of_mem v f inb w _ _ (ix2 r (⟨n.val - 256 * j, by omega⟩ : Fin 256)) ho fun k => ?_).trans ((hw _ _).trans ?_)
    · fin_cases k
      · exact (Nat.zero_add _).symm
      · exact (Nat.add_sub_cancel' hc).symm
    · exact congrArg (g r) (Fin.ext (Nat.add_sub_cancel' hc))
  · rw [View.read_writes_cons_unit_of_not_mem v f inb w _ _ ho (1 : Fin 2) (Or.inl (by show n.val < 256 * j; omega))]
    exact h r n (by omega)

/-- Reading all of it. -/
theorem Filled.load {sp : Space} {v : View sig .tc sp S512x2816 .bf16} {f : v.ty.Contents (Elt Ideal)} {g : Fin 512 → Fin 2816 → EReal}
    {L : List (View.Piece (Elt Ideal) S512x2816 .bf16)} (h : Filled v f g 11 L) {off : Fin 2 → ℕ} {inb} (ho : off = ![0, 0]) (r : Fin 512) (n : Fin 2816) :
    v.readAt (Elt Ideal) (Rect.unit (s := S512x2816) off S512x2816.size inb).toLoadRect (v.writes (Elt Ideal) f L) (ix2 r n) = g r n := by
  subst ho
  refine Eq.trans (congrArg (v.read (Elt Ideal) (v.writes (Elt Ideal) f L)) (funext fun k => Fin.ext ?_)) (h r n (by omega))
  fin_cases k
  · show 0 + 1 * r.val = r.val
    omega
  · show 0 + 1 * n.val = n.val
    omega

section Result

variable {A : Args} {b : Fin 16} {T : Fin 4} {x0 : Vec Ideal S1x512x1024 .f32} {x1 : Vec Ideal S1x512x1024 .bf16} {x2 : Vec Ideal S1x1024x1024 .bf16}
  {x3 x4 x5 x6 : Vec Ideal S1x1x1x1x1024 .f32} {x7 : Vec Ideal S1x1024x5632 .bf16} {x8 : Vec Ideal S1x3x2816 .f32} {x9 : Vec Ideal S1x1x2816 .f32}
  {x10 : Vec Ideal S1x2816x1024 .bf16} (H : Blocks A b T x0 x1 x2 x3 x4 x5 x6 x7 x8 x9 x10)
  {M10 : Memref sig .tc .vmem S1x2816x1024 .bf16} {h10 : M10.IsWhole}

include H

theorem result_apply {p : Vec Ideal S512x2816 .bf16} (hp : ∀ r n, p (ix2 r n) = act A b (pos T r) n) {i0 i1 i2 i3} (r : Fin 512) (d : Fin 1024) :
    k0_pay1 (outOf (k0_pay5 x6) (k0_pay6 x0 x1 x3 x2) p
      (M10.view.readAt (Elt Ideal) (Rect.unit (s := S1x2816x1024) ![0, 0, 0] S1x2816x256.size i0).toLoadRect (h10.unread x10))
      (M10.view.readAt (Elt Ideal) (Rect.unit (s := S1x2816x1024) ![0, 0, 256] S1x2816x256.size i1).toLoadRect (h10.unread x10))
      (M10.view.readAt (Elt Ideal) (Rect.unit (s := S1x2816x1024) ![0, 0, 512] S1x2816x256.size i2).toLoadRect (h10.unread x10))
      (M10.view.readAt (Elt Ideal) (Rect.unit (s := S1x2816x1024) ![0, 0, 768] S1x2816x256.size i3).toLoadRect (h10.unread x10))) (ix3 0 r d)
      = result A b (pos T r) d := by
  have inb (q : Fin 4) : ∀ a, (![0, 0, 256 * q.val] : Fin 3 → ℕ) a + S1x2816x256.size a ≤ S1x2816x1024.size a := by
    intro a
    fin_cases a
    · show 0 + 1 ≤ 1
      omega
    · show 0 + 2816 ≤ 2816
      omega
    · show 256 * q.val + 256 ≤ 1024
      omega
  obtain ⟨q, c, rfl⟩ : ∃ (q : Fin 4) (c : Fin 256), d = ⟨256 * q + c, by omega⟩ :=
    ⟨⟨d.val / 256, by omega⟩, ⟨d.val % 256, by omega⟩, Fin.ext (Nat.div_add_mod _ _).symm⟩
  have e := outOf_apply (k0_pay5 x6) (k0_pay6 x0 x1 x3 x2) p
    (fun q => M10.view.readAt (Elt Ideal) (Rect.unit (s := S1x2816x1024) ![0, 0, 256 * q.val] S1x2816x256.size (inb q)).toLoadRect (h10.unread x10)) r q c
  have e' : ∀ w : FVec Ideal S512x1024 .f32, ∀ d, k0_pay1 w (ix3 0 r d) = w (ix2 r d) := fun w d => by pointwise [k0_pay1]
  rw [e']
  refine e.trans ?_
  rw [resid_apply H]
  unfold result
  refine congrArg₂ (fun x y => resid A b (pos T r) _ + x * y) ?_ (Finset.sum_congr rfl fun n _ => ?_)
  · rw [← H.h6]
    pointwise [k0_pay5]
  · rw [hp, ← H.h10]
    refine congrArg _ (take h10 x10 _ (ix3 0 n ⟨256 * q + c, by omega⟩) fun k => ?_)
    fin_cases k
    · rfl
    · exact (Nat.zero_add _).symm
    · rfl

end Result

end Cert.Kernel2Ideal.Ffn

end
-- ==== Proof.Ffn.RunA.lean ====
/- A grid point of the feed-forward kernel, at the start of a sequence. -/
module

public import proofs.«01_k».proof.Proof.Ffn.Tile

@[expose] public section

set_option maxRecDepth 16384

noncomputable section

namespace Cert.Kernel2Ideal.Ffn

open Cert.Kernel2Ideal Cert.Kernel2Ideal.Gen Cert.Ffn Idealize.ShloMosaic

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x1024x1024 .bf16) (harg4 : arg4.IsWhole) (arg5 : Memref sig .tc .vmem S1x1x1x1x1024 .f32) (harg5 : arg5.IsWhole) (arg6 : Memref sig .tc .vmem S1x1x1x1x1024 .f32) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1024x5632 .bf16) (harg9 : arg9.IsWhole) (arg10 : Memref sig .tc .vmem S1x3x2816 .f32) (harg10 : arg10.IsWhole) (arg11 : Memref sig .tc .vmem S1x1x2816 .f32) (harg11 : arg11.IsWhole) (arg12 : Memref sig .tc .vmem S1x2816x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S520x2816 .f32) (harg15 : arg15.IsWhole) (arg16 : Memref sig .tc .vmem S512x2816 .bf16) (harg16 : arg16.IsWhole)
  (hc0 : cond0_0 i) (x0 : Vec Ideal S1x512x1024 .f32) (x1 : Vec Ideal S1x512x1024 .bf16) (x2 : Vec Ideal S1x1024x1024 .bf16) (x3 : Vec Ideal S1x1x1x1x1024 .f32) (x4 : Vec Ideal S1x1x1x1x1024 .f32) (x5 : Vec Ideal S1x1x1x1x1024 .f32) (x6 : Vec Ideal S1x1x1x1x1024 .f32) (x7 : Vec Ideal S1x1024x5632 .bf16) (x8 : Vec Ideal S1x3x2816 .f32) (x9 : Vec Ideal S1x1x2816 .f32) (x10 : Vec Ideal S1x2816x1024 .bf16) (x11 : Vec Ideal S1x1024 .f32)
  {A : Args} {b : Fin 16} {T : Fin 4} (H : Blocks A b T x0 x1 x2 x3 x4 x5 x6 x7 x8 x9 x10)

include H

theorem out_A (hT : T.val = 0) (r : Fin 512) (d : Fin 1024) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 (ix3 0 r d) = result A b (pos T r) d := by
  have H' : Blocks A b T
      (arg2.view.readAt (Elt Ideal) (Rect.unit (s := S1x512x1024) ![0, 0, 0] S1x512x1024.size (by decide)).toLoadRect (harg2.unread x0))
      (arg3.view.readAt (Elt Ideal) (Rect.unit (s := S1x512x1024) ![0, 0, 0] S1x512x1024.size (by decide)).toLoadRect (harg3.unread x1))
      (arg4.view.readAt (Elt Ideal) (Rect.unit (s := S1x1024x1024) ![0, 0, 0] S1x1024x1024.size (by decide)).toLoadRect (harg4.unread x2))
      (arg5.view.readAt (Elt Ideal) (Rect.unit (s := S1x1x1x1x1024) ![0, 0, 0, 0, 0] S1x1x1x1x1024.size (by decide)).toLoadRect (harg5.unread x3))
      (arg6.view.readAt (Elt Ideal) (Rect.unit (s := S1x1x1x1x1024) ![0, 0, 0, 0, 0] S1x1x1x1x1024.size (by decide)).toLoadRect (harg6.unread x4))
      (arg7.view.readAt (Elt Ideal) (Rect.unit (s := S1x1x1x1x1024) ![0, 0, 0, 0, 0] S1x1x1x1x1024.size (by decide)).toLoadRect (harg7.unread x5))
      (arg8.view.readAt (Elt Ideal) (Rect.unit (s := S1x1x1x1x1024) ![0, 0, 0, 0, 0] S1x1x1x1x1024.size (by decide)).toLoadRect (harg8.unread x6))
      x7 x8 x9 x10 := by
    have z3 : (![0, 0, 0] : Fin 3 → ℕ) = fun _ => 0 := by decide
    have z5 : (![0, 0, 0, 0, 0] : Fin 5 → ℕ) = fun _ => 0 := by decide
    rw [take_all harg2 x0 z3, take_all harg3 x1 z3, take_all harg4 x2 z3, take_all harg5 x3 z5, take_all harg6 x4 z5, take_all harg7 x5 z5, take_all harg8 x6 z5]
    exact H
  have F0 : Front arg15.view arg15.view.junk (feat A b T) 0 [⟨Rect.unit (s := S520x2816) ![0, 0] S8x2816.size inb_S520x2816_S8x2816_0_0, k0_pay2 (F := Ideal)⟩] := fun y hy _ => by
    refine (View.read_writes_cons_unit_of_mem _ _ _ _ _ y (ix2 (⟨(y 0).val, hy⟩ : Fin 8) (y 1)) rfl fun k => ?_).trans ?_
    · fin_cases k <;> exact (Nat.zero_add _).symm
    · rw [feat_first A b T hT _ _ hy]
      pointwise [k0_pay2]
  unfold out0_A_12
  rw [View.read_writes_junk_apply_eq_canon]
  unfold kernelRun0_A
  dsimp only
  rw [View.canon_unit_zero (by decide)]
  refine result_apply H' (M10 := arg12) (h10 := harg12) (fun r n => Filled.load (v := arg16.view) (f := arg16.view.junk) (g := fun r n => act A b (pos T r) n) ?_ rfl r n) r d
  have base : Filled arg16.view arg16.view.junk (fun r n => act A b (pos T r) n) 0 [] := fun _ _ h => absurd h (Nat.not_lt_zero _)
  refine Filled.step (j := 10) ?_ (by decide) rfl fun r c =>
    act_apply H' (M7 := arg9) (h7 := harg9) (M8 := arg10) (h8 := harg10) (M9 := arg11) (h9 := harg11) (by decide) ((((((((((F0.step rfl rfl).step rfl rfl).step rfl rfl).step rfl rfl).step rfl rfl).step rfl rfl).step rfl rfl).step rfl rfl).step rfl rfl).step rfl rfl) rfl rfl rfl rfl rfl rfl rfl rfl rfl r c
  refine Filled.step (j := 9) ?_ (by decide) rfl fun r c =>
    act_apply H' (M7 := arg9) (h7 := harg9) (M8 := arg10) (h8 := harg10) (M9 := arg11) (h9 := harg11) (by decide) (((((((((F0.step rfl rfl).step rfl rfl).step rfl rfl).step rfl rfl).step rfl rfl).step rfl rfl).step rfl rfl).step rfl rfl).step rfl rfl) rfl rfl rfl rfl rfl rfl rfl rfl rfl r c
  refine Filled.step (j := 8) ?_ (by decide) rfl fun r c =>
    act_apply H' (M7 := arg9) (h7 := harg9) (M8 := arg10) (h8 := harg10) (M9 := arg11) (h9 := harg11) (by decide) ((((((((F0.step rfl rfl).step rfl rfl).step rfl rfl).step rfl rfl).step rfl rfl).step rfl rfl).step rfl rfl).step rfl rfl) rfl rfl rfl rfl rfl rfl rfl rfl rfl r c
  refine Filled.step (j := 7) ?_ (by decide) rfl fun r c =>
    act_apply H' (M7 := arg9) (h7 := harg9) (M8 := arg10) (h8 := harg10) (M9 := arg11) (h9 := harg11) (by decide) (((((((F0.step rfl rfl).step rfl rfl).step rfl rfl).step rfl rfl).step rfl rfl).step rfl rfl).step rfl rfl) rfl rfl rfl rfl rfl rfl rfl rfl rfl r c
  refine Filled.step (j := 6) ?_ (by decide) rfl fun r c =>
    act_apply H' (M7 := arg9) (h7 := harg9) (M8 := arg10) (h8 := harg10) (M9 := arg11) (h9 := harg11) (by decide) ((((((F0.step rfl rfl).step rfl rfl).step rfl rfl).step rfl rfl).step rfl rfl).step rfl rfl) rfl rfl rfl rfl rfl rfl rfl rfl rfl r c
  refine Filled.step (j := 5) ?_ (by decide) rfl fun r c =>
    act_apply H' (M7 := arg9) (h7 := harg9) (M8 := arg10) (h8 := harg10) (M9 := arg11) (h9 := harg11) (by decide) (((((F0.step rfl rfl).step rfl rfl).step rfl rfl).step rfl rfl).step rfl rfl) rfl rfl rfl rfl rfl rfl rfl rfl rfl r c
  refine Filled.step (j := 4) ?_ (by decide) rfl fun r c =>
    act_apply H' (M7 := arg9) (h7 := harg9) (M8 := arg10) (h8 := harg10) (M9 := arg11) (h9 := harg11) (by decide) ((((F0.step rfl rfl).step rfl rfl).step rfl rfl).step rfl rfl) rfl rfl rfl rfl rfl rfl rfl rfl rfl r c
  refine Filled.step (j := 3) ?_ (by decide) rfl fun r c =>
    act_apply H' (M7 := arg9) (h7 := harg9) (M8 := arg10) (h8 := harg10) (M9 := arg11) (h9 := harg11) (by decide) (((F0.step rfl rfl).step rfl rfl).step rfl rfl) rfl rfl rfl rfl rfl rfl rfl rfl rfl r c
  refine Filled.step (j := 2) ?_ (by decide) rfl fun r c =>
    act_apply H' (M7 := arg9) (h7 := harg9) (M8 := arg10) (h8 := harg10) (M9 := arg11) (h9 := harg11) (by decide) ((F0.step rfl rfl).step rfl rfl) rfl rfl rfl rfl rfl rfl rfl rfl rfl r c
  refine Filled.step (j := 1) ?_ (by decide) rfl fun r c =>
    act_apply H' (M7 := arg9) (h7 := harg9) (M8 := arg10) (h8 := harg10) (M9 := arg11) (h9 := harg11) (by decide) (F0.step rfl rfl) rfl rfl rfl rfl rfl rfl rfl rfl rfl r c
  refine Filled.step (j := 0) ?_ (by decide) rfl fun r c =>
    act_apply H' (M7 := arg9) (h7 := harg9) (M8 := arg10) (h8 := harg10) (M9 := arg11) (h9 := harg11) (by decide) F0 rfl rfl rfl rfl rfl rfl rfl rfl rfl r c
  exact base

theorem carry_A (r : Fin 520) (n : Fin 2816) (hr : r.val < 8) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 (ix2 r n) = feat A b T (512 + r) n := by
  have H' : Blocks A b T
      (arg2.view.readAt (Elt Ideal) (Rect.unit (s := S1x512x1024) ![0, 0, 0] S1x512x1024.size (by decide)).toLoadRect (harg2.unread x0))
      (arg3.view.readAt (Elt Ideal) (Rect.unit (s := S1x512x1024) ![0, 0, 0] S1x512x1024.size (by decide)).toLoadRect (harg3.unread x1))
      (arg4.view.readAt (Elt Ideal) (Rect.unit (s := S1x1024x1024) ![0, 0, 0] S1x1024x1024.size (by decide)).toLoadRect (harg4.unread x2))
      (arg5.view.readAt (Elt Ideal) (Rect.unit (s := S1x1x1x1x1024) ![0, 0, 0, 0, 0] S1x1x1x1x1024.size (by decide)).toLoadRect (harg5.unread x3))
      (arg6.view.readAt (Elt Ideal) (Rect.unit (s := S1x1x1x1x1024) ![0, 0, 0, 0, 0] S1x1x1x1x1024.size (by decide)).toLoadRect (harg6.unread x4))
      (arg7.view.readAt (Elt Ideal) (Rect.unit (s := S1x1x1x1x1024) ![0, 0, 0, 0, 0] S1x1x1x1x1024.size (by decide)).toLoadRect (harg7.unread x5))
      (arg8.view.readAt (Elt Ideal) (Rect.unit (s := S1x1x1x1x1024) ![0, 0, 0, 0, 0] S1x1x1x1x1024.size (by decide)).toLoadRect (harg8.unread x6))
      x7 x8 x9 x10 := by
    have z3 : (![0, 0, 0] : Fin 3 → ℕ) = fun _ => 0 := by decide
    have z5 : (![0, 0, 0, 0, 0] : Fin 5 → ℕ) = fun _ => 0 := by decide
    rw [take_all harg2 x0 z3, take_all harg3 x1 z3, take_all harg4 x2 z3, take_all harg5 x3 z5, take_all harg6 x4 z5, take_all harg7 x5 z5, take_all harg8 x6 z5]
    exact H
  refine (?_ : Moved VS0_0 VS0_0.junk (feat A b T) 11 (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1) (ix2 r n) hr (by show n.val < 2816; omega)
  unfold kernelRun0_A
  dsimp only
  refine Moved.step (j := 10) ?_ rfl rfl fun r c => halo_apply (j := 10) H' (M7 := arg9) (h7 := harg9) (by decide) rfl rfl rfl r c
  refine Moved.step (j := 9) ?_ rfl rfl fun r c => halo_apply (j := 9) H' (M7 := arg9) (h7 := harg9) (by decide) rfl rfl rfl r c
  refine Moved.step (j := 8) ?_ rfl rfl fun r c => halo_apply (j := 8) H' (M7 := arg9) (h7 := harg9) (by decide) rfl rfl rfl r c
  refine Moved.step (j := 7) ?_ rfl rfl fun r c => halo_apply (j := 7) H' (M7 := arg9) (h7 := harg9) (by decide) rfl rfl rfl r c
  refine Moved.step (j := 6) ?_ rfl rfl fun r c => halo_apply (j := 6) H' (M7 := arg9) (h7 := harg9) (by decide) rfl rfl rfl r c
  refine Moved.step (j := 5) ?_ rfl rfl fun r c => halo_apply (j := 5) H' (M7 := arg9) (h7 := harg9) (by decide) rfl rfl rfl r c
  refine Moved.step (j := 4) ?_ rfl rfl fun r c => halo_apply (j := 4) H' (M7 := arg9) (h7 := harg9) (by decide) rfl rfl rfl r c
  refine Moved.step (j := 3) ?_ rfl rfl fun r c => halo_apply (j := 3) H' (M7 := arg9) (h7 := harg9) (by decide) rfl rfl rfl r c
  refine Moved.step (j := 2) ?_ rfl rfl fun r c => halo_apply (j := 2) H' (M7 := arg9) (h7 := harg9) (by decide) rfl rfl rfl r c
  refine Moved.step (j := 1) ?_ rfl rfl fun r c => halo_apply (j := 1) H' (M7 := arg9) (h7 := harg9) (by decide) rfl rfl rfl r c
  refine Moved.step (j := 0) ?_ rfl rfl fun r c => halo_apply (j := 0) H' (M7 := arg9) (h7 := harg9) (by decide) rfl rfl rfl r c
  exact fun _ _ h => absurd h (Nat.not_lt_zero _)

end Cert.Kernel2Ideal.Ffn

end
-- ==== Proof.Ffn.RunB.lean ====
/- A grid point of the feed-forward kernel, after the first of a sequence. -/
module

public import proofs.«01_k».proof.Proof.Ffn.Tile

@[expose] public section

set_option maxRecDepth 16384

noncomputable section

namespace Cert.Kernel2Ideal.Ffn

open Cert.Kernel2Ideal Cert.Kernel2Ideal.Gen Cert.Ffn Idealize.ShloMosaic

variable (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x1024x1024 .bf16) (harg4 : arg4.IsWhole) (arg5 : Memref sig .tc .vmem S1x1x1x1x1024 .f32) (harg5 : arg5.IsWhole) (arg6 : Memref sig .tc .vmem S1x1x1x1x1024 .f32) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1024x5632 .bf16) (harg9 : arg9.IsWhole) (arg10 : Memref sig .tc .vmem S1x3x2816 .f32) (harg10 : arg10.IsWhole) (arg11 : Memref sig .tc .vmem S1x1x2816 .f32) (harg11 : arg11.IsWhole) (arg12 : Memref sig .tc .vmem S1x2816x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S520x2816 .f32) (harg15 : arg15.IsWhole) (arg16 : Memref sig .tc .vmem S512x2816 .bf16) (harg16 : arg16.IsWhole)
  (hc0 : ¬cond0_0 i) (x0 : Vec Ideal S1x512x1024 .f32) (x1 : Vec Ideal S1x512x1024 .bf16) (x2 : Vec Ideal S1x1024x1024 .bf16) (x3 : Vec Ideal S1x1x1x1x1024 .f32) (x4 : Vec Ideal S1x1x1x1x1024 .f32) (x5 : Vec Ideal S1x1x1x1x1024 .f32) (x6 : Vec Ideal S1x1x1x1x1024 .f32) (x7 : Vec Ideal S1x1024x5632 .bf16) (x8 : Vec Ideal S1x3x2816 .f32) (x9 : Vec Ideal S1x1x2816 .f32) (x10 : Vec Ideal S1x2816x1024 .bf16) (x11 : Vec Ideal S1x1024 .f32)
  (xs0 : Vec Ideal S520x2816 .f32) {A : Args} {b : Fin 16} {T : Fin 4} (H : Blocks A b T x0 x1 x2 x3 x4 x5 x6 x7 x8 x9 x10)

include H

theorem out_B (hx : ∀ (r : Fin 520) (n : Fin 2816), r.val < 8 → xs0 (ix2 r n) = feat A b T r n) (r : Fin 512) (d : Fin 1024) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 (ix3 0 r d) = result A b (pos T r) d := by
  have H' : Blocks A b T
      (arg2.view.readAt (Elt Ideal) (Rect.unit (s := S1x512x1024) ![0, 0, 0] S1x512x1024.size (by decide)).toLoadRect (harg2.unread x0))
      (arg3.view.readAt (Elt Ideal) (Rect.unit (s := S1x512x1024) ![0, 0, 0] S1x512x1024.size (by decide)).toLoadRect (harg3.unread x1))
      (arg4.view.readAt (Elt Ideal) (Rect.unit (s := S1x1024x1024) ![0, 0, 0] S1x1024x1024.size (by decide)).toLoadRect (harg4.unread x2))
      (arg5.view.readAt (Elt Ideal) (Rect.unit (s := S1x1x1x1x1024) ![0, 0, 0, 0, 0] S1x1x1x1x1024.size (by decide)).toLoadRect (harg5.unread x3))
      (arg6.view.readAt (Elt Ideal) (Rect.unit (s := S1x1x1x1x1024) ![0, 0, 0, 0, 0] S1x1x1x1x1024.size (by decide)).toLoadRect (harg6.unread x4))
      (arg7.view.readAt (Elt Ideal) (Rect.unit (s := S1x1x1x1x1024) ![0, 0, 0, 0, 0] S1x1x1x1x1024.size (by decide)).toLoadRect (harg7.unread x5))
      (arg8.view.readAt (Elt Ideal) (Rect.unit (s := S1x1x1x1x1024) ![0, 0, 0, 0, 0] S1x1x1x1x1024.size (by decide)).toLoadRect (harg8.unread x6))
      x7 x8 x9 x10 := by
    have z3 : (![0, 0, 0] : Fin 3 → ℕ) = fun _ => 0 := by decide
    have z5 : (![0, 0, 0, 0, 0] : Fin 5 → ℕ) = fun _ => 0 := by decide
    rw [take_all harg2 x0 z3, take_all harg3 x1 z3, take_all harg4 x2 z3, take_all harg5 x3 z5, take_all harg6 x4 z5, take_all harg7 x5 z5, take_all harg8 x6 z5]
    exact H
  have F0 : Front arg15.view (harg15.unread xs0) (feat A b T) 0 [] := fun y hy _ => by
    show arg15.view.read (Elt Ideal) (harg15.unread xs0) y = _
    rw [harg15.read_unread]
    idx_vars y
    exact hx _ _ hy
  unfold out0_B_12
  rw [View.read_writes_junk_apply_eq_canon]
  unfold kernelRun0_B
  dsimp only
  rw [View.canon_unit_zero (by decide)]
  refine result_apply H' (M10 := arg12) (h10 := harg12) (fun r n => Filled.load (v := arg16.view) (f := arg16.view.junk) (g := fun r n => act A b (pos T r) n) ?_ rfl r n) r d
  have base : Filled arg16.view arg16.view.junk (fun r n => act A b (pos T r) n) 0 [] := fun _ _ h => absurd h (Nat.not_lt_zero _)
  refine Filled.step (j := 10) ?_ (by decide) rfl fun r c =>
    act_apply H' (M7 := arg9) (h7 := harg9) (M8 := arg10) (h8 := harg10) (M9 := arg11) (h9 := harg11) (by decide) ((((((((((F0.step rfl rfl).step rfl rfl).step rfl rfl).step rfl rfl).step rfl rfl).step rfl rfl).step rfl rfl).step rfl rfl).step rfl rfl).step rfl rfl) rfl rfl rfl rfl rfl rfl rfl rfl rfl r c
  refine Filled.step (j := 9) ?_ (by decide) rfl fun r c =>
    act_apply H' (M7 := arg9) (h7 := harg9) (M8 := arg10) (h8 := harg10) (M9 := arg11) (h9 := harg11) (by decide) (((((((((F0.step rfl rfl).step rfl rfl).step rfl rfl).step rfl rfl).step rfl rfl).step rfl rfl).step rfl rfl).step rfl rfl).step rfl rfl) rfl rfl rfl rfl rfl rfl rfl rfl rfl r c
  refine Filled.step (j := 8) ?_ (by decide) rfl fun r c =>
    act_apply H' (M7 := arg9) (h7 := harg9) (M8 := arg10) (h8 := harg10) (M9 := arg11) (h9 := harg11) (by decide) ((((((((F0.step rfl rfl).step rfl rfl).step rfl rfl).step rfl rfl).step rfl rfl).step rfl rfl).step rfl rfl).step rfl rfl) rfl rfl rfl rfl rfl rfl rfl rfl rfl r c
  refine Filled.step (j := 7) ?_ (by decide) rfl fun r c =>
    act_apply H' (M7 := arg9) (h7 := harg9) (M8 := arg10) (h8 := harg10) (M9 := arg11) (h9 := harg11) (by decide) (((((((F0.step rfl rfl).step rfl rfl).step rfl rfl).step rfl rfl).step rfl rfl).step rfl rfl).step rfl rfl) rfl rfl rfl rfl rfl rfl rfl rfl rfl r c
  refine Filled.step (j := 6) ?_ (by decide) rfl fun r c =>
    act_apply H' (M7 := arg9) (h7 := harg9) (M8 := arg10) (h8 := harg10) (M9 := arg11) (h9 := harg11) (by decide) ((((((F0.step rfl rfl).step rfl rfl).step rfl rfl).step rfl rfl).step rfl rfl).step rfl rfl) rfl rfl rfl rfl rfl rfl rfl rfl rfl r c
  refine Filled.step (j := 5) ?_ (by decide) rfl fun r c =>
    act_apply H' (M7 := arg9) (h7 := harg9) (M8 := arg10) (h8 := harg10) (M9 := arg11) (h9 := harg11) (by decide) (((((F0.step rfl rfl).step rfl rfl).step rfl rfl).step rfl rfl).step rfl rfl) rfl rfl rfl rfl rfl rfl rfl rfl rfl r c
  refine Filled.step (j := 4) ?_ (by decide) rfl fun r c =>
    act_apply H' (M7 := arg9) (h7 := harg9) (M8 := arg10) (h8 := harg10) (M9 := arg11) (h9 := harg11) (by decide) ((((F0.step rfl rfl).step rfl rfl).step rfl rfl).step rfl rfl) rfl rfl rfl rfl rfl rfl rfl rfl rfl r c
  refine Filled.step (j := 3) ?_ (by decide) rfl fun r c =>
    act_apply H' (M7 := arg9) (h7 := harg9) (M8 := arg10) (h8 := harg10) (M9 := arg11) (h9 := harg11) (by decide) (((F0.step rfl rfl).step rfl rfl).step rfl rfl) rfl rfl rfl rfl rfl rfl rfl rfl rfl r c
  refine Filled.step (j := 2) ?_ (by decide) rfl fun r c =>
    act_apply H' (M7 := arg9) (h7 := harg9) (M8 := arg10) (h8 := harg10) (M9 := arg11) (h9 := harg11) (by decide) ((F0.step rfl rfl).step rfl rfl) rfl rfl rfl rfl rfl rfl rfl rfl rfl r c
  refine Filled.step (j := 1) ?_ (by decide) rfl fun r c =>
    act_apply H' (M7 := arg9) (h7 := harg9) (M8 := arg10) (h8 := harg10) (M9 := arg11) (h9 := harg11) (by decide) (F0.step rfl rfl) rfl rfl rfl rfl rfl rfl rfl rfl rfl r c
  refine Filled.step (j := 0) ?_ (by decide) rfl fun r c =>
    act_apply H' (M7 := arg9) (h7 := harg9) (M8 := arg10) (h8 := harg10) (M9 := arg11) (h9 := harg11) (by decide) F0 rfl rfl rfl rfl rfl rfl rfl rfl rfl r c
  exact base

theorem carry_B (r : Fin 520) (n : Fin 2816) (hr : r.val < 8) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 (ix2 r n) = feat A b T (512 + r) n := by
  have H' : Blocks A b T
      (arg2.view.readAt (Elt Ideal) (Rect.unit (s := S1x512x1024) ![0, 0, 0] S1x512x1024.size (by decide)).toLoadRect (harg2.unread x0))
      (arg3.view.readAt (Elt Ideal) (Rect.unit (s := S1x512x1024) ![0, 0, 0] S1x512x1024.size (by decide)).toLoadRect (harg3.unread x1))
      (arg4.view.readAt (Elt Ideal) (Rect.unit (s := S1x1024x1024) ![0, 0, 0] S1x1024x1024.size (by decide)).toLoadRect (harg4.unread x2))
      (arg5.view.readAt (Elt Ideal) (Rect.unit (s := S1x1x1x1x1024) ![0, 0, 0, 0, 0] S1x1x1x1x1024.size (by decide)).toLoadRect (harg5.unread x3))
      (arg6.view.readAt (Elt Ideal) (Rect.unit (s := S1x1x1x1x1024) ![0, 0, 0, 0, 0] S1x1x1x1x1024.size (by decide)).toLoadRect (harg6.unread x4))
      (arg7.view.readAt (Elt Ideal) (Rect.unit (s := S1x1x1x1x1024) ![0, 0, 0, 0, 0] S1x1x1x1x1024.size (by decide)).toLoadRect (harg7.unread x5))
      (arg8.view.readAt (Elt Ideal) (Rect.unit (s := S1x1x1x1x1024) ![0, 0, 0, 0, 0] S1x1x1x1x1024.size (by decide)).toLoadRect (harg8.unread x6))
      x7 x8 x9 x10 := by
    have z3 : (![0, 0, 0] : Fin 3 → ℕ) = fun _ => 0 := by decide
    have z5 : (![0, 0, 0, 0, 0] : Fin 5 → ℕ) = fun _ => 0 := by decide
    rw [take_all harg2 x0 z3, take_all harg3 x1 z3, take_all harg4 x2 z3, take_all harg5 x3 z5, take_all harg6 x4 z5, take_all harg7 x5 z5, take_all harg8 x6 z5]
    exact H
  refine (?_ : Moved VS0_0 VS0_0.junk (feat A b T) 11 (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.1) (ix2 r n) hr (by show n.val < 2816; omega)
  unfold kernelRun0_B
  dsimp only
  refine Moved.step (j := 10) ?_ rfl rfl fun r c => halo_apply (j := 10) H' (M7 := arg9) (h7 := harg9) (by decide) rfl rfl rfl r c
  refine Moved.step (j := 9) ?_ rfl rfl fun r c => halo_apply (j := 9) H' (M7 := arg9) (h7 := harg9) (by decide) rfl rfl rfl r c
  refine Moved.step (j := 8) ?_ rfl rfl fun r c => halo_apply (j := 8) H' (M7 := arg9) (h7 := harg9) (by decide) rfl rfl rfl r c
  refine Moved.step (j := 7) ?_ rfl rfl fun r c => halo_apply (j := 7) H' (M7 := arg9) (h7 := harg9) (by decide) rfl rfl rfl r c
  refine Moved.step (j := 6) ?_ rfl rfl fun r c => halo_apply (j := 6) H' (M7 := arg9) (h7 := harg9) (by decide) rfl rfl rfl r c
  refine Moved.step (j := 5) ?_ rfl rfl fun r c => halo_apply (j := 5) H' (M7 := arg9) (h7 := harg9) (by decide) rfl rfl rfl r c
  refine Moved.step (j := 4) ?_ rfl rfl fun r c => halo_apply (j := 4) H' (M7 := arg9) (h7 := harg9) (by decide) rfl rfl rfl r c
  refine Moved.step (j := 3) ?_ rfl rfl fun r c => halo_apply (j := 3) H' (M7 := arg9) (h7 := harg9) (by decide) rfl rfl rfl r c
  refine Moved.step (j := 2) ?_ rfl rfl fun r c => halo_apply (j := 2) H' (M7 := arg9) (h7 := harg9) (by decide) rfl rfl rfl r c
  refine Moved.step (j := 1) ?_ rfl rfl fun r c => halo_apply (j := 1) H' (M7 := arg9) (h7 := harg9) (by decide) rfl rfl rfl r c
  refine Moved.step (j := 0) ?_ rfl rfl fun r c => halo_apply (j := 0) H' (M7 := arg9) (h7 := harg9) (by decide) rfl rfl rfl r c
  exact fun _ _ h => absurd h (Nat.not_lt_zero _)

end Cert.Kernel2Ideal.Ffn

end
-- ==== Proof.Ffn.Array.lean ====
/- The feed-forward kernel's result array: each grid point leaves one block of 512 positions of one
   sequence, and hands its last 8 rows of features to the next block. -/
module

public import proofs.«01_k».proof.Proof.Ffn.RunA
public import proofs.«01_k».proof.Proof.Ffn.RunB
public import Idealize.ShloMosaic.Lib.Pipeline.ValueKit.Geometry

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

variable (m : (ℓ : Loc nD τ sig) → Buf (Elt Ideal) ℓ) (c : Dev nD)

/-- The arguments a device launches with. -/
def argsOf : Args where
  x := m ((c : Thread nD τ).loc main_arg0)
  u := m ((c : Thread nD τ).loc main_arg1)
  mod := m ((c : Thread nD τ).loc main_arg2)
  wOut := m ((c : Thread nD τ).loc main_arg3)
  wUp := m ((c : Thread nD τ).loc main_arg4)
  convW := m ((c : Thread nD τ).loc main_arg5)
  convB := m ((c : Thread nD τ).loc main_arg6)
  wDown := m ((c : Thread nD τ).loc main_arg7)

/-! ## What the host hands over -/

theorem V_mod : V m c main_v0 = (shapeCast S4x16x6x1x1024 (argsOf m c).mod shapeCasts_S4x16x6144_S4x16x6x1x1024 : Vec Ideal S4x16x6x1x1024 .f32) := by
  simp only [V, hostOps0]
  after_results_simp <;> rfl

theorem V_wUp : V m c main_v1 = (argsOf m c).wUp := by
  simp only [V, hostOps0]
  after_results_simp <;> rfl

theorem V_convB : V m c main_v2 = (shapeCast S4x1x2816 (argsOf m c).convB shapeCasts_S4x2816_S4x1x2816 : Vec Ideal S4x1x2816 .f32) := by
  simp only [V, hostOps0]
  after_results_simp <;> rfl

theorem V_wDown : V m c main_v3 = (argsOf m c).wDown := by
  simp only [V, hostOps0]
  after_results_simp <;> rfl

theorem V_wOut : V m c main_v4 = (argsOf m c).wOut := by
  simp only [V, hostOps0]
  after_results_simp <;> rfl

theorem V_mod_apply (b : Fin 16) (p : Fin 6) (d : Fin 1024) :
    (shapeCast S4x16x6x1x1024 (argsOf m c).mod shapeCasts_S4x16x6144_S4x16x6x1x1024 : Vec Ideal S4x16x6x1x1024 .f32) (ix5 0 b p 0 d) = part (argsOf m c) b p d := by
  unfold part
  pointwise
  simp only [Nat.mul_comm]

theorem V_convB_apply (n : Fin 2816) :
    (shapeCast S4x1x2816 (argsOf m c).convB shapeCasts_S4x2816_S4x1x2816 : Vec Ideal S4x1x2816 .f32) (ix3 0 0 n) = (argsOf m c).convB (ix2 0 n) := by
  pointwise

/-! ## The blocks of a grid point -/

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, t.val / 4, 2, 0, 0] := (by decide +kernel : ∀ t : Fin grid0.N, _)
theorem idx4 : ∀ t : Fin cfg0.N, win0_4.index t = ![0, t.val / 4, 4, 0, 0] := (by decide +kernel : ∀ t : Fin grid0.N, _)
theorem idx5 : ∀ t : Fin cfg0.N, win0_5.index t = ![0, t.val / 4, 3, 0, 0] := (by decide +kernel : ∀ t : Fin grid0.N, _)
theorem idx6 : ∀ t : Fin cfg0.N, win0_6.index t = ![0, t.val / 4, 5, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx12 : ∀ t : Fin cfg0.N, win0_12.index t = ![t.val / 4, t.val % 4, 0] := (by decide +kernel : ∀ t : Fin grid0.N, _)

/-- A grid point's sequence and block. -/
abbrev seqOf (t : Fin cfg0.N) : Fin 16 := ⟨t.val / 4, by have : t.val < 64 := t.isLt; omega⟩
abbrev blockOf (t : Fin cfg0.N) : Fin 4 := ⟨t.val % 4, Nat.mod_lt _ (by norm_num)⟩

set_option maxHeartbeats 2000000 in
/-- The blocks it reads. -/
theorem blocks (t : Fin cfg0.N) : Blocks (argsOf m c) (seqOf t) (blockOf t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  h0 r d := by
    blk_simp [iblk]
    rw [V_main_arg0]
    refine congrArg (m ((c : Thread nD τ).loc main_arg0)) ?_
    blk_ext [idx0]
  h1 r d := by
    blk_simp [iblk]
    rw [V_main_arg1]
    refine congrArg (m ((c : Thread nD τ).loc main_arg1)) ?_
    blk_ext [idx1]
  h2 k d := by
    blk_simp [iblk]
    rw [V_wOut]
    refine congrArg (argsOf m c).wOut ?_
    blk_ext [idx2]
  h3 d := by
    blk_simp [iblk]
    rw [V_mod, ← V_mod_apply]
    refine congrArg (shapeCast S4x16x6x1x1024 (argsOf m c).mod shapeCasts_S4x16x6144_S4x16x6x1x1024 : Vec Ideal S4x16x6x1x1024 .f32) ?_
    blk_ext [idx3]
  h4 d := by
    blk_simp [iblk]
    rw [V_mod, ← V_mod_apply]
    refine congrArg (shapeCast S4x16x6x1x1024 (argsOf m c).mod shapeCasts_S4x16x6144_S4x16x6x1x1024 : Vec Ideal S4x16x6x1x1024 .f32) ?_
    blk_ext [idx4]
  h5 d := by
    blk_simp [iblk]
    rw [V_mod, ← V_mod_apply]
    refine congrArg (shapeCast S4x16x6x1x1024 (argsOf m c).mod shapeCasts_S4x16x6144_S4x16x6x1x1024 : Vec Ideal S4x16x6x1x1024 .f32) ?_
    blk_ext [idx5]
  h6 d := by
    blk_simp [iblk]
    rw [V_mod, ← V_mod_apply]
    refine congrArg (shapeCast S4x16x6x1x1024 (argsOf m c).mod shapeCasts_S4x16x6144_S4x16x6x1x1024 : Vec Ideal S4x16x6x1x1024 .f32) ?_
    blk_ext [idx6]
  h7 k n := by
    blk_simp [iblk]
    rw [V_wUp]
    refine congrArg (argsOf m c).wUp ?_
    blk_ext [idx7]
  h8 i n := by
    blk_simp [iblk]
    rw [V_main_arg5]
    refine congrArg (m ((c : Thread nD τ).loc main_arg5)) ?_
    blk_ext [idx8]
  h9 n := by
    blk_simp [iblk]
    rw [V_convB, ← V_convB_apply]
    refine congrArg (shapeCast S4x1x2816 (argsOf m c).convB shapeCasts_S4x2816_S4x1x2816 : Vec Ideal S4x1x2816 .f32) ?_
    blk_ext [idx9]
  h10 n d := by
    blk_simp [iblk]
    rw [V_wDown]
    refine congrArg (argsOf m c).wDown ?_
    blk_ext [idx10]

/-! ## Point by point -/

/-- A point leaves its last 8 rows of features in front for the next. -/
theorem carried (t : Fin cfg0.N) (r : Fin 520) (n : Fin 2816) (hr : r.val < 8) :
    (outsAt0 m c t.val t.isLt).2 (ix2 r n) = feat (argsOf m c) (seqOf t) (blockOf t) (512 + r) n := by
  by_cases h : t.val % 4 = 0
  · rw [outsAt0_A m c t h]
    dsimp only
    exact carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (blocks m c t) r n hr
  · rw [outsAt0_B m c t h]
    dsimp only
    exact carry_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 (blocks m c t) r n hr

/-- What a point leaves in its block of the result. -/
theorem left (t : Fin cfg0.N) (r : Fin 512) (d : Fin 1024) :
    (outsAt0 m c t.val t.isLt).1 (ix3 0 r d) = result (argsOf m c) (seqOf t) (pos (blockOf t) r) d := by
  have ht : t.val < 64 := t.isLt
  by_cases h : t.val % 4 = 0
  · rw [outsAt0_A m c t h]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (blocks m c t) h r d
  · rw [outsAt0_B m c t h]
    dsimp only
    refine out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 (blocks m c t) (fun r n hr => ?_) r d
    have e := carried m c ⟨t.val - 1, by show t.val - 1 < 64; omega⟩ r n hr
    have eb : seqOf ⟨t.val - 1, by show t.val - 1 < 64; omega⟩ = seqOf t := Fin.ext (by show (t.val - 1) / 4 = t.val / 4; omega)
    rw [eb] at e
    exact e.trans (feat_next _ _ _ _ (by show t.val % 4 = (t.val - 1) % 4 + 1; omega) _ _)

theorem result_congr (A : Args) {b b' : Fin 16} {s s' : Fin 2048} {d d' : Fin 1024} (hb : b.val = b'.val) (hs : s.val = s'.val) (hd : d.val = d'.val) :
    result A b s d = result A b' s' d' := by
  rw [Fin.ext hb, Fin.ext hs, Fin.ext hd]

/-- The result array after the run. -/
theorem arr_eq : (dats m 0 c).arrAt 12 cfg0.N = whole (argsOf m c) := by
  refine (dats m 0 c).arrAt_eq_of_covers 12 _ (by decide +kernel) fun t _ y => ?_
  blk_simp
  rw [after0_12]
  have e0 : ((win0_12.blk t).view.emb y 0).val = t.val / 4 + (y 0).val := by blk_simp [idx12]
  have e1 : ((win0_12.blk t).view.emb y 1).val = t.val % 4 * 512 + (y 1).val := by blk_simp [idx12]
  have e2 : ((win0_12.blk t).view.emb y 2).val = (y 2).val := by blk_simp [idx12]
  have hy0 := (y 0).isLt
  change _ < 1 at hy0
  have ey : (y : S1x512x1024.Idx) = ix3 0 (y 1) (y 2) := funext fun k => Fin.ext (by
    fin_cases k
    · show (y 0).val = 0
      omega
    · rfl
    · rfl)
  refine (congrArg (outsAt0 m c t.val t.isLt).1 ey).trans ((left m c t (y 1) (y 2)).trans ?_)
  refine result_congr _ ?_ ?_ e2.symm
  · show t.val / 4 = ((win0_12.blk t).view.emb y 0).val
    omega
  · show 512 * (t.val % 4) + (y 1).val = ((win0_12.blk t).view.emb y 1).val
    omega

end Cert.Kernel2Ideal.Ffn

end
-- ==== Proof.Ffn.Reference.lean ====
/- The reference's feed-forward part, read at one position and one feature. -/
module

public import proofs.«01_k».proof.Proof.Ffn.Spec
public import proofs.«01_k».proof.Proof.Gen.Reference2Ideal.Read
public import Idealize.ShloMosaic.Lib.KernelVsHost

@[expose] public section

set_option maxRecDepth 16384

noncomputable section

namespace Cert.Reference2Ideal.Ffn

open Cert.Reference2Ideal Cert.Reference2Ideal.Gen Cert.Reference2Ideal.Read Cert.Ffn Idealize.ShloMosaic

variable (A : Args) (b : Fin 16) (s : Fin 2048) (d : Fin 1024)

theorem v1_apply (n : Fin 6144) : val_main_v1 (F := Ideal) A.mod (ix2 b n) = A.mod (ix3 0 b n) := by
  pointwise [val_main_v1, val_main_v0]

/-- The residual. -/
theorem v20_apply : val_main_v20 (F := Ideal) A.x A.u A.mod A.wOut (ix3 b s d) = resid A b s d := by
  pointwise [val_main_v20, val_main_v19, val_main_v18, val_main_v17, val_main_v10, val_main_v4, v1_apply, val_main_v14, val_main_v16, val_main_v15]
  rfl

theorem sum_apply (y : FVec Ideal S16x2048x1024 .f32) : Host.reduceAdd y (constant S_ .f32 0x00000000#32)
    reducesTo_S16x2048x1024_S16x2048_d2 h_S_ (ix2 b s) = ∑ k : Fin 1024, y (ix3 b s k) := by
  pointwise

/-- The scale. -/
theorem v28_apply : val_main_v28 (F := Ideal) A.x A.u A.mod A.wOut (ix3 b s 0) = scale A b s := by
  have e : val_main_v22 (F := Ideal) A.x A.u A.mod A.wOut (ix2 b s) = ∑ k : Fin 1024, resid A b s k * resid A b s k := by
    refine (sum_apply b s _).trans (Finset.sum_congr rfl fun k _ => ?_)
    rw [← v20_apply]
    rfl
  unfold scale
  rw [← e]
  pointwise [val_main_v28, val_main_v27, val_main_v26, val_main_cst_1, val_main_v25, val_main_v24, val_main_cst_0, val_main_v23]

/-- The hidden features. -/
theorem v36_apply : val_main_v36 (F := Ideal) A.x A.u A.mod A.wOut (ix3 b s d) = hidden A b s d := by
  pointwise [val_main_v36, val_main_v35, val_main_v34, val_main_v33, val_main_v32, val_main_v31, val_main_cst_2, val_main_v30, val_main_v29,
    val_main_v11, val_main_v12, val_main_v5, val_main_v6, v1_apply, v20_apply, v28_apply]
  rfl

/-- The projection. -/
theorem v45_apply (n : Fin 5632) : val_main_v45 (F := Ideal) A.x A.u A.mod A.wOut A.wUp (ix3 b s n) = up A b s n := by
  pointwise [val_main_v45, val_main_v38, val_main_v37, v36_apply]
  rfl

/-- The features to convolve, behind two positions of zeros. -/
theorem v48_apply (p : Fin 2050) (n : Fin 2816) : val_main_v48 (F := Ideal) A.x A.u A.mod A.wOut A.wUp (ix3 b p n)
    = if h : 2 ≤ p.val then up A b ⟨p - 2, by omega⟩ ⟨n, by omega⟩ else 0 := by
  by_cases h : 2 ≤ p.val
  · rw [dif_pos h, ← v45_apply]
    refine (pad_apply_of_inside _ _ _ _ _ _ _ _ (ix3 b ⟨p - 2, by omega⟩ n) fun a => ?_).trans ?_
    · fin_cases a
      · show b.val = 0 + b.val * 1
        omega
      · show p.val = 2 + (p.val - 2) * 1
        omega
      · show n.val = 0 + n.val * 1
        omega
    · pointwise [val_main_v46]
  · rw [dif_neg h]
    refine (pad_apply_of_not_inside _ _ _ _ _ _ _ _ (1 : Fin 3) fun hc => h hc.1).trans ?_
    pointwise [val_main_call0_v0, val_main_c]
    show (((0#32 : BitVec 32).toInt : ℝ) : EReal) = 0
    simp

/-- The convolution. -/
theorem v73_apply (n : Fin 2816) : val_main_v73 (F := Ideal) A.x A.u A.mod A.wOut A.wUp A.convW A.convB (ix3 b s n) = conv A b s n := by
  have e0 : (if h : 2 ≤ s.val then up A b ⟨s - 2, by omega⟩ ⟨n, by omega⟩ else 0) = back A b s 2 n := rfl
  have e1 : (if h : 2 ≤ 1 + s.val then up A b ⟨1 + s - 2, by omega⟩ ⟨n, by omega⟩ else 0) = back A b s 1 n := by
    have e : (⟨1 + s - 2, by omega⟩ : Fin 2048) = ⟨s - 1, by omega⟩ := Fin.ext (by show 1 + s.val - 2 = s.val - 1; omega)
    unfold back
    by_cases h : 1 ≤ s.val
    · rw [if_pos h, dif_pos (by omega), e]
    · rw [if_neg h, dif_neg (by omega)]
  pointwise [val_main_v73, val_main_v72, val_main_v71, val_main_v70, val_main_v69, val_main_v68, val_main_v67, val_main_v66, val_main_v65, val_main_v64,
    val_main_v63, val_main_v62, val_main_v61, val_main_v60, val_main_v59, val_main_v58, val_main_v57, val_main_v56, val_main_v55, val_main_v54,
    val_main_v53, val_main_v52, val_main_v51, val_main_v50, val_main_v49, val_main_cst_3, val_main_v42, val_main_v41, val_main_v40, val_main_v39, v48_apply]
  rw [e0, e1, mul_comm (back A b s 2 n), mul_comm (back A b s 1 n), mul_comm (up A b s _)]
  rfl

/-- The gated activation. -/
theorem v81_apply (n : Fin 2816) : val_main_v81 (F := Ideal) A.x A.u A.mod A.wOut A.wUp A.convW A.convB (ix3 b s n) = act A b s n := by
  unfold act
  rw [← Ideal.erfc_neg]
  pointwise [val_main_v81, val_main_v80, val_main_v79, val_main_v78, val_main_v77, val_main_cst_5, val_main_v76, val_main_v75, val_main_v74,
    val_main_cst_4, val_main_v47, v73_apply, v45_apply]
  rw [neg_mul]

/-- The result. -/
theorem v85_apply : val_main_v85 (F := Ideal) A.x A.u A.mod A.wOut A.wUp A.convW A.convB A.wDown (ix3 b s d) = result A b s d := by
  pointwise [val_main_v85, val_main_v84, val_main_v83, val_main_v13, val_main_v7, v1_apply, val_main_v82, val_main_v44, val_main_v43, v20_apply, v81_apply]
  rfl

end Cert.Reference2Ideal.Ffn

end
-- ==== Proof.Ffn.Claims.lean ====
/- The claims about the output projection and the feed-forward part: the frames, and the equality of the
   kernel's result with the reference's. -/
module

public import proofs.«01_k».proof.Defs
public import proofs.«01_k».proof.Proof.Ffn.Array
public import proofs.«01_k».proof.Proof.Ffn.Reference
public import proofs.«01_k».proof.Proof.Gen.Kernel2.Frame
public import Idealize.ShloMosaic.Adequacy
public import Idealize.ShloMosaic.Init

@[expose] public section

set_option maxRecDepth 16384

noncomputable section

namespace Cert.Ffn

open Idealize.ShloMosaic Idealize.ShloMosaic.TcCoe Idealize.SL.Sem

/-- The kernel runs and keeps its arguments. -/
theorem frame_kernel : quiescent_Kernel2 := fun m ρ _ => Cert.Kernel2.Gen.frame m ρ

/-- So does the kernel at extended reals. -/
theorem frame_ideal : quiescent_Kernel2Ideal := fun m ρ _ => Cert.Kernel2Ideal.Gen.frame m ρ

/-- So does the reference, which has no semaphores. -/
theorem frame_reference : quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The reference's result array. -/
theorem reference_eq (A : Args) :
    Cert.Reference2Ideal.Read.val_main_v85 (F := Ideal) A.x A.u A.mod A.wOut A.wUp A.convW A.convB A.wDown = whole A := funext fun i => by
  have e : i = ix3 (i 0) (i 1) (i 2) := funext fun k => by fin_cases k <;> rfl
  rw [e]
  exact Cert.Reference2Ideal.Ffn.v85_apply A _ _ _

/-- Kernel and reference compute the same array. -/
theorem equal : algebraic_Kernel2Ideal_Reference2Ideal := by
  intro m ρ m' ρ' hm hagree
  refine ⟨fun c => whole (Cert.Kernel2Ideal.Ffn.argsOf m c), ?_, ?_⟩
  · exact (θ_run Cert.Kernel2Ideal.defs _ _).mono
      (fun r h c => ⟨(h c).1.trans (Cert.Kernel2Ideal.Ffn.arr_eq m c), (h c).2⟩) (Cert.Kernel2Ideal.Value.run_blocks m ρ)
  · refine (θ_run Cert.Reference2Ideal.defs _ _).mono (fun r h c => ⟨(h c).1.trans ?_, (h c).2⟩) (Cert.Reference2Ideal.Value.run m' ρ')
    obtain ⟨e0, e1, e2, e3, e4, e5, e6, e7, e8⟩ := hagree c
    rw [Cert.Reference2Ideal.Read.val_main_v85_eq, e0, e1, e2, e3, e4, e5, e6, e7]
    exact reference_eq (Cert.Kernel2Ideal.Ffn.argsOf m c)

end Cert.Ffn

end
-- ==== Proof.Norm.Spec.lean ====
/- The normalized and modulated hidden features of a layer, said once at extended reals for the programs
   that compute them. -/
module

public import Idealize.ShloMosaic.Lib.Pointwise

@[expose] public section

set_option maxRecDepth 16384

noncomputable section

namespace Cert.Norm

open Idealize.ShloMosaic

/-- 16 sequences of 2048 positions and 1024 features. -/
abbrev Input := Vec Ideal ⟨3, ![16, 2048, 1024]⟩ .f32

/-- The modulation: per layer and sequence, six parts side by side. -/
abbrev Modulation := Vec Ideal ⟨3, ![4, 16, 6144]⟩ .f32

/-- A feature of one of the modulation's six parts. -/
def part (mod : Modulation) (l : Fin 4) (b : Fin 16) (p : Fin 6) (d : Fin 1024) : EReal := mod (ix3 l b ⟨1024 * p + d, by omega⟩)

/-- The reciprocal root of the mean square of `n` numbers, where `c` is the word of their count. -/
def scaleOf {n : ℕ} (c : BitVec 32) (y : Fin n → EReal) : EReal :=
  Ideal.rsqrt (Ideal.div (∑ k : Fin n, y k * y k) (Ideal.ofBits .f32 c) + Ideal.ofBits .f32 0x358637BD#32)

/-- The hidden features. -/
def hidden (x : Input) (mod : Modulation) (l : Fin 4) (b : Fin 16) (s : Fin 2048) (d : Fin 1024) : EReal :=
  x (ix3 b s d) * scaleOf 0x44800000#32 (fun k : Fin 1024 => x (ix3 b s k)) * (1 + part mod l b 1 d) + part mod l b 0 d

end Cert.Norm

end
-- ==== Proof.MlPre.Spec.lean ====
/- The mLSTM layer's input projections, said once at extended reals for both programs: queries, keys, values,
   output gates, and the input and forget gates laid out as rows. -/
module

public import proofs.«01_k».proof.Proof.Norm.Spec

@[expose] public section

set_option maxRecDepth 16384

noncomputable section

namespace Cert.MlPre

open Idealize.ShloMosaic Cert.Norm

/-- The arguments: the layer's input, the modulation, and the weights and gate biases of both mLSTM layers. -/
structure Args where
  x : Input
  mod : Modulation
  wIn : Vec Ideal ⟨3, ![2, 1024, 3080]⟩ .f32
  bGates : Vec Ideal ⟨2, ![2, 8]⟩ .f32

variable (A : Args) (b : Fin 16) (s : Fin 2048)

/-- The projection: 512 queries, 512 keys, 1024 values, 1024 output gates and 8 gates. -/
def proj (n : Fin 3080) : EReal := ∑ k : Fin 1024, hidden A.x A.mod 1 b s k * A.wIn (ix3 0 k n)

/-- The logarithm of the logistic function, as `min z 0 - log (1 + e^(-|z|))`. -/
def logSigmoid (z : EReal) : EReal := min z 0 - Ideal.log1p (Ideal.exp (-max z (-z)))

/-- A gate before its activation. -/
def preGate (g : Fin 8) : EReal := proj A b s ⟨3072 + g, by omega⟩ + A.bGates (ix2 0 g)

/-- Four input gates, as they are, then the logarithms of four forget gates. -/
def gate (g : Fin 8) : EReal := if g.val < 4 then preGate A b s g else logSigmoid (preGate A b s g)

/-- A key, scaled. -/
def key (n : Fin 512) : EReal := proj A b s ⟨512 + n, by omega⟩ * Ideal.ofBits .f32 0x3DB504F3#32

/-- The arrays of queries, keys, values, output gates and gate rows. -/
def queries : (⟨3, ![16, 2048, 512]⟩ : Shape).Idx → EReal := fun i => proj A (i 0) (i 1) ⟨(i 2).val, by have := (i 2).isLt; change _ < 512 at this; omega⟩
def keys : (⟨3, ![16, 2048, 512]⟩ : Shape).Idx → EReal := fun i => key A (i 0) (i 1) (i 2)
def values : (⟨3, ![16, 2048, 1024]⟩ : Shape).Idx → EReal := fun i =>
  proj A (i 0) (i 1) ⟨1024 + (i 2).val, by have := (i 2).isLt; change _ < 1024 at this; omega⟩
def outGates : (⟨3, ![16, 2048, 1024]⟩ : Shape).Idx → EReal := fun i =>
  proj A (i 0) (i 1) ⟨2048 + (i 2).val, by have := (i 2).isLt; change _ < 1024 at this; omega⟩
def gateRows : (⟨3, ![16, 8, 2048]⟩ : Shape).Idx → EReal := fun i => gate A (i 0) (i 2) (i 1)

/-- `log (1 + e^(-|z|))` is not negative. -/
theorem log1p_exp_nonneg (y : EReal) : 0 ≤ Ideal.log1p (Ideal.exp y) := by
  unfold Ideal.log1p
  induction y using EReal.rec with
  | bot =>
    rw [Ideal.exp_bot, add_zero, ← EReal.coe_one, Ideal.log_coe, if_neg (by norm_num), Real.log_one]
    exact le_of_eq EReal.coe_zero.symm
  | top =>
    rw [Ideal.exp_top, ← EReal.coe_one, EReal.coe_add_top, Ideal.log_top]
    exact le_top
  | coe r =>
    rw [Ideal.exp_coe, ← EReal.coe_one, ← EReal.coe_add, Ideal.log_coe]
    have h := Real.exp_pos r
    rw [if_neg (by linarith)]
    exact_mod_cast Real.log_nonneg (by linarith)

/-- The softplus of `-z`, negated, is that logarithm: `-(max (-z) 0 + log (1 + e^(-|z|)))`. -/
theorem neg_softplus (z : EReal) :
    -(max (-z) 0 + Ideal.log1p (Ideal.exp (-max (-z) (- -z)))) = logSigmoid z := by
  have h0 := log1p_exp_nonneg (-max z (-z))
  have h1 : (0 : EReal) ≤ max (-z) 0 := le_max_right _ _
  unfold logSigmoid
  rw [neg_neg, max_comm (-z) z, EReal.neg_add (Or.inl (ne_of_gt (lt_of_lt_of_le EReal.bot_lt_zero h1))) (Or.inr (ne_of_gt (lt_of_lt_of_le EReal.bot_lt_zero h0)))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

end Cert.MlPre

end
-- ==== Proof.MlPre.Block.lean ====
/- What one grid point of the kernel leaves: the projections of 1024 positions of one sequence. -/
module

public import proofs.«01_k».proof.Proof.MlPre.Spec
public import proofs.«01_k».proof.Proof.Gen.Kernel3Ideal.Value
public import Idealize.ShloMosaic.Lib.Pipeline.ValueKit.Basic
public import Idealize.ShloMosaic.Lib.Pipeline.ValueKit.Tiles

@[expose] public section

set_option maxRecDepth 16384

noncomputable section

namespace Cert.Kernel3Ideal.MlPre

open Cert.Kernel3Ideal Cert.Kernel3Ideal.Gen Cert.Norm Cert.MlPre Idealize.ShloMosaic

/-- The blocks a grid point reads: block `T` of sequence `b`, and the weights. -/
structure Blocks (A : Args) (b : Fin 16) (T : Fin 2) (x0 : Vec Ideal S1x1024x1024 .f32) (x1 x2 : Vec Ideal S1x1x1x1x1024 .f32)
    (x3 : Vec Ideal S1x1024x3080 .bf16) (x4 : Vec Ideal S1x8x1024 .bf16) (x5 : Vec Ideal S1x8x1 .f32) : Prop where
  h0 : ∀ (r : Fin 1024) d, x0 (ix3 0 r d) = A.x (ix3 b ⟨1024 * T + r, by omega⟩ d)
  h1 : ∀ d, x1 (ix5 0 0 0 0 d) = part A.mod 1 b 1 d
  h2 : ∀ d, x2 (ix5 0 0 0 0 d) = part A.mod 1 b 0 d
  h3 : ∀ k n, x3 (ix3 0 k n) = A.wIn (ix3 0 k n)
  h4 : ∀ (g : Fin 8) k, x4 (ix3 0 g k) = A.wIn (ix3 0 k ⟨3072 + g, by omega⟩)
  h5 : ∀ g, x5 (ix3 0 g 0) = A.bGates (ix2 0 g)

/-- A position of the block. -/
abbrev pos (T : Fin 2) (r : Fin 1024) : Fin 2048 := ⟨1024 * T + r, by omega⟩

variable {A : Args} {b : Fin 16} {T : Fin 2} {x0 : Vec Ideal S1x1024x1024 .f32} {x1 x2 : Vec Ideal S1x1x1x1x1024 .f32}
  {x3 : Vec Ideal S1x1024x3080 .bf16} {x4 : Vec Ideal S1x8x1024 .bf16} {x5 : Vec Ideal S1x8x1 .f32} (H : Blocks A b T x0 x1 x2 x3 x4 x5) (r : Fin 1024)

theorem zero3 : (![0, 0, 0] : Fin 3 → ℕ) = fun _ => 0 := by decide
theorem zero5 : (![0, 0, 0, 0, 0] : Fin 5 → ℕ) = fun _ => 0 := by decide

include H

/-- The hidden features. -/
theorem hidden_apply (d : Fin 1024) : k0_pay2 (View.ld x0 r0_0) (View.ld x1 r0_1) (View.ld x2 r0_1) (ix2 r d) = hidden A.x A.mod 1 b (pos T r) d := by
  rw [View.ld_unit_zero zero3, View.ld_unit_zero zero5, View.ld_unit_zero zero5]
  unfold Norm.hidden scaleOf
  simp only [← H.h0, ← H.h1, ← H.h2]
  pointwise [k0_pay2]

/-- The projection. -/
theorem proj_apply (n : Fin 3072) : k0_pay3 (View.ld x0 r0_0) (View.ld x1 r0_1) (View.ld x2 r0_1) (View.ld x3 r0_2) (ix2 r n) = proj A b (pos T r) ⟨n, by omega⟩ := by
  have e : ∀ k : Fin 1024, View.ld x3 r0_2 (ix3 0 k n) = A.wIn (ix3 0 k ⟨n, by omega⟩) := fun k => by
    rw [← H.h3]
    exact View.ld_unit_apply_of x3 _ _ _ _ _ fun a => by fin_cases a <;> simp
  unfold proj
  simp only [← e, ← hidden_apply H r]
  pointwise [k0_pay3]

theorem out6_apply (n : Fin 512) : out0_6 x0 x1 x2 x3 x4 x5 (ix3 0 r n) = proj A b (pos T r) ⟨n, by omega⟩ := by
  unfold out0_6
  rw [View.canon_unit_zero zero3]
  pointwise [k0_pay4, proj_apply H r]

theorem out7_apply (n : Fin 512) : out0_7 x0 x1 x2 x3 x4 x5 (ix3 0 r n) = key A b (pos T r) n := by
  unfold out0_7
  rw [View.canon_unit_zero zero3]
  pointwise [k0_pay6, k0_pay5, proj_apply H r]
  rfl

theorem out8_apply (n : Fin 1024) : out0_8 x0 x1 x2 x3 x4 x5 (ix3 0 r n) = proj A b (pos T r) ⟨1024 + n, by omega⟩ := by
  unfold out0_8 k0_pay10
  rw [View.canon_unit_zero zero3]
  pointwise [k0_pay7, proj_apply H r]

theorem out9_apply (n : Fin 1024) : out0_9 x0 x1 x2 x3 x4 x5 (ix3 0 r n) = proj A b (pos T r) ⟨2048 + n, by omega⟩ := by
  unfold out0_9 k0_pay10
  rw [View.canon_unit_zero zero3]
  pointwise [k0_pay8, proj_apply H r]

/-- The gate rows. -/
theorem out10_apply (g : Fin 8) : out0_10 x0 x1 x2 x3 x4 x5 (ix3 0 g r) = gate A b (pos T r) g := by
  have e : preGate A b (pos T r) g = ∑ k : Fin 1024, x4 (ix3 0 g k) * k0_pay2 (View.ld x0 r0_0) (View.ld x1 r0_1) (View.ld x2 r0_1) (ix2 r k) + x5 (ix3 0 g 0) := by
    unfold preGate proj
    simp only [hidden_apply H r, H.h4, H.h5]
    refine congrArg (· + _) (Finset.sum_congr rfl fun k _ => mul_comm _ _)
  unfold out0_10 gate logSigmoid
  rw [View.canon_unit_zero zero3, View.ld_unit_zero (X := x4) zero3, View.ld_unit_zero (X := x5) zero3, e]
  generalize k0_pay2 (View.ld x0 r0_0) (View.ld x1 r0_1) (View.ld x2 r0_1) = h
  pointwise [k0_pay1, k0_pay9]
  have hs : IntOp.cmpi .slt (BitVec.ofNat 32 g.val) 4#32 = if g.val < 4 then 1#1 else 0#1 := by
    clear e
    revert g
    decide
  rw [hs, zero_sub]
  split <;> rfl

end Cert.Kernel3Ideal.MlPre

end
-- ==== Proof.MlPre.Array.lean ====
/- The projection kernel's five result arrays: each grid point leaves one block of 1024 positions of one
   sequence. -/
module

public import proofs.«01_k».proof.Proof.MlPre.Block
public import Idealize.ShloMosaic.Lib.Pipeline.ValueKit.Geometry

@[expose] public section

set_option maxRecDepth 16384

noncomputable section

namespace Cert.Kernel3Ideal.MlPre

open Cert.Kernel3Ideal Cert.Kernel3Ideal.Gen Cert.Norm Cert.MlPre Idealize.ShloMosaic Idealize.ShloMosaic.TcCoe Idealize.SL.Sem

variable (m : (ℓ : Loc nD τ sig) → Buf (Elt Ideal) ℓ) (c : Dev nD)

/-- The arguments a device launches with. -/
def argsOf : Args where
  x := m ((c : Thread nD τ).loc main_arg0)
  mod := m ((c : Thread nD τ).loc main_arg1)
  wIn := m ((c : Thread nD τ).loc main_arg2)
  bGates := m ((c : Thread nD τ).loc main_arg3)

/-! ## What the host hands over -/

/-- The modulation's parts apart, the gate weights with their axes swapped, and the biases as a column. -/
def modHost (mod : Modulation) : Vec Ideal S4x16x6x1x1024 .f32 := shapeCast S4x16x6x1x1024 mod shapeCasts_S4x16x6144_S4x16x6x1x1024
def gateHost (w : Vec Ideal S2x1024x3080 .f32) : Vec Ideal S2x8x1024 .f32 :=
  transpose S2x8x1024 [0, 2, 1] (extractStridedSlice S2x1024x8 ![0, 0, 3072] w slices_S2x1024x3080_S2x1024x8_0_0_3072) transposes_S2x1024x8_S2x8x1024_0_2_1
def biasHost (b : Vec Ideal S2x8 .f32) : Vec Ideal S2x8x1 .f32 := shapeCast S2x8x1 b shapeCasts_S2x8_S2x8x1

theorem V_mod : V m c main_v0 = modHost (argsOf m c).mod := by
  simp only [V, hostOps0]
  after_results_simp <;> rfl

theorem V_gate : V m c main_v3 = gateHost (argsOf m c).wIn := by
  simp only [V, hostOps0]
  after_results_simp <;> rfl

theorem V_wIn : V m c main_v4 = (argsOf m c).wIn := by
  simp only [V, hostOps0]
  after_results_simp <;> rfl

theorem V_bias : V m c main_v5 = biasHost (argsOf m c).bGates := by
  simp only [V, hostOps0]
  after_results_simp <;> rfl

theorem modHost_apply (mod : Modulation) (b : Fin 16) (p : Fin 6) (d : Fin 1024) : modHost mod (ix5 1 b p 0 d) = part mod 1 b p d := by
  unfold part
  pointwise [modHost]
  simp only [Nat.mul_comm]

theorem gateHost_apply (w : Vec Ideal S2x1024x3080 .f32) (g : Fin 8) (k : Fin 1024) : gateHost w (ix3 0 g k) = w (ix3 0 k ⟨3072 + g, by omega⟩) := by
  pointwise [gateHost]

theorem biasHost_apply (b : Vec Ideal S2x8 .f32) (g : Fin 8) : biasHost b (ix3 0 g 0) = b (ix2 0 g) := by
  pointwise [biasHost]

/-! ## The blocks of a grid point -/

theorem idx0 : ∀ t : Fin cfg0.N, win0_0.index t = ![t.val / 2, t.val % 2, 0] := (by decide +kernel : ∀ t : Fin grid0.N, _)
theorem idx1 : ∀ t : Fin cfg0.N, win0_1.index t = ![1, t.val / 2, 1, 0, 0] := (by decide +kernel : ∀ t : Fin grid0.N, _)
theorem idx2 : ∀ t : Fin cfg0.N, win0_2.index t = ![1, t.val / 2, 0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![t.val / 2, t.val % 2, 0] := (by decide +kernel : ∀ t : Fin grid0.N, _)
theorem idx7 : ∀ t : Fin cfg0.N, win0_7.index t = ![t.val / 2, t.val % 2, 0] := (by decide +kernel : ∀ t : Fin grid0.N, _)
theorem idx8 : ∀ t : Fin cfg0.N, win0_8.index t = ![t.val / 2, t.val % 2, 0] := (by decide +kernel : ∀ t : Fin grid0.N, _)
theorem idx9 : ∀ t : Fin cfg0.N, win0_9.index t = ![t.val / 2, t.val % 2, 0] := (by decide +kernel : ∀ t : Fin grid0.N, _)
theorem idx10 : ∀ t : Fin cfg0.N, win0_10.index t = ![t.val / 2, 0, t.val % 2] := (by decide +kernel : ∀ t : Fin grid0.N, _)

/-- A grid point's sequence and block. -/
abbrev seqOf (t : Fin cfg0.N) : Fin 16 := ⟨t.val / 2, by have : t.val < 32 := t.isLt; omega⟩
abbrev blockOf (t : Fin cfg0.N) : Fin 2 := ⟨t.val % 2, Nat.mod_lt _ (by norm_num)⟩

set_option maxHeartbeats 2000000 in
/-- The blocks it reads. -/
theorem blocks (t : Fin cfg0.N) : Blocks (argsOf m c) (seqOf t) (blockOf t) (iblk m c 0 t) (iblk m c 1 t) (iblk m c 2 t) (iblk m c 3 t) (iblk m c 4 t)
    (iblk m c 5 t) where
  h0 r d := by
    blk_simp [iblk]
    rw [V_main_arg0]
    refine congrArg (m ((c : Thread nD τ).loc main_arg0)) ?_
    blk_ext [idx0]
  h1 d := by
    blk_simp [iblk]
    rw [V_mod, ← modHost_apply]
    refine congrArg (modHost (argsOf m c).mod) ?_
    blk_ext [idx1]
  h2 d := by
    blk_simp [iblk]
    rw [V_mod, ← modHost_apply]
    refine congrArg (modHost (argsOf m c).mod) ?_
    blk_ext [idx2]
  h3 k n := by
    blk_simp [iblk]
    rw [V_wIn]
    refine congrArg (argsOf m c).wIn ?_
    blk_ext [idx3]
  h4 g k := by
    blk_simp [iblk]
    rw [V_gate, ← gateHost_apply (argsOf m c).wIn]
    refine congrArg (gateHost (argsOf m c).wIn) ?_
    blk_ext [idx4]
  h5 g := by
    blk_simp [iblk]
    rw [V_bias, ← biasHost_apply (argsOf m c).bGates]
    refine congrArg (biasHost (argsOf m c).bGates) ?_
    blk_ext [idx5]

/-! ## The arrays -/

theorem proj_congr (A : Args) {b b' : Fin 16} {s s' : Fin 2048} {n n' : Fin 3080} (hb : b.val = b'.val) (hs : s.val = s'.val) (hn : n.val = n'.val) :
    proj A b s n = proj A b' s' n' := by rw [Fin.ext hb, Fin.ext hs, Fin.ext hn]

theorem key_congr (A : Args) {b b' : Fin 16} {s s' : Fin 2048} {n n' : Fin 512} (hb : b.val = b'.val) (hs : s.val = s'.val) (hn : n.val = n'.val) :
    key A b s n = key A b' s' n' := by rw [Fin.ext hb, Fin.ext hs, Fin.ext hn]

theorem gate_congr (A : Args) {b b' : Fin 16} {s s' : Fin 2048} {g g' : Fin 8} (hb : b.val = b'.val) (hs : s.val = s'.val) (hg : g.val = g'.val) :
    gate A b s g = gate A b' s' g' := by rw [Fin.ext hb, Fin.ext hs, Fin.ext hg]

theorem arr6_eq : (dats m 0 c).arrAt 6 cfg0.N = queries (argsOf m c) := by
  refine (dats m 0 c).arrAt_eq_of_covers 6 _ (by decide +kernel) fun t _ y => ?_
  blk_simp
  rw [after0_6]
  have e0 : ((win0_6.blk t).view.emb y 0).val = t.val / 2 + (y 0).val := by blk_simp [idx6]
  have e1 : ((win0_6.blk t).view.emb y 1).val = t.val % 2 * 1024 + (y 1).val := by blk_simp [idx6]
  have e2 : ((win0_6.blk t).view.emb y 2).val = (y 2).val := by blk_simp [idx6]
  have hy0 := (y 0).isLt
  change _ < 1 at hy0
  have ey : (y : S1x1024x512.Idx) = ix3 0 (y 1) (y 2) := funext fun k => Fin.ext (by
    fin_cases k
    · show (y 0).val = 0
      omega
    · rfl
    · rfl)
  refine (congrArg (out0_6 (iblk m c 0 t) (iblk m c 1 t) (iblk m c 2 t) (iblk m c 3 t) (iblk m c 4 t) (iblk m c 5 t)) ey).trans
    ((out6_apply (blocks m c t) (y 1) (y 2)).trans (proj_congr _ ?_ ?_ ?_))
  · show t.val / 2 = ((win0_6.blk t).view.emb y 0).val
    omega
  · show 1024 * (t.val % 2) + (y 1).val = ((win0_6.blk t).view.emb y 1).val
    omega
  · show (y 2).val = ((win0_6.blk t).view.emb y 2).val
    omega

theorem arr7_eq : (dats m 0 c).arrAt 7 cfg0.N = keys (argsOf m c) := by
  refine (dats m 0 c).arrAt_eq_of_covers 7 _ (by decide +kernel) fun t _ y => ?_
  blk_simp
  rw [after0_7]
  have e0 : ((win0_7.blk t).view.emb y 0).val = t.val / 2 + (y 0).val := by blk_simp [idx7]
  have e1 : ((win0_7.blk t).view.emb y 1).val = t.val % 2 * 1024 + (y 1).val := by blk_simp [idx7]
  have e2 : ((win0_7.blk t).view.emb y 2).val = (y 2).val := by blk_simp [idx7]
  have hy0 := (y 0).isLt
  change _ < 1 at hy0
  have ey : (y : S1x1024x512.Idx) = ix3 0 (y 1) (y 2) := funext fun k => Fin.ext (by
    fin_cases k
    · show (y 0).val = 0
      omega
    · rfl
    · rfl)
  refine (congrArg (out0_7 (iblk m c 0 t) (iblk m c 1 t) (iblk m c 2 t) (iblk m c 3 t) (iblk m c 4 t) (iblk m c 5 t)) ey).trans
    ((out7_apply (blocks m c t) (y 1) (y 2)).trans (key_congr _ ?_ ?_ ?_))
  · show t.val / 2 = ((win0_7.blk t).view.emb y 0).val
    omega
  · show 1024 * (t.val % 2) + (y 1).val = ((win0_7.blk t).view.emb y 1).val
    omega
  · show (y 2).val = ((win0_7.blk t).view.emb y 2).val
    omega

theorem arr8_eq : (dats m 0 c).arrAt 8 cfg0.N = values (argsOf m c) := by
  refine (dats m 0 c).arrAt_eq_of_covers 8 _ (by decide +kernel) fun t _ y => ?_
  blk_simp
  rw [after0_8]
  have e0 : ((win0_8.blk t).view.emb y 0).val = t.val / 2 + (y 0).val := by blk_simp [idx8]
  have e1 : ((win0_8.blk t).view.emb y 1).val = t.val % 2 * 1024 + (y 1).val := by blk_simp [idx8]
  have e2 : ((win0_8.blk t).view.emb y 2).val = (y 2).val := by blk_simp [idx8]
  have hy0 := (y 0).isLt
  change _ < 1 at hy0
  have ey : (y : S1x1024x1024.Idx) = ix3 0 (y 1) (y 2) := funext fun k => Fin.ext (by
    fin_cases k
    · show (y 0).val = 0
      omega
    · rfl
    · rfl)
  refine (congrArg (out0_8 (iblk m c 0 t) (iblk m c 1 t) (iblk m c 2 t) (iblk m c 3 t) (iblk m c 4 t) (iblk m c 5 t)) ey).trans
    ((out8_apply (blocks m c t) (y 1) (y 2)).trans (proj_congr _ ?_ ?_ ?_))
  · show t.val / 2 = ((win0_8.blk t).view.emb y 0).val
    omega
  · show 1024 * (t.val % 2) + (y 1).val = ((win0_8.blk t).view.emb y 1).val
    omega
  · show 1024 + (y 2).val = 1024 + ((win0_8.blk t).view.emb y 2).val
    omega

theorem arr9_eq : (dats m 0 c).arrAt 9 cfg0.N = outGates (argsOf m c) := by
  refine (dats m 0 c).arrAt_eq_of_covers 9 _ (by decide +kernel) fun t _ y => ?_
  blk_simp
  rw [after0_9]
  have e0 : ((win0_9.blk t).view.emb y 0).val = t.val / 2 + (y 0).val := by blk_simp [idx9]
  have e1 : ((win0_9.blk t).view.emb y 1).val = t.val % 2 * 1024 + (y 1).val := by blk_simp [idx9]
  have e2 : ((win0_9.blk t).view.emb y 2).val = (y 2).val := by blk_simp [idx9]
  have hy0 := (y 0).isLt
  change _ < 1 at hy0
  have ey : (y : S1x1024x1024.Idx) = ix3 0 (y 1) (y 2) := funext fun k => Fin.ext (by
    fin_cases k
    · show (y 0).val = 0
      omega
    · rfl
    · rfl)
  refine (congrArg (out0_9 (iblk m c 0 t) (iblk m c 1 t) (iblk m c 2 t) (iblk m c 3 t) (iblk m c 4 t) (iblk m c 5 t)) ey).trans
    ((out9_apply (blocks m c t) (y 1) (y 2)).trans (proj_congr _ ?_ ?_ ?_))
  · show t.val / 2 = ((win0_9.blk t).view.emb y 0).val
    omega
  · show 1024 * (t.val % 2) + (y 1).val = ((win0_9.blk t).view.emb y 1).val
    omega
  · show 2048 + (y 2).val = 2048 + ((win0_9.blk t).view.emb y 2).val
    omega

theorem arr10_eq : (dats m 0 c).arrAt 10 cfg0.N = gateRows (argsOf m c) := by
  refine (dats m 0 c).arrAt_eq_of_covers 10 _ (by decide +kernel) fun t _ y => ?_
  blk_simp
  rw [after0_10]
  have e0 : ((win0_10.blk t).view.emb y 0).val = t.val / 2 + (y 0).val := by blk_simp [idx10]
  have e1 : ((win0_10.blk t).view.emb y 1).val = (y 1).val := by blk_simp [idx10]
  have e2 : ((win0_10.blk t).view.emb y 2).val = t.val % 2 * 1024 + (y 2).val := by blk_simp [idx10]
  have hy0 := (y 0).isLt
  change _ < 1 at hy0
  have ey : (y : S1x8x1024.Idx) = ix3 0 (y 1) (y 2) := funext fun k => Fin.ext (by
    fin_cases k
    · show (y 0).val = 0
      omega
    · rfl
    · rfl)
  refine (congrArg (out0_10 (iblk m c 0 t) (iblk m c 1 t) (iblk m c 2 t) (iblk m c 3 t) (iblk m c 4 t) (iblk m c 5 t)) ey).trans
    ((out10_apply (blocks m c t) (y 2) (y 1)).trans (gate_congr _ ?_ ?_ ?_))
  · show t.val / 2 = ((win0_10.blk t).view.emb y 0).val
    omega
  · show 1024 * (t.val % 2) + (y 2).val = ((win0_10.blk t).view.emb y 2).val
    omega
  · show (y 1).val = ((win0_10.blk t).view.emb y 1).val
    omega

end Cert.Kernel3Ideal.MlPre

end
-- ==== Proof.MlPre.Reference.lean ====
/- The reference's projections, read at one position. -/
module

public import proofs.«01_k».proof.Proof.MlPre.Spec
public import proofs.«01_k».proof.Proof.Gen.Reference3Ideal.Read

@[expose] public section

set_option maxRecDepth 16384

noncomputable section

namespace Cert.Reference3Ideal.MlPre

open Cert.Reference3Ideal Cert.Reference3Ideal.Gen Cert.Reference3Ideal.Read Cert.Norm Cert.MlPre Idealize.ShloMosaic

variable (A : Args) (b : Fin 16) (s : Fin 2048)

theorem v1_apply (n : Fin 6144) : val_main_v1 (F := Ideal) A.mod (ix2 b n) = A.mod (ix3 1 b n) := by
  pointwise [val_main_v1, val_main_v0]

/-- The hidden features. -/
theorem v29_apply (d : Fin 1024) : val_main_v29 (F := Ideal) A.x A.mod (ix3 b s d) = hidden A.x A.mod 1 b s d := by
  pointwise [val_main_v29, val_main_v28, val_main_v27, val_main_v26, val_main_v25, val_main_v24, val_main_cst_2, val_main_v23, val_main_v22,
    val_main_v21, val_main_v20, val_main_v19, val_main_cst_1, val_main_v18, val_main_v17, val_main_cst_0, val_main_v16, val_main_v15, val_main_cst,
    val_main_v14, val_main_v8, val_main_v9, val_main_v2, val_main_v3, v1_apply]
  have e0 : part A.mod 1 b 0 d = A.mod (ix3 1 b ⟨d, by omega⟩) := congrArg (fun n => A.mod (ix3 1 b n)) (Fin.ext (show 1024 * 0 + d.val = d.val by omega))
  unfold Norm.hidden
  rw [e0]
  rfl

/-- The projection. -/
theorem v32_apply (n : Fin 3080) : val_main_v32 (F := Ideal) A.x A.mod A.wIn (ix3 b s n) = proj A b s n := by
  pointwise [val_main_v32, val_main_v31, val_main_v30, v29_apply]
  rfl

theorem v50_apply (n : Fin 512) : val_main_v50 (F := Ideal) A.x A.mod A.wIn (ix3 b s n) = proj A b s ⟨n, by omega⟩ := by
  pointwise [val_main_v50, val_main_v33, v32_apply]

theorem v51_apply (n : Fin 512) : val_main_v51 (F := Ideal) A.x A.mod A.wIn (ix3 b s n) = key A b s n := by
  pointwise [val_main_v51, val_main_v47, val_main_v46, val_main_cst_3, val_main_v34, v32_apply]
  rfl

theorem v52_apply (n : Fin 1024) : val_main_v52 (F := Ideal) A.x A.mod A.wIn (ix3 b s n) = proj A b s ⟨1024 + n, by omega⟩ := by
  pointwise [val_main_v52, val_main_v35, v32_apply]

theorem v53_apply (n : Fin 1024) : val_main_v53 (F := Ideal) A.x A.mod A.wIn (ix3 b s n) = proj A b s ⟨2048 + n, by omega⟩ := by
  pointwise [val_main_v53, val_main_v36, v32_apply]

/-- A gate before its activation. -/
theorem v42_apply (g : Fin 8) : val_main_v42 (F := Ideal) A.x A.mod A.wIn A.bGates (ix3 b s g) = preGate A b s g := by
  pointwise [val_main_v42, val_main_v41, val_main_v40, val_main_v39, val_main_v38, val_main_v37, v32_apply]
  rfl

theorem v43_apply (g : Fin 4) : val_main_v43 (F := Ideal) A.x A.mod A.wIn A.bGates (ix3 b s g) = preGate A b s ⟨g, by omega⟩ := by
  pointwise [val_main_v43, v42_apply]

theorem v44_apply (g : Fin 4) : val_main_v44 (F := Ideal) A.x A.mod A.wIn A.bGates (ix3 b s g) = preGate A b s ⟨4 + g, by omega⟩ := by
  pointwise [val_main_v44, v42_apply]

/-- The logarithm of a forget gate. -/
theorem v45_apply (g : Fin 4) : val_main_v45 (F := Ideal) A.x A.mod A.wIn A.bGates (ix3 b s g) = logSigmoid (preGate A b s ⟨4 + g, by omega⟩) := by
  rw [← neg_softplus, ← v44_apply]
  have e0 : val_main_call0_call0_v0 (F := Ideal) (ix3 b s g) = 0 := by pointwise [val_main_call0_call0_v0, val_main_call0_call0_cst]
  have e2 : val_main_call0_call0_v2 (F := Ideal) (ix3 b s g) = 0 := by pointwise [val_main_call0_call0_v2, val_main_call0_call0_cst]
  have e3 : val_main_call0_call0_v3 (F := Ideal) A.x A.mod A.wIn A.bGates (ix3 b s g) = -val_main_v44 (F := Ideal) A.x A.mod A.wIn A.bGates (ix3 b s g) :=
    (congrArg (fun w => -val_main_v44 (F := Ideal) A.x A.mod A.wIn A.bGates (ix3 b s g) - w) e2).trans (sub_zero _)
  have e4 : val_main_call0_call0_v4 (F := Ideal) A.x A.mod A.wIn A.bGates (ix3 b s g) = 0#1 := by
    rw [val_main_call0_call0_v4_apply, Ideal.cmpf_def]
    simp [Ideal.cmp]
  rw [val_main_v45_apply, val_main_call0_v1_apply, e4, val_main_call0_call0_v11_apply, val_main_call0_call0_v1_apply, val_main_call0_call0_v10_apply,
    val_main_call0_call0_v9_apply, val_main_call0_call0_v8_apply, val_main_call0_call0_v7_apply, e0, e3]
  rfl

/-- The gate rows. -/
theorem v49_apply (g : Fin 8) : val_main_v49 (F := Ideal) A.x A.mod A.wIn A.bGates (ix3 b g s) = gate A b s g := by
  have e : val_main_v49 (F := Ideal) A.x A.mod A.wIn A.bGates (ix3 b g s) = val_main_v48 (F := Ideal) A.x A.mod A.wIn A.bGates (ix3 b s g) := by
    pointwise [val_main_v49]
  rw [e]
  unfold gate
  by_cases h : g.val < 4
  · rw [if_pos h]
    pointwise [val_main_v48]
    rw [dif_pos h]
    exact v43_apply A b s ⟨g, h⟩
  · rw [if_neg h]
    pointwise [val_main_v48]
    rw [dif_neg h]
    refine (v45_apply A b s _).trans (congrArg (fun g => logSigmoid (preGate A b s g)) (Fin.ext ?_))
    show 4 + (g.val - 4) = g.val
    omega

end Cert.Reference3Ideal.MlPre

end
-- ==== Proof.MlPre.Claims.lean ====
/- The claims about the mLSTM layer's input projections: the frames, and the equality of the
   kernel's results with the reference's. -/
module

public import proofs.«01_k».proof.Defs
public import proofs.«01_k».proof.Proof.MlPre.Array
public import proofs.«01_k».proof.Proof.MlPre.Reference
public import proofs.«01_k».proof.Proof.Gen.Kernel3.Frame
public import Idealize.ShloMosaic.Adequacy
public import Idealize.ShloMosaic.Init

@[expose] public section

set_option maxRecDepth 16384

noncomputable section

namespace Cert.MlPre

open Idealize.ShloMosaic Idealize.ShloMosaic.TcCoe Idealize.SL.Sem

/-- The kernel runs and keeps its arguments. -/
theorem frame_kernel : quiescent_Kernel3 := fun m ρ _ => Cert.Kernel3.Gen.frame m ρ

/-- So does the kernel at extended reals. -/
theorem frame_ideal : quiescent_Kernel3Ideal := fun m ρ _ => Cert.Kernel3Ideal.Gen.frame m ρ

/-- So does the reference, which has no semaphores. -/
theorem frame_reference : quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run m ρ)

/-- The reference's result arrays. -/
theorem reference_q (A : Args) : Cert.Reference3Ideal.Read.val_main_v50 (F := Ideal) A.x A.mod A.wIn = queries A := funext fun i => by
  have e : i = ix3 (i 0) (i 1) (i 2) := funext fun k => by fin_cases k <;> rfl
  rw [e]
  exact Cert.Reference3Ideal.MlPre.v50_apply A _ _ _

theorem reference_k (A : Args) : Cert.Reference3Ideal.Read.val_main_v51 (F := Ideal) A.x A.mod A.wIn = keys A := funext fun i => by
  have e : i = ix3 (i 0) (i 1) (i 2) := funext fun k => by fin_cases k <;> rfl
  rw [e]
  exact Cert.Reference3Ideal.MlPre.v51_apply A _ _ _

theorem reference_v (A : Args) : Cert.Reference3Ideal.Read.val_main_v52 (F := Ideal) A.x A.mod A.wIn = values A := funext fun i => by
  have e : i = ix3 (i 0) (i 1) (i 2) := funext fun k => by fin_cases k <;> rfl
  rw [e]
  exact Cert.Reference3Ideal.MlPre.v52_apply A _ _ _

theorem reference_o (A : Args) : Cert.Reference3Ideal.Read.val_main_v53 (F := Ideal) A.x A.mod A.wIn = outGates A := funext fun i => by
  have e : i = ix3 (i 0) (i 1) (i 2) := funext fun k => by fin_cases k <;> rfl
  rw [e]
  exact Cert.Reference3Ideal.MlPre.v53_apply A _ _ _

theorem reference_gates (A : Args) : Cert.Reference3Ideal.Read.val_main_v49 (F := Ideal) A.x A.mod A.wIn A.bGates = gateRows A := funext fun i => by
  have e : i = ix3 (i 0) (i 1) (i 2) := funext fun k => by fin_cases k <;> rfl
  rw [e]
  exact Cert.Reference3Ideal.MlPre.v49_apply A _ _ _

/-- Kernel and reference compute the same arrays. -/
theorem equal : algebraic_Kernel3Ideal_Reference3Ideal := by
  intro m ρ m' ρ' hm hagree
  refine ⟨fun c => queries (Cert.Kernel3Ideal.MlPre.argsOf m c), fun c => keys (Cert.Kernel3Ideal.MlPre.argsOf m c),
    fun c => values (Cert.Kernel3Ideal.MlPre.argsOf m c), fun c => outGates (Cert.Kernel3Ideal.MlPre.argsOf m c),
    fun c => gateRows (Cert.Kernel3Ideal.MlPre.argsOf m c), ?_, ?_⟩
  · exact (θ_run Cert.Kernel3Ideal.defs _ _).mono
      (fun r h c => ⟨(h c).1.trans (Cert.Kernel3Ideal.MlPre.arr6_eq m c), (h c).2.1.trans (Cert.Kernel3Ideal.MlPre.arr7_eq m c),
        (h c).2.2.1.trans (Cert.Kernel3Ideal.MlPre.arr8_eq m c), (h c).2.2.2.1.trans (Cert.Kernel3Ideal.MlPre.arr9_eq m c),
        (h c).2.2.2.2.1.trans (Cert.Kernel3Ideal.MlPre.arr10_eq m c), (h c).2.2.2.2.2⟩) (Cert.Kernel3Ideal.Value.run_blocks m ρ)
  · refine (θ_run Cert.Reference3Ideal.defs _ _).mono (fun r h c => ?_) (Cert.Reference3Ideal.Value.run m' ρ')
    obtain ⟨e0, e1, e2, e3⟩ := hagree c
    refine ⟨(h c).1.trans ?_, (h c).2.1.trans ?_, (h c).2.2.1.trans ?_, (h c).2.2.2.1.trans ?_, (h c).2.2.2.2.1.trans ?_, (h c).2.2.2.2.2⟩
    · rw [Cert.Reference3Ideal.Read.val_main_v50_eq, e0, e1, e2]
      exact reference_q (Cert.Kernel3Ideal.MlPre.argsOf m c)
    · rw [Cert.Reference3Ideal.Read.val_main_v51_eq, e0, e1, e2]
      exact reference_k (Cert.Kernel3Ideal.MlPre.argsOf m c)
    · rw [Cert.Reference3Ideal.Read.val_main_v52_eq, e0, e1, e2]
      exact reference_v (Cert.Kernel3Ideal.MlPre.argsOf m c)
    · rw [Cert.Reference3Ideal.Read.val_main_v53_eq, e0, e1, e2]
      exact reference_o (Cert.Kernel3Ideal.MlPre.argsOf m c)
    · rw [Cert.Reference3Ideal.Read.val_main_v49_eq, e0, e1, e2, e3]
      exact reference_gates (Cert.Kernel3Ideal.MlPre.argsOf m c)

end Cert.MlPre

end
-- ==== Proof.MlaPre.Spec.lean ====
/- The attention layer's input projections, said once at extended reals for both programs: queries with their
   rotated lanes, key parts, the shared rotated key part, and values. -/
module

public import proofs.«01_k».proof.Proof.Norm.Spec

@[expose] public section

set_option maxRecDepth 16384

noncomputable section

namespace Cert.MlaPre

open Idealize.ShloMosaic Cert.Norm

/-- The arguments: the layer's input, the modulation, the weights and norm scales of both attention layers, and the
    cosines and sines of the rotation. -/
structure Args where
  x : Input
  mod : Modulation
  wIn : Vec Ideal ⟨3, ![2, 1024, 832]⟩ .f32
  qNorm : Vec Ideal ⟨2, ![2, 512]⟩ .f32
  wQ : Vec Ideal ⟨3, ![2, 512, 1536]⟩ .f32
  kvNorm : Vec Ideal ⟨2, ![2, 256]⟩ .f32
  wKv : Vec Ideal ⟨3, ![2, 256, 2048]⟩ .f32
  cos : Vec Ideal ⟨3, ![16, 2048, 32]⟩ .f32
  sin : Vec Ideal ⟨3, ![16, 2048, 32]⟩ .f32

/-- 64 lanes rotated: the lanes of the first half against those of the second. -/
def rot (cos sin : Fin 32 → EReal) (t : Fin 64 → EReal) (d : Fin 64) : EReal :=
  if h : d.val < 32 then t d * cos ⟨d, h⟩ - t ⟨d + 32, by omega⟩ * sin ⟨d, h⟩
  else t ⟨d - 32, by omega⟩ * sin ⟨d - 32, by omega⟩ + t d * cos ⟨d - 32, by omega⟩

/-- The factor on the queries. -/
def factor : EReal := Ideal.ofBits .f32 0x3DD53B95#32

variable (A : Args) (b : Fin 16) (s : Fin 2048)

/-- The projection to 512 low-rank query features, 256 low-rank key and value features, and 64 shared key lanes. -/
def proj (n : Fin 832) : EReal := ∑ k : Fin 1024, hidden A.x A.mod 0 b s k * A.wIn (ix3 0 k n)

/-- The low-rank features. -/
def qLow (n : Fin 512) : EReal := proj A b s ⟨n, by omega⟩
def kvLow (n : Fin 256) : EReal := proj A b s ⟨512 + n, by omega⟩

/-- Normalized, scaled and projected up. -/
def qUp (n : Fin 1536) : EReal :=
  ∑ k : Fin 512, qLow A b s k * scaleOf 0x44000000#32 (qLow A b s) * A.qNorm (ix2 0 k) * A.wQ (ix3 0 k n)
def kvUp (n : Fin 2048) : EReal :=
  ∑ k : Fin 256, kvLow A b s k * scaleOf 0x43800000#32 (kvLow A b s) * A.kvNorm (ix2 0 k) * A.wKv (ix3 0 k n)

/-- Lanes rotated by the angles of a position. -/
def turn (t : Fin 64 → EReal) (d : Fin 64) : EReal := rot (fun e => A.cos (ix3 b s e)) (fun e => A.sin (ix3 b s e)) t d

/-- A query: 128 plain lanes, 64 rotated lanes, 64 zeros. -/
def query (h : Fin 8) (d : Fin 256) : EReal :=
  if h1 : d.val < 128 then qUp A b s ⟨192 * h + d, by omega⟩ * factor
  else if h2 : d.val < 192 then turn A b s (fun e => qUp A b s ⟨192 * h + 128 + e, by omega⟩) ⟨d - 128, by omega⟩ * factor
  else 0

/-- The key part that the heads share: 64 rotated lanes, 64 zeros. -/
def sharedKey (d : Fin 128) : EReal :=
  if h : d.val < 64 then turn A b s (fun e => proj A b s ⟨768 + e, by omega⟩) ⟨d, h⟩ else 0

/-- A head's key part and value. -/
def key (h : Fin 8) (d : Fin 128) : EReal := kvUp A b s ⟨256 * h + d, by omega⟩
def value (h : Fin 8) (d : Fin 128) : EReal := kvUp A b s ⟨256 * h + 128 + d, by omega⟩

/-- The four arrays. -/
def queries : (⟨4, ![16, 8, 2048, 256]⟩ : Shape).Idx → EReal := fun i => query A (i 0) (i 2) (i 1) (i 3)
def keys : (⟨4, ![16, 8, 2048, 128]⟩ : Shape).Idx → EReal := fun i => key A (i 0) (i 2) (i 1) (i 3)
def sharedKeys : (⟨3, ![16, 2048, 128]⟩ : Shape).Idx → EReal := fun i => sharedKey A (i 0) (i 1) (i 2)
def values : (⟨4, ![16, 8, 2048, 128]⟩ : Shape).Idx → EReal := fun i => value A (i 0) (i 2) (i 1) (i 3)

theorem query_plain (h : Fin 8) (d : Fin 256) (l : Fin 128) (hd : d.val = l.val) : query A b s h d = qUp A b s ⟨192 * h + l, by omega⟩ * factor := by
  unfold query
  rw [dif_pos (show d.val < 128 by omega)]
  exact congrArg (fun n => qUp A b s n * factor) (Fin.ext (show 192 * h.val + d.val = 192 * h.val + l.val by omega))

theorem query_rotated (h : Fin 8) (d : Fin 256) (l : Fin 64) (hd : d.val = 128 + l.val) :
    query A b s h d = turn A b s (fun e => qUp A b s ⟨192 * h + 128 + e, by omega⟩) l * factor := by
  unfold query
  rw [dif_neg (show ¬ d.val < 128 by omega), dif_pos (show d.val < 192 by omega)]
  exact congrArg (fun n => turn A b s _ n * factor) (Fin.ext (show d.val - 128 = l.val by omega))

theorem query_zero (h : Fin 8) (d : Fin 256) (hd : 192 ≤ d.val) : query A b s h d = 0 := by
  unfold query
  rw [dif_neg (by omega), dif_neg (by omega)]

/-! ## The rotation as two shifts of 128 lanes -/

/-- 128 lanes, and the same shifted by 32 either way, each times a table. -/
def shifted (g ta tb tc : Fin 128 → EReal) (l : Fin 128) : EReal :=
  g l * ta l + g ⟨(l + 128 - 96) % 128, Nat.mod_lt _ (by norm_num)⟩ * tb l + g ⟨(l + 128 - 32) % 128, Nat.mod_lt _ (by norm_num)⟩ * tc l

/-- Tables which repeat the cosines, and the sines negated on first halves and plain on second halves, make that the
    rotation of both groups of 64 lanes. -/
theorem shifted_eq (g ta tb tc : Fin 128 → EReal) (cos sin : Fin 32 → EReal) (l : Fin 128)
    (ha : ta l = cos ⟨l % 32, Nat.mod_lt _ (by norm_num)⟩)
    (hb : tb l = if l.val / 32 % 2 = 0 then 0 - sin ⟨l % 32, Nat.mod_lt _ (by norm_num)⟩ else 0)
    (hc : tc l = if l.val / 32 % 2 = 0 then 0 else sin ⟨l % 32, Nat.mod_lt _ (by norm_num)⟩) :
    shifted g ta tb tc l = rot cos sin (fun e => g ⟨64 * (l / 64) + e, by omega⟩) ⟨l % 64, Nat.mod_lt _ (by norm_num)⟩ := by
  unfold shifted rot
  rw [ha, hb, hc]
  have el : g ⟨64 * (l.val / 64) + l.val % 64, by omega⟩ = g l := congrArg g (Fin.ext (show 64 * (l.val / 64) + l.val % 64 = l.val by omega))
  by_cases h : l.val / 32 % 2 = 0
  · have hd : l.val % 64 < 32 := by omega
    have e1 : g ⟨(l.val + 128 - 96) % 128, Nat.mod_lt _ (by norm_num)⟩ = g ⟨64 * (l.val / 64) + (l.val % 64 + 32), by omega⟩ :=
      congrArg g (Fin.ext (show (l.val + 128 - 96) % 128 = 64 * (l.val / 64) + (l.val % 64 + 32) by omega))
    have ec : (⟨l.val % 32, Nat.mod_lt _ (by norm_num)⟩ : Fin 32) = ⟨l.val % 64, hd⟩ := Fin.ext (show l.val % 32 = l.val % 64 by omega)
    rw [if_pos h, if_pos h, dif_pos hd, mul_zero, add_zero, e1, ec, zero_sub, mul_neg, ← sub_eq_add_neg]
    exact congrArg (fun z => z * _ - _) el.symm
  · have hd : ¬ l.val % 64 < 32 := by omega
    have e1 : g ⟨(l.val + 128 - 32) % 128, Nat.mod_lt _ (by norm_num)⟩ = g ⟨64 * (l.val / 64) + (l.val % 64 - 32), by omega⟩ :=
      congrArg g (Fin.ext (show (l.val + 128 - 32) % 128 = 64 * (l.val / 64) + (l.val % 64 - 32) by omega))
    have ec : (⟨l.val % 32, Nat.mod_lt _ (by norm_num)⟩ : Fin 32) = ⟨l.val % 64 - 32, by omega⟩ := Fin.ext (show l.val % 32 = l.val % 64 - 32 by omega)
    rw [if_neg h, if_neg h, dif_neg hd, mul_zero, add_zero, e1, ec, add_comm]
    exact congrArg (fun z => _ + z * _) el.symm

/-- Lanes that are zero stay so. -/
theorem rot_zero (cos sin : Fin 32 → EReal) (d : Fin 64) : rot cos sin (fun _ => 0) d = 0 := by
  unfold rot
  split <;> simp

end Cert.MlaPre

end
-- ==== Proof.MlaPre.Tile.lean ====
/- The kernel's stores at one lane: what each piece holds of the projected tiles and the rotation's tables. -/
module

public import proofs.«01_k».proof.Proof.MlaPre.Spec
public import proofs.«01_k».proof.Proof.Gen.Kernel4Ideal.Value

@[expose] public section

set_option maxRecDepth 16384

noncomputable section

namespace Cert.Kernel4Ideal.MlaPre

open Cert.Kernel4Ideal Cert.Kernel4Ideal.Gen Cert.MlaPre Idealize.ShloMosaic

variable (ta tb tc : FVec Ideal S1024x128 .f32) (qa : FVec Ideal S1024x1536 .f32) (kv : FVec Ideal S1024x2048 .f32) (r : Fin 1024) (l : Fin 128)

/-- Row `r` of a tile of 128 lanes. -/
abbrev row (g : FVec Ideal S1024x128 .f32) : Fin 128 → EReal := fun l => g (ix2 r l)

/-- Row `r` of a tile of the queries. -/
abbrev tile (o : ℕ) (h : o ≤ 1408) : Fin 128 → EReal := fun l => qa (ix2 r ⟨o + l, by omega⟩)

/-- Half a turn of 128 lanes. -/
abbrev half : Fin 128 := ⟨(l.val + 128 - 64) % 128, Nat.mod_lt _ (by norm_num)⟩

/-- The lanes below 64. -/
theorem low : IntOp.cmpi .slt (BitVec.ofNat 32 l.val) 64#32 = if l.val < 64 then 1#1 else 0#1 := by
  revert l
  decide

/-- The lanes in first halves of groups of 64. -/
theorem first_half : k0_pay11 (ix2 r l) = if l.val / 32 % 2 = 0 then 1#1 else 0#1 := by
  pointwise [k0_pay11]
  revert l
  decide +kernel

/-- A lane chosen by the lanes below 64. -/
theorem select_low (z : EReal) : Scalar.select (IntOp.cmpi .slt (BitVec.ofNat 32 l.val) 64#32) z 0 = if l.val < 64 then z else 0 := by
  rw [low]
  split <;> rfl

theorem turned_shared (g : FVec Ideal S1024x128 .f32) : k0_pay19 g ta tb tc (ix3 0 r l) = shifted (row r g) (row r ta) (row r tb) (row r tc) l := by
  pointwise [k0_pay19]
  rfl

theorem turned_1024 : k0_pay20 ta tb tc qa (ix2 r l) = shifted (tile qa r 1024 (by norm_num)) (row r ta) (row r tb) (row r tc) l * factor := by
  pointwise [k0_pay20]
  rfl

theorem turned_1152 : k0_pay24 ta tb tc qa (ix2 r l) = shifted (tile qa r 1152 (by norm_num)) (row r ta) (row r tb) (row r tc) l * factor := by
  pointwise [k0_pay24]
  rfl

theorem turned_1408 : k0_pay31 ta tb tc qa (ix2 r l) = shifted (tile qa r 1408 (by norm_num)) (row r ta) (row r tb) (row r tc) l * factor := by
  pointwise [k0_pay31]
  rfl

theorem turned_1280 : k0_pay28 (k0_pay27 ta tb tc qa) (ix2 r l) = shifted (tile qa r 1280 (by norm_num)) (row r ta) (row r tb) (row r tc) l * factor := by
  pointwise [k0_pay28, k0_pay27]
  rfl

/-! ## The rotated lanes, head by head -/

theorem rotated0 : (k0_pay21 ta tb tc qa) (ix4 0 0 r l)
    = if l.val < 64 then shifted (tile qa r 1024 (by norm_num)) (row r ta) (row r tb) (row r tc) l * factor else 0 := by
  rw [← select_low, ← turned_1024]
  pointwise [k0_pay21]

theorem rotated1 : (k0_pay23 (k0_pay22 ta tb tc qa)) (ix4 0 0 r l)
    = if l.val < 64 then shifted (tile qa r 1024 (by norm_num)) (row r ta) (row r tb) (row r tc) (half l) * factor else 0 := by
  rw [← select_low, ← turned_1024]
  pointwise [k0_pay23, k0_pay22]

theorem rotated2 : (k0_pay25 ta tb tc qa (iota .tc S1024x128 32 [1] iota_S1024x128_d1_w32)) (ix4 0 0 r l)
    = if l.val < 64 then shifted (tile qa r 1152 (by norm_num)) (row r ta) (row r tb) (row r tc) l * factor else 0 := by
  rw [← select_low, ← turned_1152]
  pointwise [k0_pay25]

theorem rotated3 : (k0_pay26 ta tb tc qa (iota .tc S1024x128 32 [1] iota_S1024x128_d1_w32)) (ix4 0 0 r l)
    = if l.val < 64 then shifted (tile qa r 1152 (by norm_num)) (row r ta) (row r tb) (row r tc) (half l) * factor else 0 := by
  rw [← select_low, ← turned_1152]
  pointwise [k0_pay26]

theorem rotated4 : (k0_pay29 (iota .tc S1024x128 32 [1] iota_S1024x128_d1_w32) (k0_pay27 ta tb tc qa)) (ix4 0 0 r l)
    = if l.val < 64 then shifted (tile qa r 1280 (by norm_num)) (row r ta) (row r tb) (row r tc) l * factor else 0 := by
  rw [← select_low, ← turned_1280]
  pointwise [k0_pay29]

theorem rotated5 : (k0_pay30 (iota .tc S1024x128 32 [1] iota_S1024x128_d1_w32) (k0_pay27 ta tb tc qa)) (ix4 0 0 r l)
    = if l.val < 64 then shifted (tile qa r 1280 (by norm_num)) (row r ta) (row r tb) (row r tc) (half l) * factor else 0 := by
  rw [← select_low, ← turned_1280]
  pointwise [k0_pay30]

theorem rotated6 : (k0_pay34 (k0_pay33 ta tb tc qa (iota .tc S1024x128 32 [1] iota_S1024x128_d1_w32))) (ix4 0 0 r l)
    = if l.val < 64 then shifted (tile qa r 1408 (by norm_num)) (row r ta) (row r tb) (row r tc) l * factor else 0 := by
  rw [← select_low, ← turned_1408]
  pointwise [k0_pay34, k0_pay33]

theorem rotated7 : (k0_pay35 (iota .tc S1024x128 32 [1] iota_S1024x128_d1_w32) (k0_pay32 ta tb tc qa)) (ix4 0 0 r l)
    = if l.val < 64 then shifted (tile qa r 1408 (by norm_num)) (row r ta) (row r tb) (row r tc) (half l) * factor else 0 := by
  rw [← select_low, ← turned_1408]
  pointwise [k0_pay35, k0_pay32]

/-! ## The plain lanes, the keys and the values, head by head -/

theorem plain0 : (k0_pay36 qa) (ix4 0 0 r l) = qa (ix2 r ⟨l, by omega⟩) * factor := by
  pointwise [k0_pay36]
  rfl

theorem plain1 : (k0_pay40 (k0_pay39 qa)) (ix4 0 0 r l) = qa (ix2 r ⟨128 + l, by omega⟩) * factor := by
  pointwise [k0_pay40, k0_pay39]
  rfl

theorem plain2 : (k0_pay43 qa) (ix4 0 0 r l) = qa (ix2 r ⟨256 + l, by omega⟩) * factor := by
  pointwise [k0_pay43]
  rfl

theorem plain3 : (k0_pay47 (k0_pay46 qa)) (ix4 0 0 r l) = qa (ix2 r ⟨384 + l, by omega⟩) * factor := by
  pointwise [k0_pay47, k0_pay46]
  rfl

theorem plain4 : (k0_pay50 qa) (ix4 0 0 r l) = qa (ix2 r ⟨512 + l, by omega⟩) * factor := by
  pointwise [k0_pay50]
  rfl

theorem plain5 : (k0_pay54 qa) (ix4 0 0 r l) = qa (ix2 r ⟨640 + l, by omega⟩) * factor := by
  pointwise [k0_pay54]
  rfl

theorem plain6 : (k0_pay57 qa) (ix4 0 0 r l) = qa (ix2 r ⟨768 + l, by omega⟩) * factor := by
  pointwise [k0_pay57]
  rfl

theorem plain7 : (k0_pay2 qa) (ix4 0 0 r l) = qa (ix2 r ⟨896 + l, by omega⟩) * factor := by
  pointwise [k0_pay2]
  rfl

theorem key0 : (k0_pay37 kv) (ix4 0 0 r l) = kv (ix2 r ⟨l, by omega⟩) := by
  pointwise [k0_pay37]

theorem key1 : (k0_pay41 kv) (ix4 0 0 r l) = kv (ix2 r ⟨256 + l, by omega⟩) := by
  pointwise [k0_pay41]

theorem key2 : (k0_pay44 kv) (ix4 0 0 r l) = kv (ix2 r ⟨512 + l, by omega⟩) := by
  pointwise [k0_pay44]

theorem key3 : (k0_pay48 kv) (ix4 0 0 r l) = kv (ix2 r ⟨768 + l, by omega⟩) := by
  pointwise [k0_pay48]

theorem key4 : (k0_pay51 kv) (ix4 0 0 r l) = kv (ix2 r ⟨1024 + l, by omega⟩) := by
  pointwise [k0_pay51]

theorem key5 : (k0_pay55 kv) (ix4 0 0 r l) = kv (ix2 r ⟨1280 + l, by omega⟩) := by
  pointwise [k0_pay55]

theorem key6 : (k0_pay58 kv) (ix4 0 0 r l) = kv (ix2 r ⟨1536 + l, by omega⟩) := by
  pointwise [k0_pay58]

theorem key7 : (k0_pay3 kv) (ix4 0 0 r l) = kv (ix2 r ⟨1792 + l, by omega⟩) := by
  pointwise [k0_pay3]

theorem value0 : (k0_pay38 kv) (ix4 0 0 r l) = kv (ix2 r ⟨128 + l, by omega⟩) := by
  pointwise [k0_pay38]

theorem value1 : (k0_pay42 kv) (ix4 0 0 r l) = kv (ix2 r ⟨384 + l, by omega⟩) := by
  pointwise [k0_pay42]

theorem value2 : (k0_pay45 kv) (ix4 0 0 r l) = kv (ix2 r ⟨640 + l, by omega⟩) := by
  pointwise [k0_pay45]

theorem value3 : (k0_pay49 kv) (ix4 0 0 r l) = kv (ix2 r ⟨896 + l, by omega⟩) := by
  pointwise [k0_pay49]

theorem value4 : (k0_pay53 (k0_pay52 kv)) (ix4 0 0 r l) = kv (ix2 r ⟨1152 + l, by omega⟩) := by
  pointwise [k0_pay53, k0_pay52]

theorem value5 : (k0_pay56 kv) (ix4 0 0 r l) = kv (ix2 r ⟨1408 + l, by omega⟩) := by
  pointwise [k0_pay56]

theorem value6 : (k0_pay1 kv) (ix4 0 0 r l) = kv (ix2 r ⟨1664 + l, by omega⟩) := by
  pointwise [k0_pay1]

theorem value7 : (k0_pay4 kv) (ix4 0 0 r l) = kv (ix2 r ⟨1920 + l, by omega⟩) := by
  pointwise [k0_pay4]

end Cert.Kernel4Ideal.MlaPre

end
-- ==== Proof.MlaPre.Block.lean ====
/- What one grid point of the kernel leaves: the projections of 1024 positions of one sequence. -/
module

public import proofs.«01_k».proof.Proof.MlaPre.Tile
public import Idealize.ShloMosaic.Lib.Pipeline.ValueKit.Basic
public import Idealize.ShloMosaic.Lib.Pipeline.ValueKit.Tiles

@[expose] public section

set_option maxRecDepth 16384

noncomputable section

namespace Cert.Kernel4Ideal.MlaPre

open Cert.Kernel4Ideal Cert.Kernel4Ideal.Gen Cert.Norm Cert.MlaPre Idealize.ShloMosaic

/-- Where the kernel's columns of the query weights come from: the plain lanes of all heads, then the rotated ones. -/
def perm (n : Fin 1536) : Fin 1536 :=
  if h : n.val < 1024 then ⟨192 * (n / 128) + n % 128, by omega⟩ else ⟨192 * ((n - 1024) / 64) + 128 + (n - 1024) % 64, by omega⟩

/-- The blocks a grid point reads: block `T` of sequence `b`, the weights, and the rotation's tables. -/
structure Blocks (A : Args) (b : Fin 16) (T : Fin 2) (x0 : Vec Ideal S1x1024x1024 .f32) (x1 x2 : Vec Ideal S1x1x1x1x1024 .f32)
    (x3 : Vec Ideal S1024x896 .bf16) (x4 : Vec Ideal S1x1x512 .f32) (x5 : Vec Ideal S512x1536 .bf16) (x6 : Vec Ideal S1x1x256 .f32)
    (x7 : Vec Ideal S1x256x2048 .bf16) (x8 x9 : Vec Ideal S1x1024x128 .f32) : Prop where
  h0 : ∀ (r : Fin 1024) d, x0 (ix3 0 r d) = A.x (ix3 b ⟨1024 * T + r, by omega⟩ d)
  h1 : ∀ d, x1 (ix5 0 0 0 0 d) = part A.mod 0 b 1 d
  h2 : ∀ d, x2 (ix5 0 0 0 0 d) = part A.mod 0 b 0 d
  h3 : ∀ k (n : Fin 896), x3 (ix2 k n) = if h : n.val < 832 then A.wIn (ix3 0 k ⟨n, h⟩) else 0
  h4 : ∀ k, x4 (ix3 0 0 k) = A.qNorm (ix2 0 k)
  h5 : ∀ k n, x5 (ix2 k n) = A.wQ (ix3 0 k (perm n))
  h6 : ∀ k, x6 (ix3 0 0 k) = A.kvNorm (ix2 0 k)
  h7 : ∀ k n, x7 (ix3 0 k n) = A.wKv (ix3 0 k n)
  h8 : ∀ (r : Fin 1024) (l : Fin 128), x8 (ix3 0 r l) = A.cos (ix3 b ⟨1024 * T + r, by omega⟩ ⟨l % 32, Nat.mod_lt _ (by norm_num)⟩)
  h9 : ∀ (r : Fin 1024) (l : Fin 128), x9 (ix3 0 r l) = A.sin (ix3 b ⟨1024 * T + r, by omega⟩ ⟨l % 32, Nat.mod_lt _ (by norm_num)⟩)

/-- A position of the block. -/
abbrev pos (T : Fin 2) (r : Fin 1024) : Fin 2048 := ⟨1024 * T + r, by omega⟩

variable {A : Args} {b : Fin 16} {T : Fin 2} {x0 : Vec Ideal S1x1024x1024 .f32} {x1 x2 : Vec Ideal S1x1x1x1x1024 .f32}
  {x3 : Vec Ideal S1024x896 .bf16} {x4 : Vec Ideal S1x1x512 .f32} {x5 : Vec Ideal S512x1536 .bf16} {x6 : Vec Ideal S1x1x256 .f32}
  {x7 : Vec Ideal S1x256x2048 .bf16} {x8 x9 : Vec Ideal S1x1024x128 .f32} (H : Blocks A b T x0 x1 x2 x3 x4 x5 x6 x7 x8 x9) (r : Fin 1024)

theorem zero2 : (![0, 0] : Fin 2 → ℕ) = fun _ => 0 := by decide
theorem zero3 : (![0, 0, 0] : Fin 3 → ℕ) = fun _ => 0 := by decide
theorem zero5 : (![0, 0, 0, 0, 0] : Fin 5 → ℕ) = fun _ => 0 := by decide

include H

/-- The projection over 896 columns, the last 64 of them zero. -/
theorem proj_apply (n : Fin 896) : k0_pay5 (View.ld x0 r0_0) (View.ld x1 r0_1) (View.ld x2 r0_1) (View.ld x3 r0_2) (ix2 r n)
    = if h : n.val < 832 then proj A b (pos T r) ⟨n, h⟩ else 0 := by
  have e : k0_pay5 (View.ld x0 r0_0) (View.ld x1 r0_1) (View.ld x2 r0_1) (View.ld x3 r0_2) (ix2 r n)
      = ∑ k : Fin 1024, hidden A.x A.mod 0 b (pos T r) k * x3 (ix2 k n) := by
    rw [View.ld_unit_zero zero3, View.ld_unit_zero zero5, View.ld_unit_zero zero5, View.ld_unit_zero zero2]
    unfold Norm.hidden scaleOf
    simp only [← H.h0, ← H.h1, ← H.h2]
    pointwise [k0_pay5]
  rw [e]
  simp only [H.h3]
  split
  · rfl
  · simp

theorem q_apply (n : Fin 512) : k0_pay6 (View.ld x0 r0_0) (View.ld x1 r0_1) (View.ld x2 r0_1) (View.ld x3 r0_2) (ix2 r n) = qLow A b (pos T r) n := by
  pointwise [k0_pay6, proj_apply H r]
  rw [dif_pos (by omega)]
  rfl

theorem kv_apply (n : Fin 256) : k0_pay7 (View.ld x0 r0_0) (View.ld x1 r0_1) (View.ld x2 r0_1) (View.ld x3 r0_2) (ix2 r n) = kvLow A b (pos T r) n := by
  pointwise [k0_pay7, proj_apply H r]
  rw [dif_pos (by omega)]
  rfl

theorem shared_apply (l : Fin 128) : k0_pay8 (View.ld x0 r0_0) (View.ld x1 r0_1) (View.ld x2 r0_1) (View.ld x3 r0_2) (ix2 r l)
    = if h : l.val < 64 then proj A b (pos T r) ⟨768 + l, by omega⟩ else 0 := by
  pointwise [k0_pay8, proj_apply H r]
  by_cases h : l.val < 64
  · rw [dif_pos h, dif_pos (by omega)]
  · rw [dif_neg h, dif_neg (by omega)]

/-- Queries projected up. -/
theorem qUp_apply (n : Fin 1536) : k0_pay64 x0 x1 x2 x3 x4 x5 x6 x7 x8 x9 (ix2 r n) = qUp A b (pos T r) (perm n) := by
  unfold k0_pay64 qUp scaleOf
  rw [View.ld_unit_zero (X := x4) zero3, View.ld_unit_zero (X := x5) zero2]
  simp only [← H.h4, ← H.h5, ← q_apply H r]
  pointwise [k0_pay15]

/-- Keys and values projected up. -/
theorem kvUp_apply (n : Fin 2048) : k0_pay66 x0 x1 x2 x3 x4 x5 x6 x7 x8 x9 (ix2 r n) = kvUp A b (pos T r) n := by
  unfold k0_pay66 kvUp scaleOf
  rw [View.ld_unit_zero (X := x6) zero3, View.ld_unit_zero (X := x7) zero3]
  simp only [← H.h6, ← H.h7, ← kv_apply H r]
  pointwise [k0_pay18, k0_pay17, k0_pay16]

/-- The rotation's tables. -/
theorem ta_apply (l : Fin 128) : k0_pay59 x0 x1 x2 x3 x4 x5 x6 x7 x8 x9 (ix2 r l) = A.cos (ix3 b (pos T r) ⟨l % 32, Nat.mod_lt _ (by norm_num)⟩) := by
  rw [← H.h8]
  unfold k0_pay59
  rw [View.ld_unit_zero (X := x8) zero3]
  pointwise [k0_pay9]

theorem sin_apply (l : Fin 128) : k0_pay60 x0 x1 x2 x3 x4 x5 x6 x7 x8 x9 (ix2 r l) = A.sin (ix3 b (pos T r) ⟨l % 32, Nat.mod_lt _ (by norm_num)⟩) := by
  rw [← H.h9]
  unfold k0_pay60
  rw [View.ld_unit_zero (X := x9) zero3]
  pointwise [k0_pay10]

theorem tb_apply (l : Fin 128) : k0_pay62 x0 x1 x2 x3 x4 x5 x6 x7 x8 x9 (ix2 r l)
    = if l.val / 32 % 2 = 0 then 0 - A.sin (ix3 b (pos T r) ⟨l % 32, Nat.mod_lt _ (by norm_num)⟩) else 0 := by
  rw [← sin_apply H r l]
  unfold k0_pay62 k0_pay61
  generalize k0_pay60 x0 x1 x2 x3 x4 x5 x6 x7 x8 x9 = w
  pointwise [k0_pay13, k0_pay12]
  rw [first_half]
  split <;> rfl

theorem tc_apply (l : Fin 128) : k0_pay63 x0 x1 x2 x3 x4 x5 x6 x7 x8 x9 (ix2 r l)
    = if l.val / 32 % 2 = 0 then 0 else A.sin (ix3 b (pos T r) ⟨l % 32, Nat.mod_lt _ (by norm_num)⟩) := by
  rw [← sin_apply H r l]
  unfold k0_pay63 k0_pay61
  generalize k0_pay60 x0 x1 x2 x3 x4 x5 x6 x7 x8 x9 = w
  pointwise [k0_pay14]
  rw [first_half]
  split <;> rfl

/-- Any tile's lanes through them. -/
theorem shifted_apply (g : Fin 128 → EReal) (l : Fin 128) :
    shifted g (row r (k0_pay59 x0 x1 x2 x3 x4 x5 x6 x7 x8 x9)) (row r (k0_pay62 x0 x1 x2 x3 x4 x5 x6 x7 x8 x9)) (row r (k0_pay63 x0 x1 x2 x3 x4 x5 x6 x7 x8 x9)) l
      = turn A b (pos T r) (fun e => g ⟨64 * (l / 64) + e, by omega⟩) ⟨l % 64, Nat.mod_lt _ (by norm_num)⟩ :=
  shifted_eq g _ _ _ _ _ l (ta_apply H r l) (tb_apply H r l) (tc_apply H r l)

/-- The rotated lanes of an even and of an odd head. -/
theorem even_apply (o : ℕ) (ho : o ≤ 1408) (h : Fin 8) (he : o = 1024 + 64 * h) (l : Fin 128) (D : Fin 256) (hD : D.val = 128 + l.val) :
    (if l.val < 64 then shifted (tile (k0_pay64 x0 x1 x2 x3 x4 x5 x6 x7 x8 x9) r o ho) (row r (k0_pay59 x0 x1 x2 x3 x4 x5 x6 x7 x8 x9))
      (row r (k0_pay62 x0 x1 x2 x3 x4 x5 x6 x7 x8 x9)) (row r (k0_pay63 x0 x1 x2 x3 x4 x5 x6 x7 x8 x9)) l * factor else 0) = query A b (pos T r) h D := by
  by_cases hl : l.val < 64
  · rw [if_pos hl, shifted_apply H r, query_rotated A b _ h D ⟨l, hl⟩ hD]
    have el : (⟨l.val % 64, Nat.mod_lt _ (by norm_num)⟩ : Fin 64) = ⟨l, hl⟩ := Fin.ext (show l.val % 64 = l.val by omega)
    rw [el]
    refine congrArg (fun t => turn A b (pos T r) t ⟨l, hl⟩ * factor) (funext fun e => ?_)
    refine (qUp_apply H r _).trans (congrArg (qUp A b (pos T r)) (Fin.ext ?_))
    unfold perm
    rw [dif_neg (show ¬ o + (64 * (l.val / 64) + e.val) < 1024 by omega)]
    show 192 * ((o + (64 * (l.val / 64) + e.val) - 1024) / 64) + 128 + (o + (64 * (l.val / 64) + e.val) - 1024) % 64 = 192 * h.val + 128 + e.val
    omega
  · rw [if_neg hl, query_zero A b _ h D (by omega)]

theorem odd_apply (o : ℕ) (ho : o ≤ 1408) (h : Fin 8) (he : o + 64 = 1024 + 64 * h) (l : Fin 128) (D : Fin 256) (hD : D.val = 128 + l.val) :
    (if l.val < 64 then shifted (tile (k0_pay64 x0 x1 x2 x3 x4 x5 x6 x7 x8 x9) r o ho) (row r (k0_pay59 x0 x1 x2 x3 x4 x5 x6 x7 x8 x9))
      (row r (k0_pay62 x0 x1 x2 x3 x4 x5 x6 x7 x8 x9)) (row r (k0_pay63 x0 x1 x2 x3 x4 x5 x6 x7 x8 x9)) (half l) * factor else 0) = query A b (pos T r) h D := by
  by_cases hl : l.val < 64
  · rw [if_pos hl, shifted_apply H r, query_rotated A b _ h D ⟨l, hl⟩ hD]
    have el : (⟨(half l).val % 64, Nat.mod_lt _ (by norm_num)⟩ : Fin 64) = ⟨l, hl⟩ :=
      Fin.ext (show (l.val + 128 - 64) % 128 % 64 = l.val by omega)
    rw [el]
    refine congrArg (fun t => turn A b (pos T r) t ⟨l, hl⟩ * factor) (funext fun e => ?_)
    refine (qUp_apply H r _).trans (congrArg (qUp A b (pos T r)) (Fin.ext ?_))
    unfold perm
    have hl2 : (l.val + 128 - 64) % 128 / 64 = 1 := by omega
    rw [dif_neg (show ¬ o + (64 * ((l.val + 128 - 64) % 128 / 64) + e.val) < 1024 by omega)]
    show 192 * ((o + (64 * ((l.val + 128 - 64) % 128 / 64) + e.val) - 1024) / 64) + 128 + (o + (64 * ((l.val + 128 - 64) % 128 / 64) + e.val) - 1024) % 64 = 192 * h.val + 128 + e.val
    rw [hl2]
    omega
  · rw [if_neg hl, query_zero A b _ h D (by omega)]

/-- The plain lanes of a head. -/
theorem plain_apply (n : Fin 1536) (h : Fin 8) (l : Fin 128) (hn : n.val = 128 * h + l) (D : Fin 256) (hD : D.val = l.val) :
    k0_pay64 x0 x1 x2 x3 x4 x5 x6 x7 x8 x9 (ix2 r n) * factor = query A b (pos T r) h D := by
  rw [query_plain A b _ h D l hD, qUp_apply H r]
  refine congrArg (fun n => qUp A b (pos T r) n * factor) (Fin.ext ?_)
  unfold perm
  rw [dif_pos (show n.val < 1024 by omega)]
  show 192 * (n.val / 128) + n.val % 128 = 192 * h.val + l.val
  omega

/-- A head's keys and values. -/
theorem key_apply (n : Fin 2048) (h : Fin 8) (l : Fin 128) (hn : n.val = 256 * h + l) :
    k0_pay66 x0 x1 x2 x3 x4 x5 x6 x7 x8 x9 (ix2 r n) = key A b (pos T r) h l := by
  rw [kvUp_apply H r]
  exact congrArg (kvUp A b (pos T r)) (Fin.ext hn)

theorem value_apply (n : Fin 2048) (h : Fin 8) (l : Fin 128) (hn : n.val = 256 * h + 128 + l) :
    k0_pay66 x0 x1 x2 x3 x4 x5 x6 x7 x8 x9 (ix2 r n) = value A b (pos T r) h l := by
  rw [kvUp_apply H r]
  exact congrArg (kvUp A b (pos T r)) (Fin.ext hn)

/-- The shared key part's block. -/
theorem out12_apply (l : Fin 128) : out0_12 x0 x1 x2 x3 x4 x5 x6 x7 x8 x9 (ix3 0 r l) = sharedKey A b (pos T r) l := by
  unfold out0_12
  rw [View.canon_unit_zero zero3, turned_shared, shifted_apply H r]
  unfold sharedKey
  by_cases hl : l.val < 64
  · rw [dif_pos hl]
    have el : (⟨l.val % 64, Nat.mod_lt _ (by norm_num)⟩ : Fin 64) = ⟨l, hl⟩ := Fin.ext (show l.val % 64 = l.val by omega)
    rw [el]
    refine congrArg (fun t => turn A b (pos T r) t ⟨l, hl⟩) (funext fun e => ?_)
    refine ((shared_apply H r _).trans (dif_pos (show 64 * (l.val / 64) + e.val < 64 by omega))).trans ?_
    exact congrArg (proj A b (pos T r)) (Fin.ext (show 768 + (64 * (l.val / 64) + e.val) = 768 + e.val by omega))
  · rw [dif_neg hl]
    refine Eq.trans (congrArg (fun t => turn A b (pos T r) t _) (funext fun e => ?_)) (rot_zero _ _ _)
    exact (shared_apply H r _).trans (dif_neg (show ¬ 64 * (l.val / 64) + e.val < 64 by omega))

end Cert.Kernel4Ideal.MlaPre

end
-- ==== Proof.MlaPre.Pieces.lean ====
/- The blocks one grid point of the kernel leaves, assembled from their pieces. -/
module

public import proofs.«01_k».proof.Proof.MlaPre.Block
public import Idealize.ShloMosaic.Lib.Pipeline.ValueKit.Basic
public import Idealize.ShloMosaic.Lib.Pipeline.ValueKit.Tiles

@[expose] public section

set_option maxRecDepth 16384

noncomputable section

namespace Cert.Kernel4Ideal.MlaPre

open Cert.Kernel4Ideal Cert.Kernel4Ideal.Gen Cert.Norm Cert.MlaPre Idealize.ShloMosaic

variable {A : Args} {b : Fin 16} {T : Fin 2} {x0 : Vec Ideal S1x1024x1024 .f32} {x1 x2 : Vec Ideal S1x1x1x1x1024 .f32}
  {x3 : Vec Ideal S1024x896 .bf16} {x4 : Vec Ideal S1x1x512 .f32} {x5 : Vec Ideal S512x1536 .bf16} {x6 : Vec Ideal S1x1x256 .f32}
  {x7 : Vec Ideal S1x256x2048 .bf16} {x8 x9 : Vec Ideal S1x1024x128 .f32} (H : Blocks A b T x0 x1 x2 x3 x4 x5 x6 x7 x8 x9) (r : Fin 1024)

/-- A block of the queries, and one of a head's keys or values. -/
def qBlock (A : Args) (b : Fin 16) (T : Fin 2) : Vec Ideal S1x8x1024x256 .bf16 := fun y => query A b (pos T (y 2)) (y 1) (y 3)
def kBlock (A : Args) (b : Fin 16) (T : Fin 2) : Vec Ideal S1x8x1024x128 .bf16 := fun y => key A b (pos T (y 2)) (y 1) (y 3)
def vBlock (A : Args) (b : Fin 16) (T : Fin 2) : Vec Ideal S1x8x1024x128 .bf16 := fun y => value A b (pos T (y 2)) (y 1) (y 3)

theorem q_piece {h o : ℕ} (hh : h < 8) (ho : o ≤ 128) (inb) (w : FVec Ideal S1x1x1024x128 .bf16)
    (hw : ∀ (r : Fin 1024) (l : Fin 128) (D : Fin 256), D.val = o + l.val → w (ix4 0 0 r l) = query A b (pos T r) ⟨h, hh⟩ D) :
    ∀ x : S1x1x1024x128.Idx, w x = qBlock A b T ((Rect.unit (s := S1x8x1024x256) ![0, h, 0, o] S1x1x1024x128.size inb).emb x) := fun x => by
  idx_vars x
  have e0 : x0 = 0 := Subsingleton.elim _ _
  have e1 : x1 = 0 := Subsingleton.elim _ _
  subst e0 e1
  refine (hw x2 x3 ⟨o + x3, by omega⟩ rfl).trans ?_
  unfold qBlock
  congr 1
  · congr 1
    exact Fin.ext (by simp [Rect.emb_apply])
  · exact Fin.ext (by simp [Rect.emb_apply])

theorem k_piece {h : ℕ} (hh : h < 8) (inb) (w : FVec Ideal S1x1x1024x128 .bf16)
    (hw : ∀ (r : Fin 1024) (l : Fin 128), w (ix4 0 0 r l) = key A b (pos T r) ⟨h, hh⟩ l) :
    ∀ x : S1x1x1024x128.Idx, w x = kBlock A b T ((Rect.unit (s := S1x8x1024x128) ![0, h, 0, 0] S1x1x1024x128.size inb).emb x) := fun x => by
  idx_vars x
  have e0 : x0 = 0 := Subsingleton.elim _ _
  have e1 : x1 = 0 := Subsingleton.elim _ _
  subst e0 e1
  refine (hw x2 x3).trans ?_
  unfold kBlock
  congr 1
  · congr 1
    exact Fin.ext (by simp [Rect.emb_apply])
  · exact Fin.ext (by simp [Rect.emb_apply])

theorem v_piece {h : ℕ} (hh : h < 8) (inb) (w : FVec Ideal S1x1x1024x128 .bf16)
    (hw : ∀ (r : Fin 1024) (l : Fin 128), w (ix4 0 0 r l) = value A b (pos T r) ⟨h, hh⟩ l) :
    ∀ x : S1x1x1024x128.Idx, w x = vBlock A b T ((Rect.unit (s := S1x8x1024x128) ![0, h, 0, 0] S1x1x1024x128.size inb).emb x) := fun x => by
  idx_vars x
  have e0 : x0 = 0 := Subsingleton.elim _ _
  have e1 : x1 = 0 := Subsingleton.elim _ _
  subst e0 e1
  refine (hw x2 x3).trans ?_
  unfold vBlock
  congr 1
  · congr 1
    exact Fin.ext (by simp [Rect.emb_apply])
  · exact Fin.ext (by simp [Rect.emb_apply])

include H

/-- The queries' block. -/
theorem out10_eq : out0_10 x0 x1 x2 x3 x4 x5 x6 x7 x8 x9 = qBlock A b T := funext fun y => by
  unfold out0_10
  refine View.canon_apply_of_pieces (qBlock A b T) _ (fun p hp => ?_) y (cover0_10 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  · exact q_piece (h := 7) (o := 0) (by norm_num) (by norm_num) (by decide) _ fun r l D hD => (plain7 _ r l).trans (plain_apply H r _ ⟨7, by norm_num⟩ l (by simp) D (by omega))
  · exact q_piece (h := 6) (o := 0) (by norm_num) (by norm_num) (by decide) _ fun r l D hD => (plain6 _ r l).trans (plain_apply H r _ ⟨6, by norm_num⟩ l (by simp) D (by omega))
  · exact q_piece (h := 5) (o := 0) (by norm_num) (by norm_num) (by decide) _ fun r l D hD => (plain5 _ r l).trans (plain_apply H r _ ⟨5, by norm_num⟩ l (by simp) D (by omega))
  · exact q_piece (h := 4) (o := 0) (by norm_num) (by norm_num) (by decide) _ fun r l D hD => (plain4 _ r l).trans (plain_apply H r _ ⟨4, by norm_num⟩ l (by simp) D (by omega))
  · exact q_piece (h := 3) (o := 0) (by norm_num) (by norm_num) (by decide) _ fun r l D hD => (plain3 _ r l).trans (plain_apply H r _ ⟨3, by norm_num⟩ l (by simp) D (by omega))
  · exact q_piece (h := 2) (o := 0) (by norm_num) (by norm_num) (by decide) _ fun r l D hD => (plain2 _ r l).trans (plain_apply H r _ ⟨2, by norm_num⟩ l (by simp) D (by omega))
  · exact q_piece (h := 1) (o := 0) (by norm_num) (by norm_num) (by decide) _ fun r l D hD => (plain1 _ r l).trans (plain_apply H r _ ⟨1, by norm_num⟩ l (by simp) D (by omega))
  · exact q_piece (h := 0) (o := 0) (by norm_num) (by norm_num) (by decide) _ fun r l D hD => (plain0 _ r l).trans (plain_apply H r _ ⟨0, by norm_num⟩ l (by simp) D (by omega))
  · exact q_piece (h := 7) (o := 128) (by norm_num) (by norm_num) (by decide) _ fun r l D hD => (rotated7 _ _ _ _ r l).trans (odd_apply H r 1408 (by norm_num) ⟨7, by norm_num⟩ (by norm_num) l D hD)
  · exact q_piece (h := 6) (o := 128) (by norm_num) (by norm_num) (by decide) _ fun r l D hD => (rotated6 _ _ _ _ r l).trans (even_apply H r 1408 (by norm_num) ⟨6, by norm_num⟩ (by norm_num) l D hD)
  · exact q_piece (h := 5) (o := 128) (by norm_num) (by norm_num) (by decide) _ fun r l D hD => (rotated5 _ _ _ _ r l).trans (odd_apply H r 1280 (by norm_num) ⟨5, by norm_num⟩ (by norm_num) l D hD)
  · exact q_piece (h := 4) (o := 128) (by norm_num) (by norm_num) (by decide) _ fun r l D hD => (rotated4 _ _ _ _ r l).trans (even_apply H r 1280 (by norm_num) ⟨4, by norm_num⟩ (by norm_num) l D hD)
  · exact q_piece (h := 3) (o := 128) (by norm_num) (by norm_num) (by decide) _ fun r l D hD => (rotated3 _ _ _ _ r l).trans (odd_apply H r 1152 (by norm_num) ⟨3, by norm_num⟩ (by norm_num) l D hD)
  · exact q_piece (h := 2) (o := 128) (by norm_num) (by norm_num) (by decide) _ fun r l D hD => (rotated2 _ _ _ _ r l).trans (even_apply H r 1152 (by norm_num) ⟨2, by norm_num⟩ (by norm_num) l D hD)
  · exact q_piece (h := 1) (o := 128) (by norm_num) (by norm_num) (by decide) _ fun r l D hD => (rotated1 _ _ _ _ r l).trans (odd_apply H r 1024 (by norm_num) ⟨1, by norm_num⟩ (by norm_num) l D hD)
  · exact q_piece (h := 0) (o := 128) (by norm_num) (by norm_num) (by decide) _ fun r l D hD => (rotated0 _ _ _ _ r l).trans (even_apply H r 1024 (by norm_num) ⟨0, by norm_num⟩ (by norm_num) l D hD)

/-- The keys' block. -/
theorem out11_eq : out0_11 x0 x1 x2 x3 x4 x5 x6 x7 x8 x9 = kBlock A b T := funext fun y => by
  unfold out0_11
  refine View.canon_apply_of_pieces (kBlock A b T) _ (fun p hp => ?_) y (cover0_11 _ _ _ _ _ _ _ _ y)
  simp only [List.mem_cons, List.not_mem_nil, or_false] at hp
  rcases hp with rfl | rfl | rfl | rfl | rfl | rfl | rfl | rfl
  · exact k_piece (h := 7) (by norm_num) (by decide) _ fun r l => (key7 _ r l).trans (key_apply H r _ ⟨7, by norm_num⟩ l (by simp))
  · exact k_piece (h := 6) (by norm_num) (by decide) _ fun r l => (key6 _ r l).trans (key_apply H r _ ⟨6, by norm_num⟩ l (by simp))
  · exact k_piece (h := 5) (by norm_num) (by decide) _ fun r l => (key5 _ r l).trans (key_apply H r _ ⟨5, by norm_num⟩ l (by simp))
  · exact k_piece (h := 4) (by norm_num) (by decide) _ fun r l => (key4 _ r l).trans (key_apply H r _ ⟨4, by norm_num⟩ l (by simp))
  · exact k_piece (h := 3) (by norm_num) (by decide) _ fun r l => (key3 _ r l).trans (key_apply H r _ ⟨3, by norm_num⟩ l (by simp))
  · exact k_piece (h := 2) (by norm_num) (by decide) _ fun r l => (key2 _ r l).trans (key_apply H r _ ⟨2, by norm_num⟩ l (by simp))
  · exact k_piece (h := 1) (by norm_num) (by decide) _ fun r l => (key1 _ r l).trans (key_apply H r _ ⟨1, by norm_num⟩ l (by simp))
  · exact k_piece (h := 0) (by norm_num) (by decide) _ fun r l => (key0 _ r l).trans (key_apply H r _ ⟨0, by norm_num⟩ l (by simp))

/-- The values' block. -/
theorem out13_eq : out0_13 x0 x1 x2 x3 x4 x5 x6 x7 x8 x9 = vBlock A b T := funext fun y => by
  unfold out0_13
  refine View.canon_apply_of_pieces (vBlock A b T) _ (fun p hp => ?_) y (cover0_13 _ _ _ _ _ _ _ _ y)
  simp only [List.mem_cons, List.not_mem_nil, or_false] at hp
  rcases hp with rfl | rfl | rfl | rfl | rfl | rfl | rfl | rfl
  · exact v_piece (h := 7) (by norm_num) (by decide) _ fun r l => (value7 _ r l).trans (value_apply H r _ ⟨7, by norm_num⟩ l (by simp))
  · exact v_piece (h := 6) (by norm_num) (by decide) _ fun r l => (value6 _ r l).trans (value_apply H r _ ⟨6, by norm_num⟩ l (by simp))
  · exact v_piece (h := 5) (by norm_num) (by decide) _ fun r l => (value5 _ r l).trans (value_apply H r _ ⟨5, by norm_num⟩ l (by simp))
  · exact v_piece (h := 4) (by norm_num) (by decide) _ fun r l => (value4 _ r l).trans (value_apply H r _ ⟨4, by norm_num⟩ l (by simp))
  · exact v_piece (h := 3) (by norm_num) (by decide) _ fun r l => (value3 _ r l).trans (value_apply H r _ ⟨3, by norm_num⟩ l (by simp))
  · exact v_piece (h := 2) (by norm_num) (by decide) _ fun r l => (value2 _ r l).trans (value_apply H r _ ⟨2, by norm_num⟩ l (by simp))
  · exact v_piece (h := 1) (by norm_num) (by decide) _ fun r l => (value1 _ r l).trans (value_apply H r _ ⟨1, by norm_num⟩ l (by simp))
  · exact v_piece (h := 0) (by norm_num) (by decide) _ fun r l => (value0 _ r l).trans (value_apply H r _ ⟨0, by norm_num⟩ l (by simp))

end Cert.Kernel4Ideal.MlaPre

end
-- ==== Proof.MlaPre.Array.lean ====
/- The projection kernel's four result arrays: each grid point leaves one block of 1024 positions of one
   sequence. -/
module

public import proofs.«01_k».proof.Proof.MlaPre.Pieces
public import Idealize.ShloMosaic.Lib.Pipeline.ValueKit.Geometry
public import Idealize.ShloMosaic.Lib.KernelVsHost

@[expose] public section

set_option maxRecDepth 16384

noncomputable section

namespace Cert.Kernel4Ideal.MlaPre

open Cert.Kernel4Ideal Cert.Kernel4Ideal.Gen Cert.Norm Cert.MlaPre Idealize.ShloMosaic Idealize.ShloMosaic.TcCoe Idealize.SL.Sem

variable (m : (ℓ : Loc nD τ sig) → Buf (Elt Ideal) ℓ) (c : Dev nD)

/-- The arguments a device launches with. -/
def argsOf : Args where
  x := m ((c : Thread nD τ).loc main_arg0)
  mod := m ((c : Thread nD τ).loc main_arg1)
  wIn := m ((c : Thread nD τ).loc main_arg2)
  qNorm := m ((c : Thread nD τ).loc main_arg3)
  wQ := m ((c : Thread nD τ).loc main_arg4)
  kvNorm := m ((c : Thread nD τ).loc main_arg5)
  wKv := m ((c : Thread nD τ).loc main_arg6)
  cos := m ((c : Thread nD τ).loc main_arg7)
  sin := m ((c : Thread nD τ).loc main_arg8)

/-! ## What the host hands over -/

/-- A rotation table four times over, the modulation's parts apart, the input weights with 64 zero columns more, the
    query weights with the plain lanes of all heads first, and the norms' scales as rows. -/
def tableHost (t : Vec Ideal S16x2048x32 .f32) : Vec Ideal S16x2048x128 .f32 :=
  concatenate S16x2048x128 2 [⟨S16x2048x32, t⟩, ⟨S16x2048x32, t⟩, ⟨S16x2048x32, t⟩, ⟨S16x2048x32, t⟩]
    concatenates_S16x2048x32_S16x2048x32_S16x2048x32_S16x2048x32_S16x2048x128_d2
def modHost (mod : Modulation) : Vec Ideal S4x16x6x1x1024 .f32 := shapeCast S4x16x6x1x1024 mod shapeCasts_S4x16x6144_S4x16x6x1x1024
def padHost (w : Vec Ideal S2x1024x832 .f32) : Vec Ideal S2x1024x896 .f32 :=
  pad S2x1024x896 ![0, 0, 0] ![0, 0, 64] ![0, 0, 0] w (sitofp .f32 (constantI S_ 32 0#32) : FVec Ideal S_ .f32) pads_S2x1024x832_S2x1024x896_000_000_0640 h_S_
def wInHost (w : Vec Ideal S2x1024x832 .f32) : Vec Ideal S1024x896 .bf16 :=
  shapeCast S1024x896 (extractStridedSlice S1x1024x896 ![0, 0, 0] (truncf .bf16 (padHost w) bitsLt_bf16_f32 : FVec Ideal S2x1024x896 .bf16) slices_S2x1024x896_S1x1024x896_0_0_0) shapeCasts_S1x1024x896_S1024x896
def headHost (w : Vec Ideal S2x512x1536 .f32) : Vec Ideal S2x512x8x192 .f32 := shapeCast S2x512x8x192 w shapeCasts_S2x512x1536_S2x512x8x192
def plainHost (w : Vec Ideal S2x512x1536 .f32) : Vec Ideal S2x512x1024 .f32 :=
  shapeCast S2x512x1024 (extractStridedSlice S2x512x8x128 ![0, 0, 0, 0] (headHost w) slices_S2x512x8x192_S2x512x8x128_0_0_0_0) shapeCasts_S2x512x8x128_S2x512x1024
def turnedHost (w : Vec Ideal S2x512x1536 .f32) : Vec Ideal S2x512x512 .f32 :=
  shapeCast S2x512x512 (extractStridedSlice S2x512x8x64 ![0, 0, 0, 128] (headHost w) slices_S2x512x8x192_S2x512x8x64_0_0_0_128) shapeCasts_S2x512x8x64_S2x512x512
def wQHost (w : Vec Ideal S2x512x1536 .f32) : Vec Ideal S512x1536 .bf16 :=
  shapeCast S512x1536 (extractStridedSlice S1x512x1536 ![0, 0, 0] (truncf .bf16 (concatenate S2x512x1536 2 [⟨S2x512x1024, plainHost w⟩, ⟨S2x512x512, turnedHost w⟩]
    concatenates_S2x512x1024_S2x512x512_S2x512x1536_d2) bitsLt_bf16_f32 : FVec Ideal S2x512x1536 .bf16) slices_S2x512x1536_S1x512x1536_0_0_0) shapeCasts_S1x512x1536_S512x1536
def qNormHost (g : Vec Ideal S2x512 .f32) : Vec Ideal S2x1x512 .f32 := shapeCast S2x1x512 g shapeCasts_S2x512_S2x1x512
def kvNormHost (g : Vec Ideal S2x256 .f32) : Vec Ideal S2x1x256 .f32 := shapeCast S2x1x256 g shapeCasts_S2x256_S2x1x256

/-- The host's first operations, with any two functions in place of the tables' concatenations. -/
def hostFirst (f0 : ((k : Fin 4) → ((![main_arg7, main_arg7, main_arg7, main_arg7] : Fin 4 → Ref sig .tc) k).ty.Contents (Elt Ideal)) → main_v0.ty.Contents (Elt Ideal))
    (f1 : ((k : Fin 4) → ((![main_arg8, main_arg8, main_arg8, main_arg8] : Fin 4 → Ref sig .tc) k).ty.Contents (Elt Ideal)) → main_v1.ty.Contents (Elt Ideal)) :
    List (HloOp τ sig (Elt Ideal)) :=
  [ StableHlo.nary ![main_arg7, main_arg7, main_arg7, main_arg7] main_v0 f0,
    StableHlo.nary ![main_arg8, main_arg8, main_arg8, main_arg8] main_v1 f1,
    StableHlo.reshape main_arg1 main_v2 (rfl : (.f32 : EltTy) = .f32) shapeCasts_S4x16x6144_S4x16x6x1x1024,
    StableHlo.nullary main_c (constantI S_ 32 0#32) ]

/-- The host's contents after all its operations. -/
def hostAfter (f0 : ((k : Fin 4) → ((![main_arg7, main_arg7, main_arg7, main_arg7] : Fin 4 → Ref sig .tc) k).ty.Contents (Elt Ideal)) → main_v0.ty.Contents (Elt Ideal))
    (f1 : ((k : Fin 4) → ((![main_arg8, main_arg8, main_arg8, main_arg8] : Fin 4 → Ref sig .tc) k).ty.Contents (Elt Ideal)) → main_v1.ty.Contents (Elt Ideal))
    (b : Ref sig .tc) : Buf (Elt Ideal) ((c : Thread nD τ).loc b) :=
  StableHlo.after (List.flatten [hostFirst f0 f1, hostOps0_1, hostOps0_2]) (fun b => m (c, b)) b

theorem after_cos (f0 f1) : hostAfter m c f0 f1 main_v0 = f0 fun k => m (c, Proc.devRef .tc ((![main_arg7, main_arg7, main_arg7, main_arg7] : Fin 4 → Ref sig .tc) k)) := by
  simp only [hostAfter, hostFirst, hostOps0_1, hostOps0_2, List.flatten_cons, List.flatten_nil, List.append_nil, List.cons_append, List.nil_append]
  after_results_simp <;> rfl

theorem V_cos : V m c main_v0 = tableHost (argsOf m c).cos := (after_cos m c _ _).trans rfl

theorem after_sin (f0 f1) : hostAfter m c f0 f1 main_v1 = f1 fun k => m (c, Proc.devRef .tc ((![main_arg8, main_arg8, main_arg8, main_arg8] : Fin 4 → Ref sig .tc) k)) := by
  simp only [hostAfter, hostFirst, hostOps0_1, hostOps0_2, List.flatten_cons, List.flatten_nil, List.append_nil, List.cons_append, List.nil_append]
  after_results_simp
  refine congrArg f1 (funext fun k => ?_)
  rw [StableHlo.nary_result_ne]
  exact (by decide : ∀ k : Fin 4, (![main_arg8, main_arg8, main_arg8, main_arg8] : Fin 4 → Ref sig .tc) k ≠ main_v0) k

theorem V_sin : V m c main_v1 = tableHost (argsOf m c).sin := (after_sin m c _ _).trans rfl

theorem after_mod (f0 f1) : hostAfter m c f0 f1 main_v2 = modHost (argsOf m c).mod := by
  simp only [hostAfter, hostFirst, hostOps0_1, hostOps0_2, List.flatten_cons, List.flatten_nil, List.append_nil, List.cons_append, List.nil_append]
  after_results_simp <;> rfl

theorem V_mod : V m c main_v2 = modHost (argsOf m c).mod := (after_mod m c _ _).trans rfl

theorem after_wIn (f0 f1) : hostAfter m c f0 f1 main_v15 = wInHost (argsOf m c).wIn := by
  simp only [hostAfter, hostFirst, hostOps0_1, hostOps0_2, List.flatten_cons, List.flatten_nil, List.append_nil, List.cons_append, List.nil_append]
  after_results_simp <;> rfl

theorem V_wIn : V m c main_v15 = wInHost (argsOf m c).wIn := (after_wIn m c _ _).trans rfl

theorem after_qNorm (f0 f1) : hostAfter m c f0 f1 main_v12 = qNormHost (argsOf m c).qNorm := by
  simp only [hostAfter, hostFirst, hostOps0_1, hostOps0_2, List.flatten_cons, List.flatten_nil, List.append_nil, List.cons_append, List.nil_append]
  after_results_simp <;> rfl

theorem V_qNorm : V m c main_v12 = qNormHost (argsOf m c).qNorm := (after_qNorm m c _ _).trans rfl

theorem after_wQ (f0 f1) : hostAfter m c f0 f1 main_v17 = wQHost (argsOf m c).wQ := by
  simp only [hostAfter, hostFirst, hostOps0_1, hostOps0_2, List.flatten_cons, List.flatten_nil, List.append_nil, List.cons_append, List.nil_append]
  after_results_simp <;> rfl

theorem V_wQ : V m c main_v17 = wQHost (argsOf m c).wQ := (after_wQ m c _ _).trans rfl

theorem after_kvNorm (f0 f1) : hostAfter m c f0 f1 main_v13 = kvNormHost (argsOf m c).kvNorm := by
  simp only [hostAfter, hostFirst, hostOps0_1, hostOps0_2, List.flatten_cons, List.flatten_nil, List.append_nil, List.cons_append, List.nil_append]
  after_results_simp <;> rfl

theorem V_kvNorm : V m c main_v13 = kvNormHost (argsOf m c).kvNorm := (after_kvNorm m c _ _).trans rfl

theorem after_wKv (f0 f1) : hostAfter m c f0 f1 main_v18 = (argsOf m c).wKv := by
  simp only [hostAfter, hostFirst, hostOps0_1, hostOps0_2, List.flatten_cons, List.flatten_nil, List.append_nil, List.cons_append, List.nil_append]
  after_results_simp <;> rfl

theorem V_wKv : V m c main_v18 = (argsOf m c).wKv := (after_wKv m c _ _).trans rfl

theorem tableHost_apply (t : Vec Ideal S16x2048x32 .f32) (b : Fin 16) (s : Fin 2048) (l : Fin 128) :
    tableHost t (ix3 b s l) = t (ix3 b s ⟨l % 32, Nat.mod_lt _ (by norm_num)⟩) := by
  pointwise [tableHost]
  split
  · exact congrArg (fun l => t (ix3 b s l)) (Fin.ext (show l.val = l.val % 32 by omega))
  · split
    · exact congrArg (fun l => t (ix3 b s l)) (Fin.ext (show l.val - 32 = l.val % 32 by omega))
    · split
      · exact congrArg (fun l => t (ix3 b s l)) (Fin.ext (show l.val - 32 - 32 = l.val % 32 by omega))
      · exact congrArg (fun l => t (ix3 b s l)) (Fin.ext (show l.val - 32 - 32 - 32 = l.val % 32 by omega))

theorem modHost_apply (mod : Modulation) (b : Fin 16) (p : Fin 6) (d : Fin 1024) : modHost mod (ix5 0 b p 0 d) = part mod 0 b p d := by
  unfold part
  pointwise [modHost]
  simp only [Nat.mul_comm]

theorem padHost_apply (w : Vec Ideal S2x1024x832 .f32) (k : Fin 1024) (n : Fin 896) :
    padHost w (ix3 0 k n) = if h : n.val < 832 then w (ix3 0 k ⟨n, h⟩) else 0 := by
  unfold padHost
  split
  · next h =>
    refine pad_apply_of_inside _ _ _ _ _ _ _ _ (ix3 0 k ⟨n, h⟩) fun a => ?_
    fin_cases a
    · rfl
    · show k.val = 0 + k.val * 1
      omega
    · show n.val = 0 + n.val * 1
      omega
  · next h =>
    refine (pad_apply_of_not_inside _ _ _ _ _ _ _ _ (2 : Fin 3) fun hc => h ?_).trans ?_
    · have h2 : (n.val - 0) / 1 < 832 := hc.2.2
      omega
    · show (((0#32 : BitVec 32).toInt : ℝ) : EReal) = 0
      simp

theorem wInHost_apply (w : Vec Ideal S2x1024x832 .f32) (k : Fin 1024) (n : Fin 896) :
    wInHost w (ix2 k n) = if h : n.val < 832 then w (ix3 0 k ⟨n, h⟩) else 0 := by
  rw [← padHost_apply]
  pointwise [wInHost]

theorem wQHost_apply (w : Vec Ideal S2x512x1536 .f32) (k : Fin 512) (n : Fin 1536) : wQHost w (ix2 k n) = w (ix3 0 k (perm n)) := by
  pointwise [wQHost, plainHost, turnedHost, headHost]
  unfold perm
  split
  · exact congrArg (fun n => w (ix3 0 k n)) (Fin.ext (show n.val / 128 * 192 + n.val % 128 = 192 * (n.val / 128) + n.val % 128 by omega))
  · exact congrArg (fun n => w (ix3 0 k n))
      (Fin.ext (show (n.val - 1024) / 64 * 192 + (128 + (n.val - 1024) % 64) = 192 * ((n.val - 1024) / 64) + 128 + (n.val - 1024) % 64 by omega))

theorem qNormHost_apply (g : Vec Ideal S2x512 .f32) (k : Fin 512) : qNormHost g (ix3 0 0 k) = g (ix2 0 k) := by
  pointwise [qNormHost]

theorem kvNormHost_apply (g : Vec Ideal S2x256 .f32) (k : Fin 256) : kvNormHost g (ix3 0 0 k) = g (ix2 0 k) := by
  pointwise [kvNormHost]

/-! ## The blocks of a grid point -/

theorem idx0 : ∀ t : Fin cfg0.N, win0_0.index t = ![t.val / 2, t.val % 2, 0] := (by decide +kernel : ∀ t : Fin grid0.N, _)
theorem idx1 : ∀ t : Fin cfg0.N, win0_1.index t = ![0, t.val / 2, 1, 0, 0] := (by decide +kernel : ∀ t : Fin grid0.N, _)
theorem idx2 : ∀ t : Fin cfg0.N, win0_2.index t = ![0, t.val / 2, 0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![t.val / 2, t.val % 2, 0] := (by decide +kernel : ∀ t : Fin grid0.N, _)
theorem idx9 : ∀ t : Fin cfg0.N, win0_9.index t = ![t.val / 2, t.val % 2, 0] := (by decide +kernel : ∀ t : Fin grid0.N, _)
theorem idx10 : ∀ t : Fin cfg0.N, win0_10.index t = ![t.val / 2, 0, t.val % 2, 0] := (by decide +kernel : ∀ t : Fin grid0.N, _)
theorem idx11 : ∀ t : Fin cfg0.N, win0_11.index t = ![t.val / 2, 0, t.val % 2, 0] := (by decide +kernel : ∀ t : Fin grid0.N, _)
theorem idx12 : ∀ t : Fin cfg0.N, win0_12.index t = ![t.val / 2, t.val % 2, 0] := (by decide +kernel : ∀ t : Fin grid0.N, _)
theorem idx13 : ∀ t : Fin cfg0.N, win0_13.index t = ![t.val / 2, 0, t.val % 2, 0] := (by decide +kernel : ∀ t : Fin grid0.N, _)

/-- A grid point's sequence and block. -/
abbrev seqOf (t : Fin cfg0.N) : Fin 16 := ⟨t.val / 2, by have : t.val < 32 := t.isLt; omega⟩
abbrev blockOf (t : Fin cfg0.N) : Fin 2 := ⟨t.val % 2, Nat.mod_lt _ (by norm_num)⟩

set_option maxHeartbeats 4000000 in
/-- The blocks it reads. -/
theorem blocks (t : Fin cfg0.N) : Blocks (argsOf m c) (seqOf t) (blockOf t) (iblk m c 0 t) (iblk m c 1 t) (iblk m c 2 t) (iblk m c 3 t) (iblk m c 4 t) (iblk m c 5 t) (iblk m c 6 t) (iblk m c 7 t) (iblk m c 8 t) (iblk m c 9 t) where
  h0 r d := by
    blk_simp [iblk]
    rw [V_main_arg0]
    refine congrArg (m ((c : Thread nD τ).loc main_arg0)) ?_
    blk_ext [idx0]
  h1 d := by
    blk_simp [iblk]
    rw [V_mod, ← modHost_apply (argsOf m c).mod]
    refine congrArg (modHost (argsOf m c).mod) ?_
    blk_ext [idx1]
  h2 d := by
    blk_simp [iblk]
    rw [V_mod, ← modHost_apply (argsOf m c).mod]
    refine congrArg (modHost (argsOf m c).mod) ?_
    blk_ext [idx2]
  h3 k n := by
    blk_simp [iblk]
    rw [V_wIn, ← wInHost_apply (argsOf m c).wIn]
    refine congrArg (wInHost (argsOf m c).wIn) ?_
    blk_ext [idx3]
  h4 k := by
    blk_simp [iblk]
    rw [V_qNorm, ← qNormHost_apply (argsOf m c).qNorm]
    refine congrArg (qNormHost (argsOf m c).qNorm) ?_
    blk_ext [idx4]
  h5 k n := by
    blk_simp [iblk]
    rw [V_wQ, ← wQHost_apply (argsOf m c).wQ]
    refine congrArg (wQHost (argsOf m c).wQ) ?_
    blk_ext [idx5]
  h6 k := by
    blk_simp [iblk]
    rw [V_kvNorm, ← kvNormHost_apply (argsOf m c).kvNorm]
    refine congrArg (kvNormHost (argsOf m c).kvNorm) ?_
    blk_ext [idx6]
  h7 k n := by
    blk_simp [iblk]
    rw [V_wKv]
    refine congrArg (argsOf m c).wKv ?_
    blk_ext [idx7]
  h8 r l := by
    blk_simp [iblk]
    rw [V_cos, ← tableHost_apply (argsOf m c).cos]
    refine congrArg (tableHost (argsOf m c).cos) ?_
    blk_ext [idx8]
  h9 r l := by
    blk_simp [iblk]
    rw [V_sin, ← tableHost_apply (argsOf m c).sin]
    refine congrArg (tableHost (argsOf m c).sin) ?_
    blk_ext [idx9]

/-! ## The arrays -/

theorem query_congr (A : Args) {b b' : Fin 16} {s s' : Fin 2048} {h h' : Fin 8} {d d' : Fin 256} (hb : b.val = b'.val) (hs : s.val = s'.val)
    (hh : h.val = h'.val) (hd : d.val = d'.val) : query A b s h d = query A b' s' h' d' := by rw [Fin.ext hb, Fin.ext hs, Fin.ext hh, Fin.ext hd]

theorem key_congr (A : Args) {b b' : Fin 16} {s s' : Fin 2048} {h h' : Fin 8} {d d' : Fin 128} (hb : b.val = b'.val) (hs : s.val = s'.val)
    (hh : h.val = h'.val) (hd : d.val = d'.val) : key A b s h d = key A b' s' h' d' := by rw [Fin.ext hb, Fin.ext hs, Fin.ext hh, Fin.ext hd]

theorem value_congr (A : Args) {b b' : Fin 16} {s s' : Fin 2048} {h h' : Fin 8} {d d' : Fin 128} (hb : b.val = b'.val) (hs : s.val = s'.val)
    (hh : h.val = h'.val) (hd : d.val = d'.val) : value A b s h d = value A b' s' h' d' := by rw [Fin.ext hb, Fin.ext hs, Fin.ext hh, Fin.ext hd]

theorem sharedKey_congr (A : Args) {b b' : Fin 16} {s s' : Fin 2048} {d d' : Fin 128} (hb : b.val = b'.val) (hs : s.val = s'.val) (hd : d.val = d'.val) :
    sharedKey A b s d = sharedKey A b' s' d' := by rw [Fin.ext hb, Fin.ext hs, Fin.ext hd]

theorem arr10_eq : (dats m 0 c).arrAt 10 cfg0.N = queries (argsOf m c) := by
  refine (dats m 0 c).arrAt_eq_of_covers 10 _ (by decide +kernel) fun t _ y => ?_
  blk_simp
  rw [after0_10]
  have e0 : ((win0_10.blk t).view.emb y 0).val = t.val / 2 + (y 0).val := by blk_simp [idx10]
  have e1 : ((win0_10.blk t).view.emb y 1).val = (y 1).val := by blk_simp [idx10]
  have e2 : ((win0_10.blk t).view.emb y 2).val = t.val % 2 * 1024 + (y 2).val := by blk_simp [idx10]
  have e3 : ((win0_10.blk t).view.emb y 3).val = (y 3).val := by blk_simp [idx10]
  have hy0 := (y 0).isLt
  change _ < 1 at hy0
  refine (congrFun (out10_eq (blocks m c t)) y).trans (query_congr _ ?_ ?_ ?_ ?_)
  · show t.val / 2 = ((win0_10.blk t).view.emb y 0).val
    omega
  · show 1024 * (t.val % 2) + (y 2).val = ((win0_10.blk t).view.emb y 2).val
    omega
  · show (y 1).val = ((win0_10.blk t).view.emb y 1).val
    omega
  · show (y 3).val = ((win0_10.blk t).view.emb y 3).val
    omega

theorem arr11_eq : (dats m 0 c).arrAt 11 cfg0.N = keys (argsOf m c) := by
  refine (dats m 0 c).arrAt_eq_of_covers 11 _ (by decide +kernel) fun t _ y => ?_
  blk_simp
  rw [after0_11]
  have e0 : ((win0_11.blk t).view.emb y 0).val = t.val / 2 + (y 0).val := by blk_simp [idx11]
  have e1 : ((win0_11.blk t).view.emb y 1).val = (y 1).val := by blk_simp [idx11]
  have e2 : ((win0_11.blk t).view.emb y 2).val = t.val % 2 * 1024 + (y 2).val := by blk_simp [idx11]
  have e3 : ((win0_11.blk t).view.emb y 3).val = (y 3).val := by blk_simp [idx11]
  have hy0 := (y 0).isLt
  change _ < 1 at hy0
  refine (congrFun (out11_eq (blocks m c t)) y).trans (key_congr _ ?_ ?_ ?_ ?_)
  · show t.val / 2 = ((win0_11.blk t).view.emb y 0).val
    omega
  · show 1024 * (t.val % 2) + (y 2).val = ((win0_11.blk t).view.emb y 2).val
    omega
  · show (y 1).val = ((win0_11.blk t).view.emb y 1).val
    omega
  · show (y 3).val = ((win0_11.blk t).view.emb y 3).val
    omega

theorem arr13_eq : (dats m 0 c).arrAt 13 cfg0.N = values (argsOf m c) := by
  refine (dats m 0 c).arrAt_eq_of_covers 13 _ (by decide +kernel) fun t _ y => ?_
  blk_simp
  rw [after0_13]
  have e0 : ((win0_13.blk t).view.emb y 0).val = t.val / 2 + (y 0).val := by blk_simp [idx13]
  have e1 : ((win0_13.blk t).view.emb y 1).val = (y 1).val := by blk_simp [idx13]
  have e2 : ((win0_13.blk t).view.emb y 2).val = t.val % 2 * 1024 + (y 2).val := by blk_simp [idx13]
  have e3 : ((win0_13.blk t).view.emb y 3).val = (y 3).val := by blk_simp [idx13]
  have hy0 := (y 0).isLt
  change _ < 1 at hy0
  refine (congrFun (out13_eq (blocks m c t)) y).trans (value_congr _ ?_ ?_ ?_ ?_)
  · show t.val / 2 = ((win0_13.blk t).view.emb y 0).val
    omega
  · show 1024 * (t.val % 2) + (y 2).val = ((win0_13.blk t).view.emb y 2).val
    omega
  · show (y 1).val = ((win0_13.blk t).view.emb y 1).val
    omega
  · show (y 3).val = ((win0_13.blk t).view.emb y 3).val
    omega

theorem arr12_eq : (dats m 0 c).arrAt 12 cfg0.N = sharedKeys (argsOf m c) := by
  refine (dats m 0 c).arrAt_eq_of_covers 12 _ (by decide +kernel) fun t _ y => ?_
  blk_simp
  rw [after0_12]
  have e0 : ((win0_12.blk t).view.emb y 0).val = t.val / 2 + (y 0).val := by blk_simp [idx12]
  have e1 : ((win0_12.blk t).view.emb y 1).val = t.val % 2 * 1024 + (y 1).val := by blk_simp [idx12]
  have e2 : ((win0_12.blk t).view.emb y 2).val = (y 2).val := by blk_simp [idx12]
  have hy0 := (y 0).isLt
  change _ < 1 at hy0
  have ey : (y : S1x1024x128.Idx) = ix3 0 (y 1) (y 2) := funext fun k => Fin.ext (by
    fin_cases k
    · show (y 0).val = 0
      omega
    · rfl
    · rfl)
  refine (congrArg (out0_12 (iblk m c 0 t) (iblk m c 1 t) (iblk m c 2 t) (iblk m c 3 t) (iblk m c 4 t) (iblk m c 5 t) (iblk m c 6 t) (iblk m c 7 t) (iblk m c 8 t) (iblk m c 9 t)) ey).trans
    ((out12_apply (blocks m c t) (y 1) (y 2)).trans (sharedKey_congr _ ?_ ?_ ?_))
  · show t.val / 2 = ((win0_12.blk t).view.emb y 0).val
    omega
  · show 1024 * (t.val % 2) + (y 1).val = ((win0_12.blk t).view.emb y 1).val
    omega
  · show (y 2).val = ((win0_12.blk t).view.emb y 2).val
    omega

end Cert.Kernel4Ideal.MlaPre

end
-- ==== Proof.MlaPre.Reference.lean ====
/- The reference's projections, read at one position. -/
module

public import proofs.«01_k».proof.Proof.MlaPre.Spec
public import proofs.«01_k».proof.Proof.Gen.Reference4Ideal.Read
public import Idealize.ShloMosaic.Lib.KernelVsHost

@[expose] public section

set_option maxRecDepth 16384

noncomputable section

namespace Cert.Reference4Ideal.MlaPre

open Cert.Reference4Ideal Cert.Reference4Ideal.Gen Cert.Reference4Ideal.Read Cert.Norm Cert.MlaPre Idealize.ShloMosaic

variable (A : Args) (b : Fin 16) (s : Fin 2048)

theorem v1_apply (n : Fin 6144) : val_main_v1 (F := Ideal) A.mod (ix2 b n) = A.mod (ix3 0 b n) := by
  pointwise [val_main_v1, val_main_v0]

/-- The hidden features. -/
theorem v29_apply (d : Fin 1024) : val_main_v29 (F := Ideal) A.x A.mod (ix3 b s d) = hidden A.x A.mod 0 b s d := by
  pointwise [val_main_v29, val_main_v28, val_main_v27, val_main_v26, val_main_v25, val_main_v24, val_main_cst_2, val_main_v23, val_main_v22,
    val_main_v21, val_main_v20, val_main_v19, val_main_cst_1, val_main_v18, val_main_v17, val_main_cst_0, val_main_v16, val_main_v15, val_main_cst,
    val_main_v14, val_main_v8, val_main_v9, val_main_v2, val_main_v3, v1_apply]
  have e0 : part A.mod 0 b 0 d = A.mod (ix3 0 b ⟨d, by omega⟩) := congrArg (fun n => A.mod (ix3 0 b n)) (Fin.ext (show 1024 * 0 + d.val = d.val by omega))
  unfold Norm.hidden
  rw [e0]
  rfl

/-- The projection and its three parts. -/
theorem v32_apply (n : Fin 832) : val_main_v32 (F := Ideal) A.x A.mod A.wIn (ix3 b s n) = proj A b s n := by
  pointwise [val_main_v32, val_main_v31, val_main_v30, v29_apply]
  rfl

theorem v33_apply (n : Fin 512) : val_main_v33 (F := Ideal) A.x A.mod A.wIn (ix3 b s n) = qLow A b s n := by
  pointwise [val_main_v33, v32_apply]
  rfl

theorem v34_apply (n : Fin 256) : val_main_v34 (F := Ideal) A.x A.mod A.wIn (ix3 b s n) = kvLow A b s n := by
  pointwise [val_main_v34, v32_apply]
  rfl

theorem v35_apply (n : Fin 64) : val_main_v35 (F := Ideal) A.x A.mod A.wIn (ix3 b s n) = proj A b s ⟨768 + n, by omega⟩ := by
  pointwise [val_main_v35, v32_apply]

/-- The queries before the rotation. -/
theorem v53_apply (n : Fin 1536) : val_main_v53 (F := Ideal) A.x A.mod A.wIn A.qNorm A.wQ (ix3 b s n) = qUp A b s n := by
  pointwise [val_main_v53, val_main_v52, val_main_v51, val_main_v50, val_main_v49, val_main_v48, val_main_v47, val_main_v46, val_main_v45,
    val_main_v44, val_main_v43, val_main_v42, val_main_v41, val_main_cst_5, val_main_v40, val_main_v39, val_main_cst_4, val_main_v38, val_main_v37,
    val_main_cst_3, val_main_v36, v33_apply]
  rfl

theorem v54_apply (h : Fin 8) (d : Fin 192) :
    val_main_v54 (F := Ideal) A.x A.mod A.wIn A.qNorm A.wQ (ix4 b s h d) = qUp A b s ⟨192 * h + d, by omega⟩ := by
  pointwise [val_main_v54, v53_apply]
  simp only [Nat.mul_comm]

theorem v55_apply (h : Fin 8) (d : Fin 64) :
    val_main_v55 (F := Ideal) A.x A.mod A.wIn A.qNorm A.wQ (ix4 b s h d) = qUp A b s ⟨192 * h + 128 + d, by omega⟩ := by
  pointwise [val_main_v55, v54_apply]
  exact congrArg (qUp A b s) (Fin.ext (show 192 * h.val + (128 + d.val) = 192 * h.val + 128 + d.val by omega))

/-- Their rotated lanes. -/
theorem v70_apply (h : Fin 8) (d : Fin 64) : val_main_v70 (F := Ideal) A.x A.mod A.wIn A.qNorm A.wQ A.cos A.sin (ix4 b s h d)
    = turn A b s (fun e => qUp A b s ⟨192 * h + 128 + e, by omega⟩) d := by
  unfold turn rot
  by_cases hd : d.val < 32
  · rw [dif_pos hd]
    pointwise [val_main_v70]
    rw [dif_pos hd]
    pointwise [val_main_v64, val_main_v63, val_main_v62, val_main_v61, val_main_v60, val_main_v59, val_main_v58, val_main_v57, val_main_v56, v55_apply]
    simp only [Nat.add_comm 32]
  · rw [dif_neg hd]
    pointwise [val_main_v70]
    rw [dif_neg hd]
    pointwise [val_main_v69, val_main_v68, val_main_v67, val_main_v66, val_main_v65, val_main_v59, val_main_v58, val_main_v57, val_main_v56, v55_apply]
    simp only [show 32 + (d.val - 32) = d.val by omega]

/-- The shared key part's. -/
theorem v79_apply (d : Fin 64) : val_main_v79 (F := Ideal) A.x A.mod A.wIn A.cos A.sin (ix3 b s d)
    = turn A b s (fun e => proj A b s ⟨768 + e, by omega⟩) d := by
  unfold turn rot
  by_cases hd : d.val < 32
  · rw [dif_pos hd]
    pointwise [val_main_v79]
    rw [dif_pos hd]
    pointwise [val_main_v75, val_main_v74, val_main_v73, val_main_v72, val_main_v71, v35_apply]
    simp only [Nat.add_comm 32]
  · rw [dif_neg hd]
    pointwise [val_main_v79]
    rw [dif_neg hd]
    pointwise [val_main_v78, val_main_v77, val_main_v76, val_main_v72, val_main_v71, v35_apply]
    simp only [show 32 + (d.val - 32) = d.val by omega]

/-- Keys and values. -/
theorem v97_apply (n : Fin 2048) : val_main_v97 (F := Ideal) A.x A.mod A.wIn A.kvNorm A.wKv (ix3 b s n) = kvUp A b s n := by
  pointwise [val_main_v97, val_main_v96, val_main_v95, val_main_v94, val_main_v93, val_main_v92, val_main_v91, val_main_v90, val_main_v89,
    val_main_v88, val_main_v87, val_main_v86, val_main_v85, val_main_cst_8, val_main_v84, val_main_v83, val_main_cst_7, val_main_v82, val_main_v81,
    val_main_cst_6, val_main_v80, v34_apply]
  rfl

theorem v98_apply (h : Fin 8) (d : Fin 256) :
    val_main_v98 (F := Ideal) A.x A.mod A.wIn A.kvNorm A.wKv (ix4 b s h d) = kvUp A b s ⟨256 * h + d, by omega⟩ := by
  pointwise [val_main_v98, v97_apply]
  simp only [Nat.mul_comm]

theorem v108_apply (h : Fin 8) (d : Fin 128) : val_main_v108 (F := Ideal) A.x A.mod A.wIn A.kvNorm A.wKv (ix4 b h s d) = key A b s h d := by
  pointwise [val_main_v108, val_main_v107, val_main_v106, v98_apply]
  rfl

theorem v113_apply (h : Fin 8) (d : Fin 128) : val_main_v113 (F := Ideal) A.x A.mod A.wIn A.kvNorm A.wKv (ix4 b h s d) = value A b s h d := by
  pointwise [val_main_v113, val_main_v112, val_main_v111, v98_apply]
  exact congrArg (kvUp A b s) (Fin.ext (show 256 * h.val + (128 + d.val) = 256 * h.val + 128 + d.val by omega))

/-- The queries, scaled. -/
theorem v102_apply (h : Fin 8) (d : Fin 192) : val_main_v102 (F := Ideal) A.x A.mod A.wIn A.qNorm A.wQ A.cos A.sin (ix4 b s h d)
    = query A b s h ⟨d, by omega⟩ := by
  by_cases hd : d.val < 128
  · rw [query_plain A b s h _ ⟨d, hd⟩ rfl]
    pointwise [val_main_v102, val_main_v101, val_main_cst_9, val_main_v100]
    rw [dif_pos hd]
    pointwise [val_main_v99, v54_apply]
    rfl
  · rw [query_rotated A b s h _ ⟨d - 128, by omega⟩ (show d.val = 128 + (d.val - 128) by omega)]
    pointwise [val_main_v102, val_main_v101, val_main_cst_9, val_main_v100]
    rw [dif_neg hd]
    refine congrArg (· * _) ?_
    exact v70_apply A b s h _

theorem v105_apply (h : Fin 8) (d : Fin 256) : val_main_v105 (F := Ideal) A.x A.mod A.wIn A.qNorm A.wQ A.cos A.sin (ix4 b h s d) = query A b s h d := by
  have e : val_main_v105 (F := Ideal) A.x A.mod A.wIn A.qNorm A.wQ A.cos A.sin (ix4 b h s d)
      = val_main_v103 (F := Ideal) A.x A.mod A.wIn A.qNorm A.wQ A.cos A.sin (ix4 b s h d) := by pointwise [val_main_v105, val_main_v104]
  rw [e]
  by_cases hd : d.val < 192
  · exact (pad_apply_of_inside _ _ _ _ _ _ _ _ (ix4 b s h ⟨d, hd⟩) fun a => by
      fin_cases a
      · show b.val = 0 + b.val * 1
        omega
      · show s.val = 0 + s.val * 1
        omega
      · show h.val = 0 + h.val * 1
        omega
      · show d.val = 0 + d.val * 1
        omega).trans (v102_apply A b s h ⟨d, hd⟩)
  · rw [query_zero A b s h d (by omega)]
    refine (pad_apply_of_not_inside _ _ _ _ _ _ _ _ (3 : Fin 4) (fun hc => ?_)).trans ?_
    · have h2 : (d.val - 0) / 1 < 192 := hc.2.2
      omega
    · show (((0#32 : BitVec 32).toInt : ℝ) : EReal) = 0
      simp

theorem v110_apply (d : Fin 128) : val_main_v110 (F := Ideal) A.x A.mod A.wIn A.cos A.sin (ix3 b s d) = sharedKey A b s d := by
  have e : val_main_v110 (F := Ideal) A.x A.mod A.wIn A.cos A.sin (ix3 b s d)
      = val_main_v109 (F := Ideal) A.x A.mod A.wIn A.cos A.sin (ix3 b s d) := by pointwise [val_main_v110]
  rw [e]
  unfold sharedKey
  by_cases hd : d.val < 64
  · rw [dif_pos hd]
    exact (pad_apply_of_inside _ _ _ _ _ _ _ _ (ix3 b s ⟨d, hd⟩) fun a => by
      fin_cases a
      · show b.val = 0 + b.val * 1
        omega
      · show s.val = 0 + s.val * 1
        omega
      · show d.val = 0 + d.val * 1
        omega).trans (v79_apply A b s ⟨d, hd⟩)
  · rw [dif_neg hd]
    refine (pad_apply_of_not_inside _ _ _ _ _ _ _ _ (2 : Fin 3) (fun hc => ?_)).trans ?_
    · have h2 : (d.val - 0) / 1 < 64 := hc.2.2
      omega
    · show (((0#32 : BitVec 32).toInt : ℝ) : EReal) = 0
      simp

end Cert.Reference4Ideal.MlaPre

end
-- ==== Proof.MlaPre.Claims.lean ====
/- The claims about the attention layer's input projections: the frames, and the equality of the
   kernel's results with the reference's. -/
module

public import proofs.«01_k».proof.Defs
public import proofs.«01_k».proof.Proof.MlaPre.Array
public import proofs.«01_k».proof.Proof.MlaPre.Reference
public import proofs.«01_k».proof.Proof.Gen.Kernel4.Frame
public import Idealize.ShloMosaic.Adequacy
public import Idealize.ShloMosaic.Init

@[expose] public section

set_option maxRecDepth 16384

noncomputable section

namespace Cert.MlaPre

open Idealize.ShloMosaic Idealize.ShloMosaic.TcCoe Idealize.SL.Sem

/-- The kernel runs and keeps its arguments. -/
theorem frame_kernel : quiescent_Kernel4 := fun m ρ _ => Cert.Kernel4.Gen.frame m ρ

/-- So does the kernel at extended reals. -/
theorem frame_ideal : quiescent_Kernel4Ideal := fun m ρ _ => Cert.Kernel4Ideal.Gen.frame m ρ

/-- So does the reference, which has no semaphores. -/
theorem frame_reference : quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

/-- The reference's result arrays. -/
theorem reference_q (A : Args) : Cert.Reference4Ideal.Read.val_main_v105 (F := Ideal) A.x A.mod A.wIn A.qNorm A.wQ A.cos A.sin = queries A := funext fun i => by
  have e : i = ix4 (i 0) (i 1) (i 2) (i 3) := funext fun k => by fin_cases k <;> rfl
  rw [e]
  exact Cert.Reference4Ideal.MlaPre.v105_apply A _ _ _ _

theorem reference_k (A : Args) : Cert.Reference4Ideal.Read.val_main_v108 (F := Ideal) A.x A.mod A.wIn A.kvNorm A.wKv = keys A := funext fun i => by
  have e : i = ix4 (i 0) (i 1) (i 2) (i 3) := funext fun k => by fin_cases k <;> rfl
  rw [e]
  exact Cert.Reference4Ideal.MlaPre.v108_apply A _ _ _ _

theorem reference_shared (A : Args) : Cert.Reference4Ideal.Read.val_main_v110 (F := Ideal) A.x A.mod A.wIn A.cos A.sin = sharedKeys A := funext fun i => by
  have e : i = ix3 (i 0) (i 1) (i 2) := funext fun k => by fin_cases k <;> rfl
  rw [e]
  exact Cert.Reference4Ideal.MlaPre.v110_apply A _ _ _

theorem reference_v (A : Args) : Cert.Reference4Ideal.Read.val_main_v113 (F := Ideal) A.x A.mod A.wIn A.kvNorm A.wKv = values A := funext fun i => by
  have e : i = ix4 (i 0) (i 1) (i 2) (i 3) := funext fun k => by fin_cases k <;> rfl
  rw [e]
  exact Cert.Reference4Ideal.MlaPre.v113_apply A _ _ _ _

/-- Kernel and reference compute the same arrays. -/
theorem equal : algebraic_Kernel4Ideal_Reference4Ideal := by
  intro m ρ m' ρ' hm hagree
  refine ⟨fun c => queries (Cert.Kernel4Ideal.MlaPre.argsOf m c), fun c => keys (Cert.Kernel4Ideal.MlaPre.argsOf m c),
    fun c => sharedKeys (Cert.Kernel4Ideal.MlaPre.argsOf m c), fun c => values (Cert.Kernel4Ideal.MlaPre.argsOf m c), ?_, ?_⟩
  · exact (θ_run Cert.Kernel4Ideal.defs _ _).mono
      (fun r h c => ⟨(h c).1.trans (Cert.Kernel4Ideal.MlaPre.arr10_eq m c), (h c).2.1.trans (Cert.Kernel4Ideal.MlaPre.arr11_eq m c),
        (h c).2.2.1.trans (Cert.Kernel4Ideal.MlaPre.arr12_eq m c), (h c).2.2.2.1.trans (Cert.Kernel4Ideal.MlaPre.arr13_eq m c), (h c).2.2.2.2⟩) (Cert.Kernel4Ideal.Value.run_blocks m ρ)
  · refine (θ_run Cert.Reference4Ideal.defs _ _).mono (fun r h c => ?_) (Cert.Reference4Ideal.Value.run m' ρ')
    obtain ⟨e0, e1, e2, e3, e4, e5, e6, e7, e8⟩ := hagree c
    refine ⟨(h c).1.trans ?_, (h c).2.1.trans ?_, (h c).2.2.1.trans ?_, (h c).2.2.2.1.trans ?_, (h c).2.2.2.2⟩
    · rw [Cert.Reference4Ideal.Read.val_main_v105_eq, e0, e1, e2, e3, e4, e7, e8]
      exact reference_q (Cert.Kernel4Ideal.MlaPre.argsOf m c)
    · rw [Cert.Reference4Ideal.Read.val_main_v108_eq, e0, e1, e2, e5, e6]
      exact reference_k (Cert.Kernel4Ideal.MlaPre.argsOf m c)
    · rw [Cert.Reference4Ideal.Read.val_main_v110_eq, e0, e1, e2, e7, e8]
      exact reference_shared (Cert.Kernel4Ideal.MlaPre.argsOf m c)
    · rw [Cert.Reference4Ideal.Read.val_main_v113_eq, e0, e1, e2, e5, e6]
      exact reference_v (Cert.Kernel4Ideal.MlaPre.argsOf m c)

end Cert.MlaPre

end
-- ==== Proof.Scan.Claims.lean ====
/- The claims about the recurrence with the output projection and the feed-forward part: the frames. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame

@[expose] public section

noncomputable section

namespace Cert.Scan

/-- The kernel runs and keeps its arguments. -/
theorem frame_kernel : quiescent_Kernel5 := fun m ρ _ => Cert.Kernel5.Gen.frame m ρ

/-- So does the kernel at extended reals. -/
theorem frame_ideal : quiescent_Kernel5Ideal := fun m ρ _ => Cert.Kernel5Ideal.Gen.frame m ρ

end Cert.Scan

end
-- ==== Proof.Rope.Spec.lean ====
/- The modulation and the rotary tables: what the kernel and the reference compute. -/
module

public import proofs.«01_k».proof.Proof.Norm.Spec

@[expose] public section

noncomputable section

namespace Cert.Rope

open Idealize.ShloMosaic

/-- The arguments: the conditions, the weights and the biases of the four layers, and the positions. -/
structure Args where
  c : Vec Ideal ⟨2, ![16, 1024]⟩ .f32
  w : Vec Ideal ⟨3, ![4, 1024, 6144]⟩ .f32
  b : Vec Ideal ⟨2, ![4, 6144]⟩ .f32
  pos : Vec Ideal ⟨2, ![16, 2048]⟩ .i32

/-- The modulation of a layer: the projection of the activated condition, plus the bias. -/
def modulation (A : Args) : Vec Ideal ⟨3, ![4, 16, 6144]⟩ .f32 := fun i =>
  ∑ k : Fin 1024, A.c (ix2 (i 1) k) * Ideal.logistic (A.c (ix2 (i 1) k)) * A.w (ix3 (i 0) k (i 2)) + A.b (ix2 (i 0) (i 2))

/-- The angle's factor in one of the 32 lanes: 1 over 10000 to the power 2j / 64. -/
def freq (j : Fin 32) : EReal :=
  Ideal.div 1 (Ideal.pow (Ideal.ofBits .f32 0x461C4000#32)
    (Ideal.div (Ideal.ofBits .f32 0x40000000#32 * FloatOps.sitofp (F := Ideal) .f32 (BitVec.ofNat 32 j.val)) (Ideal.ofBits .f32 0x42800000#32)))

/-- The angle of a position in one of the 32 lanes. -/
def angle (A : Args) (b : Fin 16) (s : Fin 2048) (j : Fin 32) : EReal := FloatOps.sitofp (F := Ideal) .f32 (A.pos (ix2 b s)) * freq j

/-- The lane among 32. -/
abbrev lane (l : Fin 128) : Fin 32 := ⟨l.val % 32, Nat.mod_lt _ (by norm_num)⟩

/-- The tables: each of the 32 cosines and sines four times over. -/
def cosTable (A : Args) : Vec Ideal ⟨3, ![16, 2048, 128]⟩ .f32 := fun i => Ideal.cos (angle A (i 0) (i 1) (lane (i 2)))
def sinTable (A : Args) : Vec Ideal ⟨3, ![16, 2048, 128]⟩ .f32 := fun i => Ideal.sin (angle A (i 0) (i 1) (lane (i 2)))

/-- The lane that a turn by `k` lanes brings to lane `l`. -/
abbrev turn (k : ℕ) (l : Fin 128) : Fin 128 := ⟨(l.val + 128 - k) % 128, Nat.mod_lt _ (by norm_num)⟩

/-- The first 32 lanes, four times over. -/
def spread (f : Fin 128 → EReal) (l : Fin 128) : EReal := f l + f (turn 32 l) + (f (turn 64 l) + f (turn 32 (turn 64 l)))

theorem spread_eq (f : Fin 128 → EReal) (h : ∀ l : Fin 128, 32 ≤ l.val → f l = 0) (l : Fin 128) : spread f l = f ⟨l.val % 32, by omega⟩ := by
  unfold spread
  have hl := l.isLt
  have hq : l.val < 32 ∨ (32 ≤ l.val ∧ l.val < 64) ∨ (64 ≤ l.val ∧ l.val < 96) ∨ 96 ≤ l.val := by omega
  rcases hq with hq | hq | hq | hq
  · rw [h (turn 32 l) (by show 32 ≤ (l.val + 128 - 32) % 128; omega), h (turn 64 l) (by show 32 ≤ (l.val + 128 - 64) % 128; omega),
      h (turn 32 (turn 64 l)) (by show 32 ≤ ((l.val + 128 - 64) % 128 + 128 - 32) % 128; omega), add_zero, add_zero, add_zero]
    exact congrArg f (Fin.ext (by show l.val = l.val % 32; omega))
  · rw [h l (by omega), h (turn 64 l) (by show 32 ≤ (l.val + 128 - 64) % 128; omega),
      h (turn 32 (turn 64 l)) (by show 32 ≤ ((l.val + 128 - 64) % 128 + 128 - 32) % 128; omega), zero_add, add_zero, add_zero]
    exact congrArg f (Fin.ext (by show (l.val + 128 - 32) % 128 = l.val % 32; omega))
  · rw [h l (by omega), h (turn 32 l) (by show 32 ≤ (l.val + 128 - 32) % 128; omega),
      h (turn 32 (turn 64 l)) (by show 32 ≤ ((l.val + 128 - 64) % 128 + 128 - 32) % 128; omega), zero_add, add_zero, zero_add]
    exact congrArg f (Fin.ext (by show (l.val + 128 - 64) % 128 = l.val % 32; omega))
  · rw [h l (by omega), h (turn 32 l) (by show 32 ≤ (l.val + 128 - 32) % 128; omega), h (turn 64 l) (by show 32 ≤ (l.val + 128 - 64) % 128; omega),
      zero_add, zero_add, zero_add]
    exact congrArg f (Fin.ext (by show ((l.val + 128 - 64) % 128 + 128 - 32) % 128 = l.val % 32; omega))

end Cert.Rope

end
-- ==== Proof.Rope.IdealRun.lean ====
/- The modulation tables and the rotary tables: the kernel's run at extended reals.
   The tables' rows are written four apart, so their pieces are boxes that take every fourth row. -/
module

public import proofs.«01_k».proof.Proof.Gen.Kernel6Ideal.Frame
public import proofs.«01_k».proof.Proof.Gen.Kernel6Ideal.Skeleton
public import Idealize.ShloMosaic.Lib.Claim
public import Idealize.ShloMosaic.Lib.Pipeline.FrameBody
public import Idealize.ShloMosaic.Lib.Tactic

@[expose] public section

set_option maxRecDepth 16384

noncomputable section

namespace Cert.Rope.Ideal

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The boxes that the body reads and writes; the tables' boxes take every fourth row. -/
abbrev r0_0 : Rect S16x1024 := Rect.unit (s := S16x1024) ![0, 0] S16x1024.size inb_S16x1024_S16x1024_0_0
abbrev r0_1 : Rect S1x1024x1536 := Rect.unit (s := S1x1024x1536) ![0, 0, 0] S1x1024x1536.size inb_S1x1024x1536_S1x1024x1536_0_0_0
abbrev r0_2 : Rect S1x1x1536 := Rect.unit (s := S1x1x1536) ![0, 0, 0] S1x1x1536.size inb_S1x1x1536_S1x1x1536_0_0_0
abbrev r0_3 : Rect S1x16x1536 := Rect.unit (s := S1x16x1536) ![0, 0, 0] S1x16x1536.size inb_S1x16x1536_S1x16x1536_0_0_0
abbrev r0_4 : Rect S1x512x4 := Rect.unit (s := S1x512x4) ![0, 0, 0] S1x512x4.size inb_S1x512x4_S1x512x4_0_0_0
abbrev r0_5 : Rect S1x128 := Rect.unit (s := S1x128) ![0, 0] S1x128.size inb_S1x128_S1x128_0_0
abbrev r0_6 : Rect S1x2048x128 := ⟨(⟨![0, 0, 0], S1x512x128.size, ![1, 4, 1], inb_S1x2048x128_S1x512x128_0_0_0_s_1_4_1⟩ : LoadRect S1x2048x128), spos_1_4_1⟩
abbrev r0_7 : Rect S1x2048x128 := ⟨(⟨![0, 1, 0], S1x512x128.size, ![1, 4, 1], inb_S1x2048x128_S1x512x128_0_1_0_s_1_4_1⟩ : LoadRect S1x2048x128), spos_1_4_1⟩
abbrev r0_8 : Rect S1x2048x128 := ⟨(⟨![0, 2, 0], S1x512x128.size, ![1, 4, 1], inb_S1x2048x128_S1x512x128_0_2_0_s_1_4_1⟩ : LoadRect S1x2048x128), spos_1_4_1⟩
abbrev r0_9 : Rect S1x2048x128 := ⟨(⟨![0, 3, 0], S1x512x128.size, ![1, 4, 1], inb_S1x2048x128_S1x512x128_0_3_0_s_1_4_1⟩ : LoadRect S1x2048x128), spos_1_4_1⟩

/-- The lane numbers. -/
def k0_pay27 (x0 : Vec F S16x1024 .f32) (x1 : Vec F S1x1024x1536 .f32) (x2 : Vec F S1x1x1536 .f32) (x3 : Vec F S1x512x4 .i32) (x4 : Vec F S1x128 .f32) : IVec S512x128 32 :=
  iota .tc S512x128 32 [1] iota_S512x128_d1_w32
/-- The positions, as reals. -/
def k0_pay28 (x0 : Vec F S16x1024 .f32) (x1 : Vec F S1x1024x1536 .f32) (x2 : Vec F S1x1x1536 .f32) (x3 : Vec F S1x512x4 .i32) (x4 : Vec F S1x128 .f32) : FVec F S512x4 .f32 :=
  k0_pay3 (View.ld x3 r0_4)
/-- The positions spread over the lanes, up to the last of the four. -/
def k0_pay29 (x0 : Vec F S16x1024 .f32) (x1 : Vec F S1x1024x1536 .f32) (x2 : Vec F S1x1x1536 .f32) (x3 : Vec F S1x512x4 .i32) (x4 : Vec F S1x128 .f32) : FVec F S512x128 .f32 :=
  k0_pay11 (k0_pay28 x0 x1 x2 x3 x4) (k0_pay27 x0 x1 x2 x3 x4) (k0_pay8 (k0_pay28 x0 x1 x2 x3 x4) (k0_pay27 x0 x1 x2 x3 x4) (k0_pay4 (F := F)) k0_pay5 k0_pay6 k0_pay7) 32#32 (k0_pay9 (k0_pay27 x0 x1 x2 x3 x4)) (k0_pay10 (k0_pay27 x0 x1 x2 x3 x4))
/-- The lane numbers' group. -/
def k0_pay30 (x0 : Vec F S16x1024 .f32) (x1 : Vec F S1x1024x1536 .f32) (x2 : Vec F S1x1x1536 .f32) (x3 : Vec F S1x512x4 .i32) (x4 : Vec F S1x128 .f32) : IVec S512x128 32 :=
  k0_pay12 (k0_pay27 x0 x1 x2 x3 x4)
/-- The lanes of the last group. -/
def k0_pay31 (x0 : Vec F S16x1024 .f32) (x1 : Vec F S1x1024x1536 .f32) (x2 : Vec F S1x1x1536 .f32) (x3 : Vec F S1x512x4 .i32) (x4 : Vec F S1x128 .f32) : IVec S512x128 1 :=
  k0_pay13 (k0_pay27 x0 x1 x2 x3 x4)
/-- The cosines, four positions in a row. -/
def k0_pay32 (x0 : Vec F S16x1024 .f32) (x1 : Vec F S1x1024x1536 .f32) (x2 : Vec F S1x1x1536 .f32) (x3 : Vec F S1x512x4 .i32) (x4 : Vec F S1x128 .f32) : FVec F S512x128 .f32 :=
  k0_pay15 (k0_pay28 x0 x1 x2 x3 x4) (k0_pay29 x0 x1 x2 x3 x4) (k0_pay30 x0 x1 x2 x3 x4) (k0_pay31 x0 x1 x2 x3 x4) 1#32 (View.ld x4 r0_5)
/-- The sines, four positions in a row. -/
def k0_pay33 (x0 : Vec F S16x1024 .f32) (x1 : Vec F S1x1024x1536 .f32) (x2 : Vec F S1x1x1536 .f32) (x3 : Vec F S1x512x4 .i32) (x4 : Vec F S1x128 .f32) : FVec F S512x128 .f32 :=
  k0_pay16 (k0_pay28 x0 x1 x2 x3 x4) (k0_pay29 x0 x1 x2 x3 x4) (k0_pay30 x0 x1 x2 x3 x4) (k0_pay31 x0 x1 x2 x3 x4) 1#32 (View.ld x4 r0_5)

/-- The modulation tile that the body leaves. -/
def out0_5 (x0 : Vec F S16x1024 .f32) (x1 : Vec F S1x1024x1536 .f32) (x2 : Vec F S1x1x1536 .f32) (x3 : Vec F S1x512x4 .i32) (x4 : Vec F S1x128 .f32) : Vec F S1x16x1536 .f32 :=
  View.canon [⟨r0_3, k0_pay2 (View.ld x0 r0_0) (View.ld x1 r0_1) (View.ld x2 r0_2)⟩]

/-- The one piece covers the tile. -/
theorem cover0_5 (p0 : Vec F S1x16x1536 .f32) (y : S1x16x1536.Idx) :
    ∃ pc ∈ ([⟨r0_3, p0⟩] : List (View.Piece (Elt F) S1x16x1536 .f32)), y ∈ pc.1.set :=
  View.cover_of_tiled [⟨r0_3, p0⟩] S1x16x1536.size (by rfl) y

/-- The cosine table that the body leaves, in four pieces. -/
def out0_6 (x0 : Vec F S16x1024 .f32) (x1 : Vec F S1x1024x1536 .f32) (x2 : Vec F S1x1x1536 .f32) (x3 : Vec F S1x512x4 .i32) (x4 : Vec F S1x128 .f32) : Vec F S1x2048x128 .f32 :=
  View.canon [⟨r0_9, k0_pay25 (k0_pay27 x0 x1 x2 x3 x4) (k0_pay32 x0 x1 x2 x3 x4)⟩,
    ⟨r0_8, k0_pay23 (k0_pay27 x0 x1 x2 x3 x4) (k0_pay32 x0 x1 x2 x3 x4)⟩,
    ⟨r0_7, k0_pay21 (k0_pay27 x0 x1 x2 x3 x4) (k0_pay19 (k0_pay28 x0 x1 x2 x3 x4) (k0_pay29 x0 x1 x2 x3 x4) (k0_pay30 x0 x1 x2 x3 x4) (k0_pay31 x0 x1 x2 x3 x4) 1#32 (View.ld x4 r0_5)) k0_pay20⟩,
    ⟨r0_6, k0_pay17 (k0_pay28 x0 x1 x2 x3 x4) (k0_pay27 x0 x1 x2 x3 x4) (k0_pay29 x0 x1 x2 x3 x4) (k0_pay30 x0 x1 x2 x3 x4) (k0_pay31 x0 x1 x2 x3 x4) 1#32 (View.ld x4 r0_5)⟩]

/-- Row `y 1` is row `y 1 / 4` of the piece that starts at row `y 1 % 4`. -/
theorem cover_rows (p0 p1 p2 p3 : Vec F S1x512x128 .f32) (y : S1x2048x128.Idx) :
    ∃ pc ∈ ([⟨r0_9, p0⟩, ⟨r0_8, p1⟩, ⟨r0_7, p2⟩, ⟨r0_6, p3⟩] : List (View.Piece (Elt F) S1x2048x128 .f32)), y ∈ pc.1.set := by
  have h0 : (y 0 : ℕ) < 1 := (y 0).isLt
  have h1 : (y 1 : ℕ) < 2048 := (y 1).isLt
  have h2 : (y 2 : ℕ) < 128 := (y 2).isLt
  have hg : (y 1 : ℕ) % 4 = 0 ∨ (y 1 : ℕ) % 4 = 1 ∨ (y 1 : ℕ) % 4 = 2 ∨ (y 1 : ℕ) % 4 = 3 := by omega
  rcases hg with hg | hg | hg | hg
  · refine ⟨⟨r0_6, p3⟩, by simp, LoadRect.mem_set _ |>.mpr fun a => ?_⟩
    fin_cases a
    · exact ⟨0, Nat.one_pos, by show (y 0 : ℕ) = 0 + 1 * 0; omega⟩
    · exact ⟨(y 1 : ℕ) / 4, by show (y 1 : ℕ) / 4 < 512; omega, by show (y 1 : ℕ) = 0 + 4 * ((y 1 : ℕ) / 4); omega⟩
    · exact ⟨(y 2 : ℕ), h2, by show (y 2 : ℕ) = 0 + 1 * (y 2 : ℕ); omega⟩
  · refine ⟨⟨r0_7, p2⟩, by simp, LoadRect.mem_set _ |>.mpr fun a => ?_⟩
    fin_cases a
    · exact ⟨0, Nat.one_pos, by show (y 0 : ℕ) = 0 + 1 * 0; omega⟩
    · exact ⟨(y 1 : ℕ) / 4, by show (y 1 : ℕ) / 4 < 512; omega, by show (y 1 : ℕ) = 1 + 4 * ((y 1 : ℕ) / 4); omega⟩
    · exact ⟨(y 2 : ℕ), h2, by show (y 2 : ℕ) = 0 + 1 * (y 2 : ℕ); omega⟩
  · refine ⟨⟨r0_8, p1⟩, by simp, LoadRect.mem_set _ |>.mpr fun a => ?_⟩
    fin_cases a
    · exact ⟨0, Nat.one_pos, by show (y 0 : ℕ) = 0 + 1 * 0; omega⟩
    · exact ⟨(y 1 : ℕ) / 4, by show (y 1 : ℕ) / 4 < 512; omega, by show (y 1 : ℕ) = 2 + 4 * ((y 1 : ℕ) / 4); omega⟩
    · exact ⟨(y 2 : ℕ), h2, by show (y 2 : ℕ) = 0 + 1 * (y 2 : ℕ); omega⟩
  · refine ⟨⟨r0_9, p0⟩, by simp, LoadRect.mem_set _ |>.mpr fun a => ?_⟩
    fin_cases a
    · exact ⟨0, Nat.one_pos, by show (y 0 : ℕ) = 0 + 1 * 0; omega⟩
    · exact ⟨(y 1 : ℕ) / 4, by show (y 1 : ℕ) / 4 < 512; omega, by show (y 1 : ℕ) = 3 + 4 * ((y 1 : ℕ) / 4); omega⟩
    · exact ⟨(y 2 : ℕ), h2, by show (y 2 : ℕ) = 0 + 1 * (y 2 : ℕ); omega⟩

/-- The four pieces cover the table. -/
theorem cover0_6 (p0 : Vec F S1x512x128 .f32) (p1 : Vec F S1x512x128 .f32) (p2 : Vec F S1x512x128 .f32) (p3 : Vec F S1x512x128 .f32) (y : S1x2048x128.Idx) :
    ∃ pc ∈ ([⟨r0_9, p0⟩, ⟨r0_8, p1⟩, ⟨r0_7, p2⟩, ⟨r0_6, p3⟩] : List (View.Piece (Elt F) S1x2048x128 .f32)), y ∈ pc.1.set :=
  cover_rows p0 p1 p2 p3 y

/-- The sine table that the body leaves, in four pieces. -/
def out0_7 (x0 : Vec F S16x1024 .f32) (x1 : Vec F S1x1024x1536 .f32) (x2 : Vec F S1x1x1536 .f32) (x3 : Vec F S1x512x4 .i32) (x4 : Vec F S1x128 .f32) : Vec F S1x2048x128 .f32 :=
  View.canon [⟨r0_9, k0_pay1 (k0_pay26 (k0_pay27 x0 x1 x2 x3 x4) (k0_pay33 x0 x1 x2 x3 x4))⟩,
    ⟨r0_8, k0_pay24 (k0_pay27 x0 x1 x2 x3 x4) (k0_pay33 x0 x1 x2 x3 x4) 64#32⟩,
    ⟨r0_7, k0_pay22 (k0_pay27 x0 x1 x2 x3 x4) (k0_pay33 x0 x1 x2 x3 x4)⟩,
    ⟨r0_6, k0_pay18 (k0_pay28 x0 x1 x2 x3 x4) (k0_pay27 x0 x1 x2 x3 x4) (k0_pay29 x0 x1 x2 x3 x4) (k0_pay30 x0 x1 x2 x3 x4) (k0_pay31 x0 x1 x2 x3 x4) 1#32 (View.ld x4 r0_5)⟩]

/-- The four pieces cover the table. -/
theorem cover0_7 (p0 : Vec F S1x512x128 .f32) (p1 : Vec F S1x512x128 .f32) (p2 : Vec F S1x512x128 .f32) (p3 : Vec F S1x512x128 .f32) (y : S1x2048x128.Idx) :
    ∃ pc ∈ ([⟨r0_9, p0⟩, ⟨r0_8, p1⟩, ⟨r0_7, p2⟩, ⟨r0_6, p3⟩] : List (View.Piece (Elt F) S1x2048x128 .f32)), y ∈ pc.1.set :=
  cover_rows p0 p1 p2 p3 y

set_option maxHeartbeats 1000000 in
/-- What the body does to the buffers it is given. -/
theorem sound_kernel (c : Dev nD) (E : Set ℕ) (i : grid0.Coords) (arg1 : Memref sig .tc .vmem S16x1024 .f32) (harg1 : arg1.IsWhole) (arg2 : Memref sig .tc .vmem S1x1024x1536 .f32) (harg2 : arg2.IsWhole) (arg3 : Memref sig .tc .vmem S1x1x1536 .f32) (harg3 : arg3.IsWhole) (arg4 : Memref sig .tc .vmem S1x512x4 .i32) (harg4 : arg4.IsWhole) (arg5 : Memref sig .tc .vmem S1x128 .f32) (harg5 : arg5.IsWhole) (arg6 : Memref sig .tc .vmem S1x16x1536 .f32) (harg6 : arg6.IsWhole) (arg7 : Memref sig .tc .vmem S1x2048x128 .f32) (harg7 : arg7.IsWhole) (arg8 : Memref sig .tc .vmem S1x2048x128 .f32) (harg8 : arg8.IsWhole)
    (x0 : Vec F S16x1024 .f32) (x1 : Vec F S1x1024x1536 .f32) (x2 : Vec F S1x1x1536 .f32) (x3 : Vec F S1x512x4 .i32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0_modulation_rope i arg1 harg1 arg2 harg2 arg3 harg3 arg4 harg4 arg5 harg5 arg6 harg6 arg7 harg7 arg8 harg8) K := by
  simp only [cc0_modulation_rope_eq_skeleton]; unfold cc0_modulation_rope_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _ _ _ _)).trans ?_
    rfl
  iexists _; isplitr
  swap; · iexact H7
  ipureintro
  refine (View.read_writes_eq_canon _ _ _ (cover0_7 _ _ _ _)).trans ?_
  rfl

/-- What each buffer holds after the body, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- After the body. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body called at a point. -/
theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with the arrays' contents and the counters. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, with the arrays' contents. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The run ends, keeps its arguments, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Rope.Ideal

end
-- ==== Proof.Rope.Tile.lean ====
/- What one grid point of the kernel leaves: a tile of the modulation, and one sequence's tables. -/
module

public import proofs.«01_k».proof.Proof.Rope.Spec
public import proofs.«01_k».proof.Proof.Rope.IdealRun
public import Idealize.ShloMosaic.Lib.Pipeline.Value
public import Idealize.ShloMosaic.Lib.Pipeline.ValueKit.Basic
public import Idealize.ShloMosaic.Lib.Pipeline.ValueKit.Tiles

@[expose] public section

set_option maxRecDepth 16384

noncomputable section

namespace Cert.Rope.Ideal

open Cert.Kernel6Ideal Cert.Kernel6Ideal.Gen Cert.Rope Idealize.ShloMosaic

variable (x0 : Vec Ideal S16x1024 .f32) (x1 : Vec Ideal S1x1024x1536 .f32) (x2 : Vec Ideal S1x1x1536 .f32) (x3 : Vec Ideal S1x512x4 .i32)
  (x4 : Vec Ideal S1x128 .f32)

theorem zero2 : (![0, 0] : Fin 2 → ℕ) = fun _ => 0 := by decide
theorem zero3 : (![0, 0, 0] : Fin 3 → ℕ) = fun _ => 0 := by decide

/-- A tile of the modulation. -/
theorem out5_apply (b : Fin 16) (n : Fin 1536) : out0_5 x0 x1 x2 x3 x4 (ix3 0 b n)
    = ∑ k : Fin 1024, x0 (ix2 b k) * Ideal.logistic (x0 (ix2 b k)) * x1 (ix3 0 k n) + x2 (ix3 0 0 n) := by
  unfold out0_5
  rw [View.canon_unit_zero zero3, View.ld_unit_zero zero2, View.ld_unit_zero (X := x1) zero3, View.ld_unit_zero (X := x2) zero3]
  pointwise [k0_pay2]

variable (r : Fin 512) (l : Fin 128)

/-- The group of a lane, as a division rounded down. -/
theorem group_eq (k : Fin 128) :
    Scalar.select
      (IntOp.andi
        (IntOp.cmpi .ne (IntOp.subi (BitVec.setWidth 32 (IntOp.cmpi .sgt (BitVec.ofNat 32 k.val) 0#32)) (BitVec.setWidth 32 (IntOp.cmpi .slt (BitVec.ofNat 32 k.val) 0#32)))
          (Scalar.subi (Scalar.extui (Scalar.cmpi .sgt 32#32 0#32)) (Scalar.extui (Scalar.cmpi .slt 32#32 0#32))))
        (IntOp.cmpi .ne (IntOp.remsi .vector (BitVec.ofNat 32 k.val) 32#32) 0#32))
      (IntOp.subi (IntOp.divsi .vector (BitVec.ofNat 32 k.val) 32#32) 1#32) (IntOp.divsi .vector (BitVec.ofNat 32 k.val) 32#32) = BitVec.ofNat 32 (k.val / 32) := by
  revert k
  decide +kernel

/-- The angle of a lane: its group's position, times its factor. -/
theorem angle_apply (v17 : FVec Ideal S512x4 .f32) (y : Vec Ideal S1x128 .f32) :
    k0_pay14 v17 (k0_pay11 v17 (k0_pay27 x0 x1 x2 x3 x4) (k0_pay8 v17 (k0_pay27 x0 x1 x2 x3 x4) (k0_pay4 (F := Ideal)) k0_pay5 k0_pay6 k0_pay7) 32#32 (k0_pay9 (k0_pay27 x0 x1 x2 x3 x4)) (k0_pay10 (k0_pay27 x0 x1 x2 x3 x4)))
      (k0_pay12 (k0_pay27 x0 x1 x2 x3 x4)) (k0_pay13 (k0_pay27 x0 x1 x2 x3 x4)) 1#32 y (ix2 r l)
      = v17 (ix2 r ⟨l.val / 32, by omega⟩) * y (ix2 0 l) := by
  pointwise [k0_pay14, k0_pay11, k0_pay8, k0_pay27, k0_pay4, k0_pay5, k0_pay6, k0_pay7, k0_pay9, k0_pay10, k0_pay12, k0_pay13]
  simp only [group_eq]
  have hl := l.isLt
  have hq : l.val / 32 = 0 ∨ l.val / 32 = 1 ∨ l.val / 32 = 2 ∨ l.val / 32 = 3 := by omega
  refine congrArg (· * y (ix2 0 l)) ?_
  rcases hq with hq | hq | hq | hq <;>
    refine Eq.trans ?_ (congrArg (fun k : Fin 4 => v17 (ix2 r k)) (Fin.ext hq.symm : (⟨_, by norm_num⟩ : Fin 4) = ⟨l.val / 32, by omega⟩)) <;>
    rw [hq] <;> rfl

/-- A lane chosen by the lanes below 32. -/
theorem select_low (k : Fin 128) (z : EReal) : Scalar.select (IntOp.cmpi .slt (BitVec.ofNat 32 k.val) 32#32) z 0 = if k.val < 32 then z else 0 := by
  have e : IntOp.cmpi .slt (BitVec.ofNat 32 k.val) 32#32 = if k.val < 32 then 1#1 else 0#1 := by
    revert k
    decide
  rw [e]
  split <;> rfl

/-- The lanes below 32 of a row, four times over. -/
theorem spread_low (f : Fin 128 → EReal) :
    spread (fun k => Scalar.select (IntOp.cmpi .slt (BitVec.ofNat 32 k.val) 32#32) (f k) 0) l = f ⟨l.val % 32, by omega⟩ := by
  rw [spread_eq _ (fun k hk => by rw [select_low, if_neg (by omega)]), select_low, if_pos (Nat.mod_lt _ (by norm_num))]

/-- A lane of a group. -/
abbrev laneOf (g : ℕ) (hg : g < 4) : Fin 128 := ⟨32 * g + l.val % 32, by omega⟩

/-! The tables' pieces: of each group, the lanes four times over. -/

theorem cos0 (v17 : FVec Ideal S512x4 .f32) (v109 : FVec Ideal S512x128 .f32) (v111 : IVec S512x128 32) (v130 : IVec S512x128 1) (y : Vec Ideal S1x128 .f32) : k0_pay17 v17 (k0_pay27 x0 x1 x2 x3 x4) v109 v111 v130 1#32 y (ix3 0 r l) = k0_pay15 v17 v109 v111 v130 1#32 y (ix2 r (laneOf l 0 (by norm_num))) := by
  refine Eq.trans ?_ ((spread_low l (fun k => k0_pay15 v17 v109 v111 v130 1#32 y (ix2 r k))).trans (congrArg (fun k => k0_pay15 v17 v109 v111 v130 1#32 y (ix2 r k)) (Fin.ext ?_)))
  · pointwise [k0_pay17, k0_pay27]
    rfl
  · show l.val % 32 = 32 * 0 + l.val % 32
    omega

theorem cos1 (v17 : FVec Ideal S512x4 .f32) (v109 : FVec Ideal S512x128 .f32) (v111 : IVec S512x128 32) (v130 : IVec S512x128 1) (y : Vec Ideal S1x128 .f32) : k0_pay21 (k0_pay27 x0 x1 x2 x3 x4) (k0_pay19 v17 v109 v111 v130 1#32 y) k0_pay20 (ix3 0 r l) = k0_pay15 v17 v109 v111 v130 1#32 y (ix2 r (laneOf l 1 (by norm_num))) := by
  refine Eq.trans ?_ ((spread_low l (fun k => k0_pay15 v17 v109 v111 v130 1#32 y (ix2 r (turn 96 k)))).trans (congrArg (fun k => k0_pay15 v17 v109 v111 v130 1#32 y (ix2 r k)) (Fin.ext ?_)))
  · pointwise [k0_pay21, k0_pay19, k0_pay20, k0_pay27]
    rfl
  · show (l.val % 32 + 128 - 96) % 128 = 32 * 1 + l.val % 32
    omega

theorem cos2 (v : FVec Ideal S512x128 .f32) : k0_pay23 (k0_pay27 x0 x1 x2 x3 x4) v (ix3 0 r l) = v (ix2 r (laneOf l 2 (by norm_num))) := by
  refine Eq.trans ?_ ((spread_low l (fun k => v (ix2 r (turn 64 k)))).trans (congrArg (fun k => v (ix2 r k)) (Fin.ext ?_)))
  · pointwise [k0_pay23, k0_pay27]
    rfl
  · show (l.val % 32 + 128 - 64) % 128 = 32 * 2 + l.val % 32
    omega

theorem cos3 (v : FVec Ideal S512x128 .f32) : k0_pay25 (k0_pay27 x0 x1 x2 x3 x4) v (ix3 0 r l) = v (ix2 r (laneOf l 3 (by norm_num))) := by
  refine Eq.trans ?_ ((spread_low l (fun k => v (ix2 r (turn 32 k)))).trans (congrArg (fun k => v (ix2 r k)) (Fin.ext ?_)))
  · pointwise [k0_pay25, k0_pay27]
    rfl
  · show (l.val % 32 + 128 - 32) % 128 = 32 * 3 + l.val % 32
    omega

theorem sin0 (v17 : FVec Ideal S512x4 .f32) (v109 : FVec Ideal S512x128 .f32) (v111 : IVec S512x128 32) (v130 : IVec S512x128 1) (y : Vec Ideal S1x128 .f32) : k0_pay18 v17 (k0_pay27 x0 x1 x2 x3 x4) v109 v111 v130 1#32 y (ix3 0 r l) = k0_pay16 v17 v109 v111 v130 1#32 y (ix2 r (laneOf l 0 (by norm_num))) := by
  refine Eq.trans ?_ ((spread_low l (fun k => k0_pay16 v17 v109 v111 v130 1#32 y (ix2 r k))).trans (congrArg (fun k => k0_pay16 v17 v109 v111 v130 1#32 y (ix2 r k)) (Fin.ext ?_)))
  · pointwise [k0_pay18, k0_pay27]
    rfl
  · show l.val % 32 = 32 * 0 + l.val % 32
    omega

theorem sin1 (v : FVec Ideal S512x128 .f32) : k0_pay22 (k0_pay27 x0 x1 x2 x3 x4) v (ix3 0 r l) = v (ix2 r (laneOf l 1 (by norm_num))) := by
  refine Eq.trans ?_ ((spread_low l (fun k => v (ix2 r (turn 96 k)))).trans (congrArg (fun k => v (ix2 r k)) (Fin.ext ?_)))
  · pointwise [k0_pay22, k0_pay27]
    rfl
  · show (l.val % 32 + 128 - 96) % 128 = 32 * 1 + l.val % 32
    omega

theorem sin2 (v : FVec Ideal S512x128 .f32) : k0_pay24 (k0_pay27 x0 x1 x2 x3 x4) v 64#32 (ix3 0 r l) = v (ix2 r (laneOf l 2 (by norm_num))) := by
  refine Eq.trans ?_ ((spread_low l (fun k => v (ix2 r (turn 64 k)))).trans (congrArg (fun k => v (ix2 r k)) (Fin.ext ?_)))
  · pointwise [k0_pay24, k0_pay27]
    rfl
  · show (l.val % 32 + 128 - 64) % 128 = 32 * 2 + l.val % 32
    omega

theorem sin3 (v : FVec Ideal S512x128 .f32) : k0_pay1 (k0_pay26 (k0_pay27 x0 x1 x2 x3 x4) v) (ix3 0 r l) = v (ix2 r (laneOf l 3 (by norm_num))) := by
  refine Eq.trans ?_ ((spread_low l (fun k => v (ix2 r (turn 32 k)))).trans (congrArg (fun k => v (ix2 r k)) (Fin.ext ?_)))
  · pointwise [k0_pay1, k0_pay26, k0_pay27]
    rfl
  · show (l.val % 32 + 128 - 32) % 128 = 32 * 3 + l.val % 32
    omega

end Cert.Rope.Ideal

end
-- ==== Proof.Rope.Block.lean ====
/- One grid point's results, in terms of the arguments. -/
module

public import proofs.«01_k».proof.Proof.Rope.Tile

@[expose] public section

set_option maxRecDepth 16384

noncomputable section

namespace Cert.Rope.Ideal

open Cert.Kernel6Ideal Cert.Kernel6Ideal.Gen Cert.Rope Idealize.ShloMosaic

/-- The blocks a grid point reads: tile `n` of layer `i`'s weights, and sequence `b`'s positions. -/
structure Blocks (A : Args) (b : Fin 16) (i n : Fin 4) (x0 : Vec Ideal S16x1024 .f32) (x1 : Vec Ideal S1x1024x1536 .f32)
    (x2 : Vec Ideal S1x1x1536 .f32) (x3 : Vec Ideal S1x512x4 .i32) (x4 : Vec Ideal S1x128 .f32) : Prop where
  h0 : ∀ s k, x0 (ix2 s k) = A.c (ix2 s k)
  h1 : ∀ k (d : Fin 1536), x1 (ix3 0 k d) = A.w (ix3 i k ⟨1536 * n + d, by omega⟩)
  h2 : ∀ d : Fin 1536, x2 (ix3 0 0 d) = A.b (ix2 i ⟨1536 * n + d, by omega⟩)
  h3 : ∀ (r : Fin 512) (g : Fin 4), x3 (ix3 0 r g) = A.pos (ix2 b ⟨4 * r + g, by omega⟩)
  h4 : ∀ l, x4 (ix2 0 l) = freq (lane l)

variable {A : Args} {b : Fin 16} {i n : Fin 4} {x0 : Vec Ideal S16x1024 .f32} {x1 : Vec Ideal S1x1024x1536 .f32} {x2 : Vec Ideal S1x1x1536 .f32}
  {x3 : Vec Ideal S1x512x4 .i32} {x4 : Vec Ideal S1x128 .f32} (H : Blocks A b i n x0 x1 x2 x3 x4)

include H

/-- The tile of the modulation. -/
theorem out5_eq (s : Fin 16) (d : Fin 1536) : out0_5 x0 x1 x2 x3 x4 (ix3 0 s d) = modulation A (ix3 i s ⟨1536 * n + d, by omega⟩) := by
  rw [out5_apply]
  simp only [H.h0, H.h1, H.h2]
  rfl

/-- The angles, four positions in a row. -/
theorem angle_eq (r : Fin 512) (l : Fin 128) (g : ℕ) (hg : g < 4) :
    k0_pay14 (k0_pay28 x0 x1 x2 x3 x4) (k0_pay29 x0 x1 x2 x3 x4) (k0_pay30 x0 x1 x2 x3 x4) (k0_pay31 x0 x1 x2 x3 x4) 1#32 (View.ld x4 r0_5)
      (ix2 r (laneOf l g hg)) = angle A b ⟨4 * r + g, by omega⟩ (lane l) := by
  have e28 : ∀ k : Fin 4, k0_pay28 x0 x1 x2 x3 x4 (ix2 r k) = FloatOps.sitofp (F := Ideal) .f32 (A.pos (ix2 b ⟨4 * r + k, by omega⟩)) := fun k => by
    rw [← H.h3]
    unfold k0_pay28
    rw [View.ld_unit_zero zero3]
    pointwise [k0_pay3]
  have e4 : View.ld x4 r0_5 (ix2 0 (laneOf l g hg)) = freq (lane l) := by
    rw [View.ld_unit_zero zero2, H.h4]
    exact congrArg freq (Fin.ext (by show (32 * g + l.val % 32) % 32 = l.val % 32; omega))
  unfold k0_pay29 k0_pay30 k0_pay31
  refine (angle_apply x0 x1 x2 x3 x4 r (laneOf l g hg) (k0_pay28 x0 x1 x2 x3 x4) (View.ld x4 r0_5)).trans ?_
  rw [e28, e4]
  unfold angle
  refine congrArg (fun k : Fin 2048 => FloatOps.sitofp (F := Ideal) .f32 (A.pos (ix2 b k)) * freq (lane l)) (Fin.ext ?_)
  show 4 * r.val + (32 * g + l.val % 32) / 32 = 4 * r.val + g
  omega

theorem cos_eq (r : Fin 512) (l : Fin 128) (g : ℕ) (hg : g < 4) :
    k0_pay15 (k0_pay28 x0 x1 x2 x3 x4) (k0_pay29 x0 x1 x2 x3 x4) (k0_pay30 x0 x1 x2 x3 x4) (k0_pay31 x0 x1 x2 x3 x4) 1#32 (View.ld x4 r0_5)
      (ix2 r (laneOf l g hg)) = Ideal.cos (angle A b ⟨4 * r + g, by omega⟩ (lane l)) :=
  congrArg Ideal.cos (angle_eq H r l g hg)

theorem sin_eq (r : Fin 512) (l : Fin 128) (g : ℕ) (hg : g < 4) :
    k0_pay16 (k0_pay28 x0 x1 x2 x3 x4) (k0_pay29 x0 x1 x2 x3 x4) (k0_pay30 x0 x1 x2 x3 x4) (k0_pay31 x0 x1 x2 x3 x4) 1#32 (View.ld x4 r0_5)
      (ix2 r (laneOf l g hg)) = Ideal.sin (angle A b ⟨4 * r + g, by omega⟩ (lane l)) :=
  congrArg Ideal.sin (angle_eq H r l g hg)

omit H in
/-- A row of a piece, among the table's rows. -/
theorem row_congr (f : EReal → EReal) {s s' : Fin 2048} {l l' : Fin 128} (hs : s.val = s'.val) (hl : l.val = l'.val) :
    f (angle A b s (lane l)) = f (angle A b s' (lane l')) := by rw [Fin.ext hs, Fin.ext hl]

omit H in
theorem eta (x : S1x512x128.Idx) : x = ix3 0 (x 1) (x 2) := funext fun k => Fin.ext (by
  have h0 : (x 0).val < 1 := (x 0).isLt
  fin_cases k
  · show (x 0).val = 0
    omega
  · rfl
  · rfl)

/-- The cosines of a sequence. -/
theorem out6_eq (y : S1x2048x128.Idx) : out0_6 x0 x1 x2 x3 x4 y = Ideal.cos (angle A b (y 1) (lane (y 2))) := by
  unfold out0_6
  refine View.canon_apply_of_pieces (Val := Elt Ideal) (e := .f32) (fun y : S1x2048x128.Idx => Ideal.cos (angle A b (y 1) (lane (y 2)))) _ (fun p hp x => ?_) y (cover0_6 _ _ _ _ y)
  simp only [List.mem_cons, List.not_mem_nil, or_false] at hp
  rcases hp with rfl | rfl | rfl | rfl
  · refine (congrArg _ (eta x)).trans ((cos3 x0 x1 x2 x3 x4 (x 1) (x 2) _).trans ((cos_eq H (x 1) (x 2) 3 _).trans (row_congr Ideal.cos ?_ ?_)))
    · show 4 * (x 1).val + 3 = 3 + 4 * (x 1).val
      omega
    · show (x 2).val = 0 + 1 * (x 2).val
      omega
  · refine (congrArg _ (eta x)).trans ((cos2 x0 x1 x2 x3 x4 (x 1) (x 2) _).trans ((cos_eq H (x 1) (x 2) 2 _).trans (row_congr Ideal.cos ?_ ?_)))
    · show 4 * (x 1).val + 2 = 2 + 4 * (x 1).val
      omega
    · show (x 2).val = 0 + 1 * (x 2).val
      omega
  · refine (congrArg _ (eta x)).trans ((cos1 x0 x1 x2 x3 x4 (x 1) (x 2) _ _ _ _ _).trans ((cos_eq H (x 1) (x 2) 1 _).trans (row_congr Ideal.cos ?_ ?_)))
    · show 4 * (x 1).val + 1 = 1 + 4 * (x 1).val
      omega
    · show (x 2).val = 0 + 1 * (x 2).val
      omega
  · refine (congrArg _ (eta x)).trans ((cos0 x0 x1 x2 x3 x4 (x 1) (x 2) _ _ _ _ _).trans ((cos_eq H (x 1) (x 2) 0 _).trans (row_congr Ideal.cos ?_ ?_)))
    · show 4 * (x 1).val + 0 = 0 + 4 * (x 1).val
      omega
    · show (x 2).val = 0 + 1 * (x 2).val
      omega

/-- The sines of a sequence. -/
theorem out7_eq (y : S1x2048x128.Idx) : out0_7 x0 x1 x2 x3 x4 y = Ideal.sin (angle A b (y 1) (lane (y 2))) := by
  unfold out0_7
  refine View.canon_apply_of_pieces (Val := Elt Ideal) (e := .f32) (fun y : S1x2048x128.Idx => Ideal.sin (angle A b (y 1) (lane (y 2)))) _ (fun p hp x => ?_) y (cover0_7 _ _ _ _ y)
  simp only [List.mem_cons, List.not_mem_nil, or_false] at hp
  rcases hp with rfl | rfl | rfl | rfl
  · refine (congrArg _ (eta x)).trans ((sin3 x0 x1 x2 x3 x4 (x 1) (x 2) _).trans ((sin_eq H (x 1) (x 2) 3 _).trans (row_congr Ideal.sin ?_ ?_)))
    · show 4 * (x 1).val + 3 = 3 + 4 * (x 1).val
      omega
    · show (x 2).val = 0 + 1 * (x 2).val
      omega
  · refine (congrArg _ (eta x)).trans ((sin2 x0 x1 x2 x3 x4 (x 1) (x 2) _).trans ((sin_eq H (x 1) (x 2) 2 _).trans (row_congr Ideal.sin ?_ ?_)))
    · show 4 * (x 1).val + 2 = 2 + 4 * (x 1).val
      omega
    · show (x 2).val = 0 + 1 * (x 2).val
      omega
  · refine (congrArg _ (eta x)).trans ((sin1 x0 x1 x2 x3 x4 (x 1) (x 2) _).trans ((sin_eq H (x 1) (x 2) 1 _).trans (row_congr Ideal.sin ?_ ?_)))
    · show 4 * (x 1).val + 1 = 1 + 4 * (x 1).val
      omega
    · show (x 2).val = 0 + 1 * (x 2).val
      omega
  · refine (congrArg _ (eta x)).trans ((sin0 x0 x1 x2 x3 x4 (x 1) (x 2) _ _ _ _ _).trans ((sin_eq H (x 1) (x 2) 0 _).trans (row_congr Ideal.sin ?_ ?_)))
    · show 4 * (x 1).val + 0 = 0 + 4 * (x 1).val
      omega
    · show (x 2).val = 0 + 1 * (x 2).val
      omega

end Cert.Rope.Ideal

end
-- ==== Proof.Rope.Array.lean ====
/- The kernel's three result arrays: each of the 16 grid points leaves one tile of a layer's modulation, and the tables of
   one sequence. -/
module

public import proofs.«01_k».proof.Proof.Rope.Block
public import Idealize.ShloMosaic.Lib.Pipeline.ValueKit.Geometry

@[expose] public section

set_option maxRecDepth 16384

noncomputable section

namespace Cert.Rope.Ideal

open Cert.Kernel6Ideal Cert.Kernel6Ideal.Gen Cert.Rope Idealize.ShloMosaic Idealize.ShloMosaic.TcCoe Idealize.SL.Sem

variable (m : (ℓ : Loc nD τ sig) → Buf (Elt Ideal) ℓ) (c : Dev nD)

/-- The arguments a device launches with. -/
def argsOf : Args where
  c := m ((c : Thread nD τ).loc main_arg0)
  w := m ((c : Thread nD τ).loc main_arg1)
  b := m ((c : Thread nD τ).loc main_arg2)
  pos := m ((c : Thread nD τ).loc main_arg3)

/-! ## What the host hands over -/

/-- The biases, and the positions four in a row. -/
def biasHost (b : Vec Ideal S4x6144 .f32) : Vec Ideal S4x1x6144 .f32 := shapeCast S4x1x6144 b shapeCasts_S4x6144_S4x1x6144
def posHost (p : Vec Ideal S16x2048 .i32) : Vec Ideal S16x512x4 .i32 := shapeCast S16x512x4 p shapeCasts_S16x2048_S16x512x4

/-- The 32 factors, and the same four times over. -/
def freqHost : Vec Ideal S32 .f32 :=
  Host.divf (broadcastInDim S32 ![] bcast_S_S32 (constant (F := Ideal) S_ .f32 0x3F800000#32))
    (Host.powf (broadcastInDim S32 ![] bcast_S_S32 (constant (F := Ideal) S_ .f32 0x461C4000#32))
      (Host.divf (addf (broadcastInDim S32 ![] bcast_S_S32 (constant (F := Ideal) S_ .f32 0x00000000#32))
          (mulf (broadcastInDim S32 ![] bcast_S_S32 (constant (F := Ideal) S_ .f32 0x40000000#32)) (sitofp .f32 (iotaInDim S32 32 0))))
        (broadcastInDim S32 ![] bcast_S_S32 (constant (F := Ideal) S_ .f32 0x42800000#32))))
def freqsHost : Vec Ideal S1x128 .f32 :=
  shapeCast S1x128 (shapeCast S128 (broadcastInDim S4x32 ![0, 1] bcast_S1x32_S4x32_0_1 (shapeCast S1x32 freqHost shapeCasts_S32_S1x32))
    shapeCasts_S4x32_S128) shapeCasts_S128_S1x128

theorem V_bias : V m c main_v16 = biasHost (argsOf m c).b := by
  simp only [V, hostOps0]
  after_results_simp <;> rfl

theorem V_pos : V m c main_v15 = posHost (argsOf m c).pos := by
  simp only [V, hostOps0]
  after_results_simp <;> rfl

theorem V_freqs : V m c main_v14 = freqsHost := by
  simp only [V, hostOps0]
  after_results_simp <;> rfl

theorem biasHost_apply (b : Vec Ideal S4x6144 .f32) (i : Fin 4) (n : Fin 6144) : biasHost b (ix3 i 0 n) = b (ix2 i n) := by
  pointwise [biasHost]

theorem posHost_apply (p : Vec Ideal S16x2048 .i32) (b : Fin 16) (r : Fin 512) (g : Fin 4) : posHost p (ix3 b r g) = p (ix2 b ⟨4 * r + g, by omega⟩) := by
  pointwise [posHost]
  simp only [Nat.mul_comm]

theorem freqHost_apply (j : Fin 32) : freqHost (ix1 j) = freq j := by
  pointwise [freqHost]
  rfl

theorem freqsHost_apply (l : Fin 128) : freqsHost (ix2 0 l) = freq (lane l) := by
  rw [← freqHost_apply]
  unfold freqsHost
  generalize freqHost = f
  pointwise

/-! ## The blocks of a grid point -/

theorem idx0 : ∀ t : Fin cfg0.N, win0_0.index t = ![0, 0] := (by decide +kernel : ∀ t : Fin grid0.N, _)
theorem idx1 : ∀ t : Fin cfg0.N, win0_1.index t = ![t.val / 4, 0, t.val % 4] := (by decide +kernel : ∀ t : Fin grid0.N, _)
theorem idx2 : ∀ t : Fin cfg0.N, win0_2.index t = ![t.val / 4, 0, t.val % 4] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4, 0, t.val % 4] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0, 0] := (by decide +kernel : ∀ t : Fin grid0.N, _)

/-- A grid point's sequence, layer and tile. -/
abbrev seqOf (t : Fin cfg0.N) : Fin 16 := ⟨t.val, t.isLt⟩
abbrev layerOf (t : Fin cfg0.N) : Fin 4 := ⟨t.val / 4, by have : t.val < 16 := t.isLt; omega⟩
abbrev tileOf (t : Fin cfg0.N) : Fin 4 := ⟨t.val % 4, Nat.mod_lt _ (by norm_num)⟩

set_option maxHeartbeats 2000000 in
/-- The blocks it reads. -/
theorem blocks (t : Fin cfg0.N) : Blocks (argsOf m c) (seqOf t) (layerOf t) (tileOf t) (iblk m c 0 t) (iblk m c 1 t) (iblk m c 2 t) (iblk m c 3 t)
    (iblk m c 4 t) where
  h0 s k := by
    blk_simp [iblk]
    rw [V_main_arg0]
    refine congrArg (m ((c : Thread nD τ).loc main_arg0)) ?_
    blk_ext [idx0]
  h1 k d := by
    blk_simp [iblk]
    rw [V_main_arg1]
    refine congrArg (m ((c : Thread nD τ).loc main_arg1)) ?_
    blk_ext [idx1]
  h2 d := by
    blk_simp [iblk]
    rw [V_bias, ← biasHost_apply (argsOf m c).b]
    refine congrArg (biasHost (argsOf m c).b) ?_
    blk_ext [idx2]
  h3 r g := by
    blk_simp [iblk]
    rw [V_pos, ← posHost_apply (argsOf m c).pos]
    refine congrArg (posHost (argsOf m c).pos) ?_
    blk_ext [idx3]
  h4 l := by
    blk_simp [iblk]
    rw [V_freqs, ← freqsHost_apply]
    refine congrArg freqsHost ?_
    blk_ext [idx4]

/-! ## The arrays -/

theorem modulation_congr (A : Args) {i i' : Fin 4} {b b' : Fin 16} {n n' : Fin 6144} (hi : i.val = i'.val) (hb : b.val = b'.val) (hn : n.val = n'.val) :
    modulation A (ix3 i b n) = modulation A (ix3 i' b' n') := by rw [Fin.ext hi, Fin.ext hb, Fin.ext hn]

theorem table_congr (f : EReal → EReal) (A : Args) {b b' : Fin 16} {s s' : Fin 2048} {l l' : Fin 128} (hb : b.val = b'.val) (hs : s.val = s'.val)
    (hl : l.val = l'.val) : f (angle A b s (lane l)) = f (angle A b' s' (lane l')) := by rw [Fin.ext hb, Fin.ext hs, Fin.ext hl]

theorem arr5_eq : (dats m 0 c).arrAt 5 cfg0.N = modulation (argsOf m c) := by
  refine (dats m 0 c).arrAt_eq_of_covers 5 _ (by decide +kernel) fun t _ y => ?_
  blk_simp
  rw [after0_5]
  have e0 : ((win0_5.blk t).view.emb y 0).val = t.val / 4 + (y 0).val := by blk_simp [idx5]
  have e1 : ((win0_5.blk t).view.emb y 1).val = (y 1).val := by blk_simp [idx5]
  have e2 : ((win0_5.blk t).view.emb y 2).val = t.val % 4 * 1536 + (y 2).val := by blk_simp [idx5]
  have hy0 := (y 0).isLt
  change _ < 1 at hy0
  have ey : (y : S1x16x1536.Idx) = ix3 0 (y 1) (y 2) := funext fun k => Fin.ext (by
    fin_cases k
    · show (y 0).val = 0
      omega
    · rfl
    · rfl)
  have ea : ((win0_5.blk t).view.emb y : S4x16x6144.Idx) = ix3 ((win0_5.blk t).view.emb y 0) ((win0_5.blk t).view.emb y 1) ((win0_5.blk t).view.emb y 2) :=
    funext fun k => by fin_cases k <;> rfl
  refine (congrArg (out0_5 (iblk m c 0 t) (iblk m c 1 t) (iblk m c 2 t) (iblk m c 3 t) (iblk m c 4 t)) ey).trans
    ((out5_eq (blocks m c t) (y 1) (y 2)).trans ((modulation_congr _ ?_ ?_ ?_).trans (congrArg (modulation (argsOf m c)) ea).symm))
  · show t.val / 4 = ((win0_5.blk t).view.emb y 0).val
    omega
  · show (y 1).val = ((win0_5.blk t).view.emb y 1).val
    omega
  · show 1536 * (t.val % 4) + (y 2).val = ((win0_5.blk t).view.emb y 2).val
    omega

theorem arr6_eq : (dats m 0 c).arrAt 6 cfg0.N = cosTable (argsOf m c) := by
  refine (dats m 0 c).arrAt_eq_of_covers 6 _ (by decide +kernel) fun t _ y => ?_
  blk_simp
  rw [after0_6]
  have e0 : ((win0_6.blk t).view.emb y 0).val = t.val + (y 0).val := by blk_simp [idx6]
  have e1 : ((win0_6.blk t).view.emb y 1).val = (y 1).val := by blk_simp [idx6]
  have e2 : ((win0_6.blk t).view.emb y 2).val = (y 2).val := by blk_simp [idx6]
  have hy0 := (y 0).isLt
  change _ < 1 at hy0
  refine (out6_eq (blocks m c t) y).trans (table_congr Ideal.cos _ ?_ ?_ ?_)
  · show t.val = ((win0_6.blk t).view.emb y 0).val
    omega
  · exact e1.symm
  · exact e2.symm

theorem arr7_eq : (dats m 0 c).arrAt 7 cfg0.N = sinTable (argsOf m c) := by
  refine (dats m 0 c).arrAt_eq_of_covers 7 _ (by decide +kernel) fun t _ y => ?_
  blk_simp
  rw [after0_7]
  have e0 : ((win0_7.blk t).view.emb y 0).val = t.val + (y 0).val := by blk_simp [idx7]
  have e1 : ((win0_7.blk t).view.emb y 1).val = (y 1).val := by blk_simp [idx7]
  have e2 : ((win0_7.blk t).view.emb y 2).val = (y 2).val := by blk_simp [idx7]
  have hy0 := (y 0).isLt
  change _ < 1 at hy0
  refine (out7_eq (blocks m c t) y).trans (table_congr Ideal.sin _ ?_ ?_ ?_)
  · show t.val = ((win0_7.blk t).view.emb y 0).val
    omega
  · exact e1.symm
  · exact e2.symm

/-! ## The run -/

/-- The run leaves these arrays and keeps the arguments. -/
theorem run_arrays (ρ : Dev nD → PrngReg) : θ_run defs (onTc (τ := τ) (main (F := Ideal))) ⟨m, fun _ => 0, ρ⟩ fun r => ∀ c : Dev nD,
      r.2.mem ((c.tc : Thread nD τ).loc main_v17_0) = modulation (argsOf m c)
      ∧ r.2.mem ((c.tc : Thread nD τ).loc main_v17_1) = cosTable (argsOf m c)
      ∧ r.2.mem ((c.tc : Thread nD τ).loc main_v17_2) = sinTable (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 5).trans (arr5_eq m c), ((h.1 c).1 6).trans (arr6_eq m c), ((h.1 c).1 7).trans (arr7_eq m c), h.2 c⟩)
    (θ_run_and (run_main m ρ) (unchanged m ρ))

end Cert.Rope.Ideal

end
-- ==== Proof.Rope.Reference.lean ====
/- The reference's modulation and tables, read at one index. -/
module

public import proofs.«01_k».proof.Proof.Rope.Spec
public import proofs.«01_k».proof.Proof.Gen.Reference6Ideal.Read

@[expose] public section

set_option maxRecDepth 16384

noncomputable section

namespace Cert.Reference6Ideal.Rope

open Cert.Reference6Ideal Cert.Reference6Ideal.Gen Cert.Reference6Ideal.Read Cert.Rope Idealize.ShloMosaic

variable (A : Args) (b : Fin 16) (n : Fin 6144) (s : Fin 2048)

/-- The activated condition. -/
theorem v19_apply (k : Fin 1024) : val_main_v19 (F := Ideal) A.c (ix2 b k) = A.c (ix2 b k) * Ideal.logistic (A.c (ix2 b k)) := by
  pointwise [val_main_v19, val_main_call0_v5, val_main_call0_v4, val_main_call0_cst_0, val_main_call0_v3, val_main_call0_v2, val_main_call0_cst,
    val_main_call0_v1, val_main_call0_v0]
  rfl

/-! ## The layers -/

theorem v27_apply : val_main_v27 (F := Ideal) A.c A.w A.b (ix2 b n) = modulation A (ix3 0 b n) := by
  pointwise [val_main_v27, val_main_v26, val_main_v25, val_main_v24, val_main_v23, val_main_v22, val_main_v21, val_main_v20, v19_apply]
  rfl

theorem v35_apply : val_main_v35 (F := Ideal) A.c A.w A.b (ix2 b n) = modulation A (ix3 1 b n) := by
  pointwise [val_main_v35, val_main_v34, val_main_v33, val_main_v32, val_main_v31, val_main_v30, val_main_v29, val_main_v28, v19_apply]
  rfl

theorem v43_apply : val_main_v43 (F := Ideal) A.c A.w A.b (ix2 b n) = modulation A (ix3 2 b n) := by
  pointwise [val_main_v43, val_main_v42, val_main_v41, val_main_v40, val_main_v39, val_main_v38, val_main_v37, val_main_v36, v19_apply]
  rfl

theorem v51_apply : val_main_v51 (F := Ideal) A.c A.w A.b (ix2 b n) = modulation A (ix3 3 b n) := by
  pointwise [val_main_v51, val_main_v50, val_main_v49, val_main_v48, val_main_v47, val_main_v46, val_main_v45, val_main_v44, v19_apply]
  rfl

/-- The layers side by side. -/
theorem v56_apply (l : Fin 4) : val_main_v56 (F := Ideal) A.c A.w A.b (ix3 l b n) = modulation A (ix3 l b n) := by
  unfold val_main_v56
  fin_cases l
  · refine (concatenate_apply_piece (t := S4x16x6144) 0 _ _ _ 0 (by norm_num) S1x16x6144 (val_main_v52 (F := Ideal) A.c A.w A.b) rfl rfl 0 rfl (ix3 0 b n)
      (fun k hk => by fin_cases k <;> first | rfl | exact absurd rfl hk) rfl).trans ?_
    pointwise [val_main_v52, v27_apply]
  · refine (concatenate_apply_piece (t := S4x16x6144) 0 _ _ _ 1 (by norm_num) S1x16x6144 (val_main_v53 (F := Ideal) A.c A.w A.b) rfl rfl 1 rfl (ix3 0 b n)
      (fun k hk => by fin_cases k <;> first | rfl | exact absurd rfl hk) rfl).trans ?_
    pointwise [val_main_v53, v35_apply]
  · refine (concatenate_apply_piece (t := S4x16x6144) 0 _ _ _ 2 (by norm_num) S1x16x6144 (val_main_v54 (F := Ideal) A.c A.w A.b) rfl rfl 2 rfl (ix3 0 b n)
      (fun k hk => by fin_cases k <;> first | rfl | exact absurd rfl hk) rfl).trans ?_
    pointwise [val_main_v54, v43_apply]
  · refine (concatenate_apply_piece (t := S4x16x6144) 0 _ _ _ 3 (by norm_num) S1x16x6144 (val_main_v55 (F := Ideal) A.c A.w A.b) rfl rfl 3 rfl (ix3 0 b n)
      (fun k hk => by fin_cases k <;> first | rfl | exact absurd rfl hk) rfl).trans ?_
    pointwise [val_main_v55, v51_apply]

/-! ## The tables -/

/-- The angle. -/
theorem v16_apply (j : Fin 32) : val_main_v16 (F := Ideal) A.pos (ix3 b s j) = angle A b s j := by
  pointwise [val_main_v16, val_main_v15, val_main_v14, val_main_v13, val_main_v12, val_main_v11, val_main_v10, val_main_v9, val_main_cst_3, val_main_v8,
    val_main_v7, val_main_cst_2, val_main_v6, val_main_v5, val_main_cst_1, val_main_v4, val_main_v3, val_main_cst_0, val_main_v2, val_main_v1,
    val_main_cst, val_main_v0]
  rfl

theorem v57_apply (l : Fin 128) : val_main_v57 (F := Ideal) A.pos (ix3 b s l) = cosTable A (ix3 b s l) := by
  unfold val_main_v57
  refine (concatenate_replicate_apply (t := S16x2048x128) (s₁ := S16x2048x32) 2 4 (val_main_v17 (F := Ideal) A.pos) _ rfl (ix3 b s l) (ix3 b s (lane l)) rfl
    (fun k hk => by fin_cases k <;> first | rfl | exact absurd rfl hk)).trans ?_
  rw [val_main_v17_apply, v16_apply]
  rfl

theorem v58_apply (l : Fin 128) : val_main_v58 (F := Ideal) A.pos (ix3 b s l) = sinTable A (ix3 b s l) := by
  unfold val_main_v58
  refine (concatenate_replicate_apply (t := S16x2048x128) (s₁ := S16x2048x32) 2 4 (val_main_v18 (F := Ideal) A.pos) _ rfl (ix3 b s l) (ix3 b s (lane l)) rfl
    (fun k hk => by fin_cases k <;> first | rfl | exact absurd rfl hk)).trans ?_
  rw [val_main_v18_apply, v16_apply]
  rfl

end Cert.Reference6Ideal.Rope

end
-- ==== Proof.Rope.Claims.lean ====
/- The claims about the modulation and the rotary tables: the frames, and the equality of the kernel's results with the
   reference's. -/
module

public import proofs.«01_k».proof.Defs
public import proofs.«01_k».proof.Proof.Rope.BitsRun
public import proofs.«01_k».proof.Proof.Rope.Array
public import proofs.«01_k».proof.Proof.Rope.Reference
public import proofs.«01_k».proof.Proof.Gen.Kernel6
public import Idealize.ShloMosaic.Adequacy
public import Idealize.ShloMosaic.Init

@[expose] public section

set_option maxRecDepth 16384

noncomputable section

namespace Cert.Rope

open Idealize.ShloMosaic Idealize.ShloMosaic.TcCoe Idealize.SL.Sem

/-- The kernel runs and keeps its arguments. -/
theorem frame_kernel : quiescent_Kernel6 := fun m ρ _ => Cert.Rope.Bits.frame m ρ

/-- So does the kernel at extended reals. -/
theorem frame_ideal : quiescent_Kernel6Ideal := fun m ρ _ => Cert.Rope.Ideal.frame m ρ

/-- So does the reference, which has no semaphores. -/
theorem frame_reference : quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

/-- The reference's result arrays. -/
theorem reference_mod (A : Args) : Cert.Reference6Ideal.Read.val_main_v56 (F := Ideal) A.c A.w A.b = modulation A := funext fun i => by
  have e : i = ix3 (i 0) (i 1) (i 2) := funext fun k => by fin_cases k <;> rfl
  rw [e]
  exact Cert.Reference6Ideal.Rope.v56_apply A _ _ _

theorem reference_cos (A : Args) : Cert.Reference6Ideal.Read.val_main_v57 (F := Ideal) A.pos = cosTable A := funext fun i => by
  have e : i = ix3 (i 0) (i 1) (i 2) := funext fun k => by fin_cases k <;> rfl
  rw [e]
  exact Cert.Reference6Ideal.Rope.v57_apply A _ _ _

theorem reference_sin (A : Args) : Cert.Reference6Ideal.Read.val_main_v58 (F := Ideal) A.pos = sinTable A := funext fun i => by
  have e : i = ix3 (i 0) (i 1) (i 2) := funext fun k => by fin_cases k <;> rfl
  rw [e]
  exact Cert.Reference6Ideal.Rope.v58_apply A _ _ _

/-- Kernel and reference compute the same arrays. -/
theorem equal : algebraic_Kernel6Ideal_Reference6Ideal := by
  intro m ρ m' ρ' hm hagree
  refine ⟨fun c => modulation (Ideal.argsOf m c), fun c => cosTable (Ideal.argsOf m c), fun c => sinTable (Ideal.argsOf m c), ?_, ?_⟩
  · exact Ideal.run_arrays m ρ
  · refine (θ_run Cert.Reference6Ideal.defs _ _).mono (fun r h c => ?_) (Cert.Reference6Ideal.Value.run m' ρ')
    obtain ⟨e0, e1, e2, e3⟩ := hagree c
    refine ⟨(h c).1.trans ?_, (h c).2.1.trans ?_, (h c).2.2.1.trans ?_, (h c).2.2.2⟩
    · rw [Cert.Reference6Ideal.Read.val_main_v56_eq, e0, e1, e2]
      exact reference_mod (Ideal.argsOf m c)
    · rw [Cert.Reference6Ideal.Read.val_main_v57_eq, e3]
      exact reference_cos (Ideal.argsOf m c)
    · rw [Cert.Reference6Ideal.Read.val_main_v58_eq, e3]
      exact reference_sin (Ideal.argsOf m c)

end Cert.Rope

end
-- ==== Proof.lean ====
/- The certificate: the programs' side conditions and the claims, each proved in its own module. -/
module

public import proofs.«01_k».proof.Defs
public import proofs.«01_k».proof.Proof.Attn.Claims
public import proofs.«01_k».proof.Proof.Ffn.Claims
public import proofs.«01_k».proof.Proof.MlPre.Claims
public import proofs.«01_k».proof.Proof.MlaPre.Claims
public import proofs.«01_k».proof.Proof.Scan.Claims
public import proofs.«01_k».proof.Proof.Rope.Claims
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6.Frame
public import proofs.«01_k».proof.Proof.Gen.Kernel6.Skeleton
public import proofs.«01_k».proof.Proof.Gen.Kernel6Ideal
public import proofs.«01_k».proof.Proof.Gen.Kernel6Ideal.Frame
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts,
    Cert.Kernel6.Gen.facts, Cert.Kernel6Ideal.Gen.facts, Cert.Reference6Ideal.Gen.facts, Cert.Pre_finite.Gen.facts,
    Cert.Attn.frame_kernel, Cert.Attn.frame_ideal, fun m ρ _ => Cert.Attn.frame_ideal m ρ trivial, Cert.Attn.frame_reference,
    fun m ρ _ => Cert.Attn.frame_reference m ρ trivial, Cert.Ffn.frame_kernel, Cert.Ffn.frame_ideal, Cert.Ffn.frame_reference,
    Cert.MlPre.frame_kernel, Cert.MlPre.frame_ideal, Cert.MlPre.frame_reference,
    Cert.MlaPre.frame_kernel, Cert.MlaPre.frame_ideal, Cert.MlaPre.frame_reference,
    Cert.Scan.frame_kernel, Cert.Scan.frame_ideal, Cert.Rope.frame_kernel, Cert.Rope.frame_ideal, Cert.Rope.frame_reference,
    trivial, Cert.Attn.equal, trivial, Cert.Ffn.equal, trivial, Cert.MlPre.equal, trivial, Cert.MlaPre.equal, trivial, trivial, Cert.Rope.equal⟩

end Cert.Proof

end
